-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_queries_and_keys [hPre_finite_queries_and_keys : Cert.Pre_finite_queries_and_keys.Facts] (m : (ℓ : Loc Cert.KernelIdeal.nD Cert.KernelIdeal.τ Cert.KernelIdeal.sig) → Buf (Elt Ideal) ℓ) : Prop :=
  ∀ c : Dev Cert.KernelIdeal.nD,
    (Cert.Pre_finite_queries_and_keys.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_queries_and_keys [hPre_finite_queries_and_keys : Cert.Pre_finite_queries_and_keys.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_queries_and_keys.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_gain_and_weights [hPre_finite_gain_and_weights : Cert.Pre_finite_gain_and_weights.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_gain_and_weights.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_gain_and_weights [hPre_finite_gain_and_weights : Cert.Pre_finite_gain_and_weights.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_gain_and_weights.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_queries_and_keys [hKernelIdeal : Cert.KernelIdeal.Facts] [hPre_finite_queries_and_keys : Cert.Pre_finite_queries_and_keys.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_queries_and_keys m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_queries_and_keys [hReferenceIdeal : Cert.ReferenceIdeal.Facts] [hPre_finite_queries_and_keys : Cert.Pre_finite_queries_and_keys.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_queries_and_keys m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Kernel3Ideal_pre_finite_gain_and_weights [hKernel3Ideal : Cert.Kernel3Ideal.Facts] [hPre_finite_gain_and_weights : Cert.Pre_finite_gain_and_weights.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_gain_and_weights m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Reference3Ideal_pre_finite_gain_and_weights [hReference3Ideal : Cert.Reference3Ideal.Facts] [hPre_finite_gain_and_weights : Cert.Pre_finite_gain_and_weights.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_gain_and_weights m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def preserves_Kernel_KernelIdeal : Prop :=
  True

def algebraic_KernelIdeal_ReferenceIdeal_pre_finite_queries_and_keys [hKernelIdeal : Cert.KernelIdeal.Facts] [hReferenceIdeal : Cert.ReferenceIdeal.Facts] [hPre_finite_queries_and_keys : Cert.Pre_finite_queries_and_keys.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_queries_and_keys m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v16) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal_pre_finite_gain_and_weights [hKernel3Ideal : Cert.Kernel3Ideal.Facts] [hReference3Ideal : Cert.Reference3Ideal.Facts] [hPre_finite_gain_and_weights : Cert.Pre_finite_gain_and_weights.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_gain_and_weights m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v67_0)) (v1 : (c : Dev Cert.Kernel3Ideal.nD) → Buf (Elt Ideal) ((c.tc : Thread Cert.Kernel3Ideal.nD Cert.Kernel3Ideal.τ).loc Cert.Kernel3Ideal.main_v67_1)) (v2 : (c : Dev Cert.Kernel3Ideal.nD) → Buf (Elt Ideal) ((c.tc : Thread Cert.Kernel3Ideal.nD Cert.Kernel3Ideal.τ).loc Cert.Kernel3Ideal.main_v67_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v67_0) = v0 c
          ∧ r.2.mem ((c.tc : Thread Cert.Kernel3Ideal.nD Cert.Kernel3Ideal.τ).loc Cert.Kernel3Ideal.main_v67_1) = v1 c
          ∧ r.2.mem ((c.tc : Thread Cert.Kernel3Ideal.nD Cert.Kernel3Ideal.τ).loc Cert.Kernel3Ideal.main_v67_3) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v144) = v0 c
          ∧ r.2.mem ((c.tc : Thread Cert.Reference3Ideal.nD Cert.Reference3Ideal.τ).loc Cert.Reference3Ideal.main_v146) = v1 c
          ∧ r.2.mem ((c.tc : Thread Cert.Reference3Ideal.nD Cert.Reference3Ideal.τ).loc Cert.Reference3Ideal.main_v148) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite_queries_and_keys : Cert.Pre_finite_queries_and_keys.Facts) (hPre_finite_gain_and_weights : Cert.Pre_finite_gain_and_weights.Facts),
    quiescent_Kernel (hKernel := hKernel)
    ∧ quiescent_KernelIdeal (hKernelIdeal := hKernelIdeal)
    ∧ quiescent_KernelIdeal_pre_finite_queries_and_keys (hKernelIdeal := hKernelIdeal) (hPre_finite_queries_and_keys := hPre_finite_queries_and_keys)
    ∧ quiescent_ReferenceIdeal (hReferenceIdeal := hReferenceIdeal)
    ∧ quiescent_ReferenceIdeal_pre_finite_queries_and_keys (hReferenceIdeal := hReferenceIdeal) (hPre_finite_queries_and_keys := hPre_finite_queries_and_keys)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite_gain_and_weights (hKernel3Ideal := hKernel3Ideal) (hPre_finite_gain_and_weights := hPre_finite_gain_and_weights)
    ∧ quiescent_Reference3Ideal (hReference3Ideal := hReference3Ideal)
    ∧ quiescent_Reference3Ideal_pre_finite_gain_and_weights (hReference3Ideal := hReference3Ideal) (hPre_finite_gain_and_weights := hPre_finite_gain_and_weights)
    ∧ preserves_Kernel_KernelIdeal
    ∧ algebraic_KernelIdeal_ReferenceIdeal_pre_finite_queries_and_keys (hKernelIdeal := hKernelIdeal) (hReferenceIdeal := hReferenceIdeal) (hPre_finite_queries_and_keys := hPre_finite_queries_and_keys)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite_gain_and_weights (hKernel3Ideal := hKernel3Ideal) (hReference3Ideal := hReference3Ideal) (hPre_finite_gain_and_weights := hPre_finite_gain_and_weights)
-- ==== Pre_finite_gain_and_weights.lean ====
abbrev S16x4096x1024 : Shape := ⟨3, ![16, 4096, 1024]⟩
abbrev S1024x2816 : Shape := ⟨2, ![1024, 2816]⟩
abbrev S1024 : Shape := ⟨1, ![1024]⟩
abbrev S512 : Shape := ⟨1, ![512]⟩
abbrev S8x128x128 : Shape := ⟨3, ![8, 128, 128]⟩
abbrev S8x128 : Shape := ⟨2, ![8, 128]⟩
abbrev S64 : Shape := ⟨1, ![64]⟩
abbrev S_ : Shape := ⟨0, ![]⟩

class Facts : Prop where
  bcast_S_S1024x2816 : S_.BroadcastsInDim S1024x2816 (![] : Fin 0 → Fin S1024x2816.rank)
  reducesTo_S1024x2816_S_d0_1 : S1024x2816.ReducesTo [0, 1] S_
  h_S_ : 0 < S_.numel
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S16x4096x1024 .f32) (main_arg1 : FVec F S1024x2816 .f32) (main_arg2 : FVec F S1024 .f32) (main_arg3 : FVec F S512 .f32) (main_arg4 : FVec F S512 .f32) (main_arg5 : FVec F S8x128x128 .f32) (main_arg6 : FVec F S8x128 .f32) (main_arg7 : FVec F S64 .f32) (main_arg8 : FVec F S64 .f32) : IVec S_ 1 :=
  let main_v0 : FVec F S1024x2816 .f32 := Host.absf main_arg1
  let main_cst : FVec F S_ .f32 := constant S_ .f32 0x7F800000#32
  let main_v1 : FVec F S1024x2816 .f32 := broadcastInDim S1024x2816 ![] bcast_S_S1024x2816 main_cst
  let main_v2 : IVec S1024x2816 1 := cmpf .olt main_v0 main_v1
  let main_c : IVec S_ 1 := constantI S_ 1 1#1
  let main_v3 : IVec S_ 1 := (fun x v => Host.reduce IntOp.andi x v reducesTo_S1024x2816_S_d0_1 h_S_) main_v2 main_c
  let main_v4 : FVec F S1024 .f32 := Host.absf main_arg2
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  main_v8
-- ==== Pre_finite_queries_and_keys.lean ====
abbrev S16x4096x8x64 : Shape := ⟨4, ![16, 4096, 8, 64]⟩
abbrev S16x4096x2x64 : Shape := ⟨4, ![16, 4096, 2, 64]⟩
abbrev S65536x512 : Shape := ⟨2, ![65536, 512]⟩
abbrev S_ : Shape := ⟨0, ![]⟩

class Facts : Prop where
  bcast_S_S16x4096x8x64 : S_.BroadcastsInDim S16x4096x8x64 (![] : Fin 0 → Fin S16x4096x8x64.rank)
  reducesTo_S16x4096x8x64_S_d0_1_2_3 : S16x4096x8x64.ReducesTo [0, 1, 2, 3] S_
  h_S_ : 0 < S_.numel
  bcast_S_S16x4096x2x64 : S_.BroadcastsInDim S16x4096x2x64 (![] : Fin 0 → Fin S16x4096x2x64.rank)
  reducesTo_S16x4096x2x64_S_d0_1_2_3 : S16x4096x2x64.ReducesTo [0, 1, 2, 3] S_

variable [Facts]

def fn {F : FTy → Type} [FloatOps F] (main_arg0 : FVec F S16x4096x8x64 .f32) (main_arg1 : FVec F S16x4096x2x64 .f32) (main_arg2 : FVec F S16x4096x2x64 .f32) (main_arg3 : FVec F S65536x512 .f32) : IVec S_ 1 :=
  let main_v0 : FVec F S16x4096x8x64 .f32 := Host.absf main_arg0
  let main_cst : FVec F S_ .f32 := constant S_ .f32 0x7F800000#32
  let main_v1 : FVec F S16x4096x8x64 .f32 := broadcastInDim S16x4096x8x64 ![] bcast_S_S16x4096x8x64 main_cst
  let main_v2 : IVec S16x4096x8x64 1 := cmpf .olt main_v0 main_v1
  let main_c : IVec S_ 1 := constantI S_ 1 1#1
  let main_v3 : IVec S_ 1 := (fun x v => Host.reduce IntOp.andi x v reducesTo_S16x4096x8x64_S_d0_1_2_3 h_S_) main_v2 main_c
  let main_v4 : FVec F S16x4096x2x64 .f32 := Host.absf main_arg1
  let main_cst_0 : FVec F S_ .f32 := constant S_ .f32 0x7F800000#32
  let main_v5 : FVec F S16x4096x2x64 .f32 := broadcastInDim S16x4096x2x64 ![] bcast_S_S16x4096x2x64 main_cst_0
  let main_v6 : IVec S16x4096x2x64 1 := cmpf .olt main_v4 main_v5
  let main_c_1 : IVec S_ 1 := constantI S_ 1 1#1
  let main_v7 : IVec S_ 1 := (fun x v => Host.reduce IntOp.andi x v reducesTo_S16x4096x2x64_S_d0_1_2_3 h_S_) main_v6 main_c_1
  let main_v8 : IVec S_ 1 := andi main_v3 main_v7
  main_v8
-- ==== Kernel.lean ====
abbrev S16x4096x8x64 : Shape := ⟨4, ![16, 4096, 8, 64]⟩
abbrev S16x4096x2x64 : Shape := ⟨4, ![16, 4096, 2, 64]⟩
abbrev S65536x512 : Shape := ⟨2, ![65536, 512]⟩
abbrev S_ : Shape := ⟨0, ![]⟩
abbrev S16x32x128x2x4x64 : Shape := ⟨6, ![16, 32, 128, 2, 4, 64]⟩
abbrev S16x2x32x64x4x128 : Shape := ⟨6, ![16, 2, 32, 64, 4, 128]⟩
abbrev S16x2x32x64x512 : Shape := ⟨5, ![16, 2, 32, 64, 512]⟩
abbrev S65536x128 : Shape := ⟨2, ![65536, 128]⟩
abbrev S16x2x64x4096 : Shape := ⟨4, ![16, 2, 64, 4096]⟩
abbrev S16x2x1x4096 : Shape := ⟨4, ![16, 2, 1, 4096]⟩
abbrev S16x2x15x4096 : Shape := ⟨4, ![16, 2, 15, 4096]⟩
abbrev S16x2x80x4096 : Shape := ⟨4, ![16, 2, 80, 4096]⟩
abbrev S1x2x4x64x512 : Shape := ⟨5, ![1, 2, 4, 64, 512]⟩
abbrev S1x2x1x64x512 : Shape := ⟨5, ![1, 2, 1, 64, 512]⟩
abbrev S4096x128 : Shape := ⟨2, ![4096, 128]⟩
abbrev S1x2x80x4096 : Shape := ⟨4, ![1, 2, 80, 4096]⟩
abbrev S512x512 : Shape := ⟨2, ![512, 512]⟩
abbrev S4096x512 : Shape := ⟨2, ![4096, 512]⟩
abbrev S8x512 : Shape := ⟨2, ![8, 512]⟩
abbrev S1x1x1x64x512 : Shape := ⟨5, ![1, 1, 1, 64, 512]⟩
abbrev S64x512 : Shape := ⟨2, ![64, 512]⟩
abbrev S128x512 : Shape := ⟨2, ![128, 512]⟩
abbrev S256x128 : Shape := ⟨2, ![256, 128]⟩
abbrev S256x512 : Shape := ⟨2, ![256, 512]⟩
abbrev S32x8x512 : Shape := ⟨3, ![32, 8, 512]⟩
abbrev S512 : Shape := ⟨1, ![512]⟩
abbrev S1x512 : Shape := ⟨2, ![1, 512]⟩
abbrev S1x1x80x256 : Shape := ⟨4, ![1, 1, 80, 256]⟩
abbrev S80x256 : Shape := ⟨2, ![80, 256]⟩
abbrev S80x512 : Shape := ⟨2, ![80, 512]⟩
abbrev S64x128 : Shape := ⟨2, ![64, 128]⟩
abbrev S128x128 : Shape := ⟨2, ![128, 128]⟩

abbrev nBuf : Space → Nat
  | .hbm => 24
  | .vmem => 22
  | .smem => 0
  | _ => 0

abbrev bufTy : (tb : Table) → Fin (tcTables nBuf tb) → BufTy
  | .hbm, ⟨0, _⟩ => ⟨S16x4096x8x64, .f32⟩
  | .hbm, ⟨1, _⟩ => ⟨S16x4096x2x64, .f32⟩
  | .hbm, ⟨2, _⟩ => ⟨S16x4096x2x64, .f32⟩
  | .hbm, ⟨3, _⟩ => ⟨S65536x512, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S16x4096x8x64, .f32⟩
  | .hbm, ⟨9, _⟩ => ⟨S16x4096x8x64, .f32⟩
  | .hbm, ⟨10, _⟩ => ⟨S16x4096x8x64, .bf16⟩
  | .hbm, ⟨11, _⟩ => ⟨S16x32x128x2x4x64, .bf16⟩
  | .hbm, ⟨12, _⟩ => ⟨S16x2x32x64x4x128, .bf16⟩
  | .hbm, ⟨13, _⟩ => ⟨S16x2x32x64x512, .bf16⟩
  | .hbm, ⟨14, _⟩ => ⟨S16x4096x2x64, .bf16⟩
  | .hbm, ⟨15, _⟩ => ⟨S65536x128, .bf16⟩
  | .hbm, ⟨16, _⟩ => ⟨S16x4096x2x64, .bf16⟩
  | .hbm, ⟨17, _⟩ => ⟨S16x2x64x4096, .bf16⟩
  | .hbm, ⟨18, _⟩ => ⟨S_, .bf16⟩
  | .hbm, ⟨19, _⟩ => ⟨S16x2x1x4096, .bf16⟩
  | .hbm, ⟨20, _⟩ => ⟨S_, .bf16⟩
  | .hbm, ⟨21, _⟩ => ⟨S16x2x15x4096, .bf16⟩
  | .hbm, ⟨22, _⟩ => ⟨S16x2x80x4096, .bf16⟩
  | .hbm, ⟨23, _⟩ => ⟨S65536x512, .bf16⟩
  | .local _ .vmem, ⟨0, _⟩ => ⟨S1x2x4x64x512, .bf16⟩
  | .local _ .vmem, ⟨1, _⟩ => ⟨S1x2x4x64x512, .bf16⟩
  | .local _ .vmem, ⟨2, _⟩ => ⟨S1x2x1x64x512, .bf16⟩
  | .local _ .vmem, ⟨3, _⟩ => ⟨S1x2x1x64x512, .bf16⟩
  | .local _ .vmem, ⟨4, _⟩ => ⟨S4096x128, .bf16⟩
  | .local _ .vmem, ⟨5, _⟩ => ⟨S4096x128, .bf16⟩
  | .local _ .vmem, ⟨6, _⟩ => ⟨S4096x128, .bf16⟩
  | .local _ .vmem, ⟨7, _⟩ => ⟨S4096x128, .bf16⟩
  | .local _ .vmem, ⟨8, _⟩ => ⟨S1x2x80x4096, .bf16⟩
  | .local _ .vmem, ⟨9, _⟩ => ⟨S1x2x80x4096, .bf16⟩
  | .local _ .vmem, ⟨10, _⟩ => ⟨S512x512, .f32⟩
  | .local _ .vmem, ⟨11, _⟩ => ⟨S512x512, .f32⟩
  | .local _ .vmem, ⟨12, _⟩ => ⟨S512x512, .bf16⟩
  | .local _ .vmem, ⟨13, _⟩ => ⟨S512x512, .bf16⟩
  | .local _ .vmem, ⟨14, _⟩ => ⟨S4096x512, .f32⟩
  | .local _ .vmem, ⟨15, _⟩ => ⟨S4096x512, .f32⟩
  | .local _ .vmem, ⟨16, _⟩ => ⟨S4096x512, .f32⟩
  | .local _ .vmem, ⟨17, _⟩ => ⟨S4096x512, .f32⟩
  | .local _ .vmem, ⟨18, _⟩ => ⟨S8x512, .f32⟩
  | .local _ .vmem, ⟨19, _⟩ => ⟨S8x512, .f32⟩
  | .local _ .vmem, ⟨20, _⟩ => ⟨S8x512, .f32⟩
  | .local _ .vmem, ⟨21, _⟩ => ⟨S8x512, .f32⟩
  | _, _ => ⟨S16x4096x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_scratch5 : Ref sig .tc := ⟨.vmem, 19, rfl⟩
abbrev cc0_scratch6 : Ref sig .tc := ⟨.vmem, 20, rfl⟩
abbrev cc0_scratch7 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 8], ![false, false]⟩

def k0_mult1 (i : grid0.Coords) : BitVec 32 :=
  let arg1 : BitVec 32 := BitVec.ofNat 32 (i 1).val
  let c0_i32_2 : BitVec 32 := 0#32
  let v5 : BitVec 32 := Scalar.minsi arg1 c0_i32_2
  let c0_i32_9 : BitVec 32 := 0#32
  let v13 : BitVec 32 := Scalar.addi v5 c0_i32_9
  v13
def k0_off1 (i : grid0.Coords) (c0_i32_9 : BitVec 32) : Fin 2 → Nat :=
  let arg1 : BitVec 32 := BitVec.ofNat 32 (i 1).val
  let c0_i32_2 : BitVec 32 := 0#32
  let v5 : BitVec 32 := Scalar.minsi arg1 c0_i32_2
  let v13 : BitVec 32 := Scalar.addi v5 c0_i32_9
  let v14 : BitVec 32 := v13
  let v15 : Index := Scalar.indexCast v14
  let c0_10 : Index := 0#32
  ![v15.toNat, 0]
def k0_mult2 (i : grid0.Coords) : BitVec 32 :=
  let arg1 : BitVec 32 := BitVec.ofNat 32 (i 1).val
  let c0_i32_2 : BitVec 32 := 0#32
  let v5 : BitVec 32 := Scalar.minsi arg1 c0_i32_2
  let c256_i32 : BitVec 32 := 256#32
  let v32 : BitVec 32 := Scalar.addi v5 c256_i32
  v32
def k0_mult3 (i : grid0.Coords) : BitVec 32 :=
  let arg1 : BitVec 32 := BitVec.ofNat 32 (i 1).val
  let c0_i32_2 : BitVec 32 := 0#32
  let v5 : BitVec 32 := Scalar.minsi arg1 c0_i32_2
  let c512_i32 : BitVec 32 := 512#32
  let v53 : BitVec 32 := Scalar.addi v5 c512_i32
  v53
def k0_mult4 (i : grid0.Coords) : BitVec 32 :=
  let arg1 : BitVec 32 := BitVec.ofNat 32 (i 1).val
  let c0_i32_2 : BitVec 32 := 0#32
  let v5 : BitVec 32 := Scalar.minsi arg1 c0_i32_2
  let c768_i32 : BitVec 32 := 768#32
  let v74 : BitVec 32 := Scalar.addi v5 c768_i32
  v74
def k0_mult5 (i : grid0.Coords) : BitVec 32 :=
  let arg1 : BitVec 32 := BitVec.ofNat 32 (i 1).val
  let c0_i32_2 : BitVec 32 := 0#32
  let v5 : BitVec 32 := Scalar.minsi arg1 c0_i32_2
  let c1024_i32 : BitVec 32 := 1024#32
  let v95 : BitVec 32 := Scalar.addi v5 c1024_i32
  v95
def k0_mult6 (i : grid0.Coords) : BitVec 32 :=
  let arg1 : BitVec 32 := BitVec.ofNat 32 (i 1).val
  let c0_i32_2 : BitVec 32 := 0#32
  let v5 : BitVec 32 := Scalar.minsi arg1 c0_i32_2
  let c1280_i32 : BitVec 32 := 1280#32
  let v116 : BitVec 32 := Scalar.addi v5 c1280_i32
  v116
def k0_mult7 (i : grid0.Coords) : BitVec 32 :=
  let arg1 : BitVec 32 := BitVec.ofNat 32 (i 1).val
  let c0_i32_2 : BitVec 32 := 0#32
  let v5 : BitVec 32 := Scalar.minsi arg1 c0_i32_2
  let c1536_i32 : BitVec 32 := 1536#32
  let v137 : BitVec 32 := Scalar.addi v5 c1536_i32
  v137
def k0_mult8 (i : grid0.Coords) : BitVec 32 :=
  let arg1 : BitVec 32 := BitVec.ofNat 32 (i 1).val
  let c0_i32_2 : BitVec 32 := 0#32
  let v5 : BitVec 32 := Scalar.minsi arg1 c0_i32_2
  let c1792_i32 : BitVec 32 := 1792#32
  let v158 : BitVec 32 := Scalar.addi v5 c1792_i32
  v158
def k0_mult9 (i : grid0.Coords) : BitVec 32 :=
  let arg1 : BitVec 32 := BitVec.ofNat 32 (i 1).val
  let c0_i32_2 : BitVec 32 := 0#32
  let v5 : BitVec 32 := Scalar.minsi arg1 c0_i32_2
  let c2048_i32 : BitVec 32 := 2048#32
  let v179 : BitVec 32 := Scalar.addi v5 c2048_i32
  v179
def k0_mult10 (i : grid0.Coords) : BitVec 32 :=
  let arg1 : BitVec 32 := BitVec.ofNat 32 (i 1).val
  let c0_i32_2 : BitVec 32 := 0#32
  let v5 : BitVec 32 := Scalar.minsi arg1 c0_i32_2
  let c2304_i32 : BitVec 32 := 2304#32
  let v200 : BitVec 32 := Scalar.addi v5 c2304_i32
  v200
def k0_mult11 (i : grid0.Coords) : BitVec 32 :=
  let arg1 : BitVec 32 := BitVec.ofNat 32 (i 1).val
  let c0_i32_2 : BitVec 32 := 0#32
  let v5 : BitVec 32 := Scalar.minsi arg1 c0_i32_2
  let c2560_i32 : BitVec 32 := 2560#32
  let v221 : BitVec 32 := Scalar.addi v5 c2560_i32
  v221
def k0_mult12 (i : grid0.Coords) : BitVec 32 :=
  let arg1 : BitVec 32 := BitVec.ofNat 32 (i 1).val
  let c0_i32_2 : BitVec 32 := 0#32
  let v5 : BitVec 32 := Scalar.minsi arg1 c0_i32_2
  let c2816_i32 : BitVec 32 := 2816#32
  let v242 : BitVec 32 := Scalar.addi v5 c2816_i32
  v242
def k0_mult13 (i : grid0.Coords) : BitVec 32 :=
  let arg1 : BitVec 32 := BitVec.ofNat 32 (i 1).val
  let c0_i32_2 : BitVec 32 := 0#32
  let v5 : BitVec 32 := Scalar.minsi arg1 c0_i32_2
  let c3072_i32 : BitVec 32 := 3072#32
  let v263 : BitVec 32 := Scalar.addi v5 c3072_i32
  v263
def k0_mult14 (i : grid0.Coords) : BitVec 32 :=
  let arg1 : BitVec 32 := BitVec.ofNat 32 (i 1).val
  let c0_i32_2 : BitVec 32 := 0#32
  let v5 : BitVec 32 := Scalar.minsi arg1 c0_i32_2
  let c3328_i32 : BitVec 32 := 3328#32
  let v284 : BitVec 32 := Scalar.addi v5 c3328_i32
  v284
def k0_mult15 (i : grid0.Coords) : BitVec 32 :=
  let arg1 : BitVec 32 := BitVec.ofNat 32 (i 1).val
  let c0_i32_2 : BitVec 32 := 0#32
  let v5 : BitVec 32 := Scalar.minsi arg1 c0_i32_2
  let c3584_i32 : BitVec 32 := 3584#32
  let v305 : BitVec 32 := Scalar.addi v5 c3584_i32
  v305
def k0_mult16 (i : grid0.Coords) : BitVec 32 :=
  let arg1 : BitVec 32 := BitVec.ofNat 32 (i 1).val
  let c0_i32_2 : BitVec 32 := 0#32
  let v5 : BitVec 32 := Scalar.minsi arg1 c0_i32_2
  let c3840_i32 : BitVec 32 := 3840#32
  let v326 : BitVec 32 := Scalar.addi v5 c3840_i32
  v326
def k0_mult17 (i : grid0.Coords) : BitVec 32 :=
  let arg1 : BitVec 32 := BitVec.ofNat 32 (i 1).val
  let c0_i32_2 : BitVec 32 := 0#32
  let v5 : BitVec 32 := Scalar.minsi arg1 c0_i32_2
  let c0_i32_205 : BitVec 32 := 0#32
  let v377 : BitVec 32 := Scalar.addi v5 c0_i32_205
  v377
def k0_mult18 (i : grid0.Coords) : BitVec 32 :=
  let arg1 : BitVec 32 := BitVec.ofNat 32 (i 1).val
  let c0_i32_2 : BitVec 32 := 0#32
  let v5 : BitVec 32 := Scalar.minsi arg1 c0_i32_2
  let c256_i32_218 : BitVec 32 := 256#32
  let v396 : BitVec 32 := Scalar.addi v5 c256_i32_218
  v396
def k0_mult19 (i : grid0.Coords) : BitVec 32 :=
  let arg1 : BitVec 32 := BitVec.ofNat 32 (i 1).val
  let c0_i32_2 : BitVec 32 := 0#32
  let v5 : BitVec 32 := Scalar.minsi arg1 c0_i32_2
  let c512_i32_231 : BitVec 32 := 512#32
  let v417 : BitVec 32 := Scalar.addi v5 c512_i32_231
  v417
def k0_mult20 (i : grid0.Coords) : BitVec 32 :=
  let arg1 : BitVec 32 := BitVec.ofNat 32 (i 1).val
  let c0_i32_2 : BitVec 32 := 0#32
  let v5 : BitVec 32 := Scalar.minsi arg1 c0_i32_2
  let c768_i32_244 : BitVec 32 := 768#32
  let v438 : BitVec 32 := Scalar.addi v5 c768_i32_244
  v438
def k0_mult21 (i : grid0.Coords) : BitVec 32 :=
  let arg1 : BitVec 32 := BitVec.ofNat 32 (i 1).val
  let c0_i32_2 : BitVec 32 := 0#32
  let v5 : BitVec 32 := Scalar.minsi arg1 c0_i32_2
  let c1024_i32_257 : BitVec 32 := 1024#32
  let v459 : BitVec 32 := Scalar.addi v5 c1024_i32_257
  v459
def k0_mult22 (i : grid0.Coords) : BitVec 32 :=
  let arg1 : BitVec 32 := BitVec.ofNat 32 (i 1).val
  let c0_i32_2 : BitVec 32 := 0#32
  let v5 : BitVec 32 := Scalar.minsi arg1 c0_i32_2
  let c1280_i32_270 : BitVec 32 := 1280#32
  let v480 : BitVec 32 := Scalar.addi v5 c1280_i32_270
  v480
def k0_mult23 (i : grid0.Coords) : BitVec 32 :=
  let arg1 : BitVec 32 := BitVec.ofNat 32 (i 1).val
  let c0_i32_2 : BitVec 32 := 0#32
  let v5 : BitVec 32 := Scalar.minsi arg1 c0_i32_2
  let c1536_i32_283 : BitVec 32 := 1536#32
  let v501 : BitVec 32 := Scalar.addi v5 c1536_i32_283
  v501
def k0_mult24 (i : grid0.Coords) : BitVec 32 :=
  let arg1 : BitVec 32 := BitVec.ofNat 32 (i 1).val
  let c0_i32_2 : BitVec 32 := 0#32
  let v5 : BitVec 32 := Scalar.minsi arg1 c0_i32_2
  let c1792_i32_296 : BitVec 32 := 1792#32
  let v522 : BitVec 32 := Scalar.addi v5 c1792_i32_296
  v522
def k0_mult25 (i : grid0.Coords) : BitVec 32 :=
  let arg1 : BitVec 32 := BitVec.ofNat 32 (i 1).val
  let c0_i32_2 : BitVec 32 := 0#32
  let v5 : BitVec 32 := Scalar.minsi arg1 c0_i32_2
  let c2048_i32_309 : BitVec 32 := 2048#32
  let v543 : BitVec 32 := Scalar.addi v5 c2048_i32_309
  v543
def k0_mult26 (i : grid0.Coords) : BitVec 32 :=
  let arg1 : BitVec 32 := BitVec.ofNat 32 (i 1).val
  let c0_i32_2 : BitVec 32 := 0#32
  let v5 : BitVec 32 := Scalar.minsi arg1 c0_i32_2
  let c2304_i32_322 : BitVec 32 := 2304#32
  let v564 : BitVec 32 := Scalar.addi v5 c2304_i32_322
  v564
def k0_mult27 (i : grid0.Coords) : BitVec 32 :=
  let arg1 : BitVec 32 := BitVec.ofNat 32 (i 1).val
  let c0_i32_2 : BitVec 32 := 0#32
  let v5 : BitVec 32 := Scalar.minsi arg1 c0_i32_2
  let c2560_i32_335 : BitVec 32 := 2560#32
  let v585 : BitVec 32 := Scalar.addi v5 c2560_i32_335
  v585
def k0_mult28 (i : grid0.Coords) : BitVec 32 :=
  let arg1 : BitVec 32 := BitVec.ofNat 32 (i 1).val
  let c0_i32_2 : BitVec 32 := 0#32
  let v5 : BitVec 32 := Scalar.minsi arg1 c0_i32_2
  let c2816_i32_348 : BitVec 32 := 2816#32
  let v606 : BitVec 32 := Scalar.addi v5 c2816_i32_348
  v606
def k0_mult29 (i : grid0.Coords) : BitVec 32 :=
  let arg1 : BitVec 32 := BitVec.ofNat 32 (i 1).val
  let c0_i32_2 : BitVec 32 := 0#32
  let v5 : BitVec 32 := Scalar.minsi arg1 c0_i32_2
  let c3072_i32_361 : BitVec 32 := 3072#32
  let v627 : BitVec 32 := Scalar.addi v5 c3072_i32_361
  v627
def k0_mult30 (i : grid0.Coords) : BitVec 32 :=
  let arg1 : BitVec 32 := BitVec.ofNat 32 (i 1).val
  let c0_i32_2 : BitVec 32 := 0#32
  let v5 : BitVec 32 := Scalar.minsi arg1 c0_i32_2
  let c3328_i32_374 : BitVec 32 := 3328#32
  let v648 : BitVec 32 := Scalar.addi v5 c3328_i32_374
  v648
def k0_mult31 (i : grid0.Coords) : BitVec 32 :=
  let arg1 : BitVec 32 := BitVec.ofNat 32 (i 1).val
  let c0_i32_2 : BitVec 32 := 0#32
  let v5 : BitVec 32 := Scalar.minsi arg1 c0_i32_2
  let c3584_i32_387 : BitVec 32 := 3584#32
  let v669 : BitVec 32 := Scalar.addi v5 c3584_i32_387
  v669
def k0_mult32 (i : grid0.Coords) : BitVec 32 :=
  let arg1 : BitVec 32 := BitVec.ofNat 32 (i 1).val
  let c0_i32_2 : BitVec 32 := 0#32
  let v5 : BitVec 32 := Scalar.minsi arg1 c0_i32_2
  let c3840_i32_400 : BitVec 32 := 3840#32
  let v690 : BitVec 32 := Scalar.addi v5 c3840_i32_400
  v690
def k0_mult33 (i : grid0.Coords) : BitVec 32 :=
  let arg1 : BitVec 32 := BitVec.ofNat 32 (i 1).val
  let c0_i32_2 : BitVec 32 := 0#32
  let v5 : BitVec 32 := Scalar.minsi arg1 c0_i32_2
  let c0_i32_430 : BitVec 32 := 0#32
  let v741 : BitVec 32 := Scalar.addi v5 c0_i32_430
  v741
def k0_mult34 (i : grid0.Coords) : BitVec 32 :=
  let arg1 : BitVec 32 := BitVec.ofNat 32 (i 1).val
  let c0_i32_2 : BitVec 32 := 0#32
  let v5 : BitVec 32 := Scalar.minsi arg1 c0_i32_2
  let c256_i32_443 : BitVec 32 := 256#32
  let v760 : BitVec 32 := Scalar.addi v5 c256_i32_443
  v760
def k0_mult35 (i : grid0.Coords) : BitVec 32 :=
  let arg1 : BitVec 32 := BitVec.ofNat 32 (i 1).val
  let c0_i32_2 : BitVec 32 := 0#32
  let v5 : BitVec 32 := Scalar.minsi arg1 c0_i32_2
  let c512_i32_456 : BitVec 32 := 512#32
  let v781 : BitVec 32 := Scalar.addi v5 c512_i32_456
  v781
def k0_mult36 (i : grid0.Coords) : BitVec 32 :=
  let arg1 : BitVec 32 := BitVec.ofNat 32 (i 1).val
  let c0_i32_2 : BitVec 32 := 0#32
  let v5 : BitVec 32 := Scalar.minsi arg1 c0_i32_2
  let c768_i32_469 : BitVec 32 := 768#32
  let v802 : BitVec 32 := Scalar.addi v5 c768_i32_469
  v802
def k0_mult37 (i : grid0.Coords) : BitVec 32 :=
  let arg1 : BitVec 32 := BitVec.ofNat 32 (i 1).val
  let c0_i32_2 : BitVec 32 := 0#32
  let v5 : BitVec 32 := Scalar.minsi arg1 c0_i32_2
  let c1024_i32_482 : BitVec 32 := 1024#32
  let v823 : BitVec 32 := Scalar.addi v5 c1024_i32_482
  v823
def k0_mult38 (i : grid0.Coords) : BitVec 32 :=
  let arg1 : BitVec 32 := BitVec.ofNat 32 (i 1).val
  let c0_i32_2 : BitVec 32 := 0#32
  let v5 : BitVec 32 := Scalar.minsi arg1 c0_i32_2
  let c1280_i32_495 : BitVec 32 := 1280#32
  let v844 : BitVec 32 := Scalar.addi v5 c1280_i32_495
  v844
def k0_mult39 (i : grid0.Coords) : BitVec 32 :=
  let arg1 : BitVec 32 := BitVec.ofNat 32 (i 1).val
  let c0_i32_2 : BitVec 32 := 0#32
  let v5 : BitVec 32 := Scalar.minsi arg1 c0_i32_2
  let c1536_i32_508 : BitVec 32 := 1536#32
  let v865 : BitVec 32 := Scalar.addi v5 c1536_i32_508
  v865
def k0_mult40 (i : grid0.Coords) : BitVec 32 :=
  let arg1 : BitVec 32 := BitVec.ofNat 32 (i 1).val
  let c0_i32_2 : BitVec 32 := 0#32
  let v5 : BitVec 32 := Scalar.minsi arg1 c0_i32_2
  let c1792_i32_521 : BitVec 32 := 1792#32
  let v886 : BitVec 32 := Scalar.addi v5 c1792_i32_521
  v886
def k0_mult41 (i : grid0.Coords) : BitVec 32 :=
  let arg1 : BitVec 32 := BitVec.ofNat 32 (i 1).val
  let c0_i32_2 : BitVec 32 := 0#32
  let v5 : BitVec 32 := Scalar.minsi arg1 c0_i32_2
  let c2048_i32_534 : BitVec 32 := 2048#32
  let v907 : BitVec 32 := Scalar.addi v5 c2048_i32_534
  v907
def k0_mult42 (i : grid0.Coords) : BitVec 32 :=
  let arg1 : BitVec 32 := BitVec.ofNat 32 (i 1).val
  let c0_i32_2 : BitVec 32 := 0#32
  let v5 : BitVec 32 := Scalar.minsi arg1 c0_i32_2
  let c2304_i32_547 : BitVec 32 := 2304#32
  let v928 : BitVec 32 := Scalar.addi v5 c2304_i32_547
  v928
def k0_mult43 (i : grid0.Coords) : BitVec 32 :=
  let arg1 : BitVec 32 := BitVec.ofNat 32 (i 1).val
  let c0_i32_2 : BitVec 32 := 0#32
  let v5 : BitVec 32 := Scalar.minsi arg1 c0_i32_2
  let c2560_i32_560 : BitVec 32 := 2560#32
  let v949 : BitVec 32 := Scalar.addi v5 c2560_i32_560
  v949
def k0_mult44 (i : grid0.Coords) : BitVec 32 :=
  let arg1 : BitVec 32 := BitVec.ofNat 32 (i 1).val
  let c0_i32_2 : BitVec 32 := 0#32
  let v5 : BitVec 32 := Scalar.minsi arg1 c0_i32_2
  let c2816_i32_573 : BitVec 32 := 2816#32
  let v970 : BitVec 32 := Scalar.addi v5 c2816_i32_573
  v970
def k0_mult45 (i : grid0.Coords) : BitVec 32 :=
  let arg1 : BitVec 32 := BitVec.ofNat 32 (i 1).val
  let c0_i32_2 : BitVec 32 := 0#32
  let v5 : BitVec 32 := Scalar.minsi arg1 c0_i32_2
  let c3072_i32_586 : BitVec 32 := 3072#32
  let v991 : BitVec 32 := Scalar.addi v5 c3072_i32_586
  v991
def k0_mult46 (i : grid0.Coords) : BitVec 32 :=
  let arg1 : BitVec 32 := BitVec.ofNat 32 (i 1).val
  let c0_i32_2 : BitVec 32 := 0#32
  let v5 : BitVec 32 := Scalar.minsi arg1 c0_i32_2
  let c3328_i32_599 : BitVec 32 := 3328#32
  let v1012 : BitVec 32 := Scalar.addi v5 c3328_i32_599
  v1012
def k0_mult47 (i : grid0.Coords) : BitVec 32 :=
  let arg1 : BitVec 32 := BitVec.ofNat 32 (i 1).val
  let c0_i32_2 : BitVec 32 := 0#32
  let v5 : BitVec 32 := Scalar.minsi arg1 c0_i32_2
  let c3584_i32_612 : BitVec 32 := 3584#32
  let v1033 : BitVec 32 := Scalar.addi v5 c3584_i32_612
  v1033
def k0_mult48 (i : grid0.Coords) : BitVec 32 :=
  let arg1 : BitVec 32 := BitVec.ofNat 32 (i 1).val
  let c0_i32_2 : BitVec 32 := 0#32
  let v5 : BitVec 32 := Scalar.minsi arg1 c0_i32_2
  let c3840_i32_625 : BitVec 32 := 3840#32
  let v1054 : BitVec 32 := Scalar.addi v5 c3840_i32_625
  v1054
def k0_mult49 (i : grid0.Coords) : BitVec 32 :=
  let arg1 : BitVec 32 := BitVec.ofNat 32 (i 1).val
  let c0_i32_2 : BitVec 32 := 0#32
  let v5 : BitVec 32 := Scalar.minsi arg1 c0_i32_2
  let c0_i32_657 : BitVec 32 := 0#32
  let v1105 : BitVec 32 := Scalar.addi v5 c0_i32_657
  v1105
def k0_mult50 (i : grid0.Coords) : BitVec 32 :=
  let arg1 : BitVec 32 := BitVec.ofNat 32 (i 1).val
  let c0_i32_2 : BitVec 32 := 0#32
  let v5 : BitVec 32 := Scalar.minsi arg1 c0_i32_2
  let c256_i32_670 : BitVec 32 := 256#32
  let v1124 : BitVec 32 := Scalar.addi v5 c256_i32_670
  v1124
def k0_mult51 (i : grid0.Coords) : BitVec 32 :=
  let arg1 : BitVec 32 := BitVec.ofNat 32 (i 1).val
  let c0_i32_2 : BitVec 32 := 0#32
  let v5 : BitVec 32 := Scalar.minsi arg1 c0_i32_2
  let c512_i32_683 : BitVec 32 := 512#32
  let v1145 : BitVec 32 := Scalar.addi v5 c512_i32_683
  v1145
def k0_mult52 (i : grid0.Coords) : BitVec 32 :=
  let arg1 : BitVec 32 := BitVec.ofNat 32 (i 1).val
  let c0_i32_2 : BitVec 32 := 0#32
  let v5 : BitVec 32 := Scalar.minsi arg1 c0_i32_2
  let c768_i32_696 : BitVec 32 := 768#32
  let v1166 : BitVec 32 := Scalar.addi v5 c768_i32_696
  v1166
def k0_mult53 (i : grid0.Coords) : BitVec 32 :=
  let arg1 : BitVec 32 := BitVec.ofNat 32 (i 1).val
  let c0_i32_2 : BitVec 32 := 0#32
  let v5 : BitVec 32 := Scalar.minsi arg1 c0_i32_2
  let c1024_i32_709 : BitVec 32 := 1024#32
  let v1187 : BitVec 32 := Scalar.addi v5 c1024_i32_709
  v1187
def k0_mult54 (i : grid0.Coords) : BitVec 32 :=
  let arg1 : BitVec 32 := BitVec.ofNat 32 (i 1).val
  let c0_i32_2 : BitVec 32 := 0#32
  let v5 : BitVec 32 := Scalar.minsi arg1 c0_i32_2
  let c1280_i32_722 : BitVec 32 := 1280#32
  let v1208 : BitVec 32 := Scalar.addi v5 c1280_i32_722
  v1208
def k0_mult55 (i : grid0.Coords) : BitVec 32 :=
  let arg1 : BitVec 32 := BitVec.ofNat 32 (i 1).val
  let c0_i32_2 : BitVec 32 := 0#32
  let v5 : BitVec 32 := Scalar.minsi arg1 c0_i32_2
  let c1536_i32_735 : BitVec 32 := 1536#32
  let v1229 : BitVec 32 := Scalar.addi v5 c1536_i32_735
  v1229
def k0_mult56 (i : grid0.Coords) : BitVec 32 :=
  let arg1 : BitVec 32 := BitVec.ofNat 32 (i 1).val
  let c0_i32_2 : BitVec 32 := 0#32
  let v5 : BitVec 32 := Scalar.minsi arg1 c0_i32_2
  let c1792_i32_748 : BitVec 32 := 1792#32
  let v1250 : BitVec 32 := Scalar.addi v5 c1792_i32_748
  v1250
def k0_mult57 (i : grid0.Coords) : BitVec 32 :=
  let arg1 : BitVec 32 := BitVec.ofNat 32 (i 1).val
  let c0_i32_2 : BitVec 32 := 0#32
  let v5 : BitVec 32 := Scalar.minsi arg1 c0_i32_2
  let c2048_i32_761 : BitVec 32 := 2048#32
  let v1271 : BitVec 32 := Scalar.addi v5 c2048_i32_761
  v1271
def k0_mult58 (i : grid0.Coords) : BitVec 32 :=
  let arg1 : BitVec 32 := BitVec.ofNat 32 (i 1).val
  let c0_i32_2 : BitVec 32 := 0#32
  let v5 : BitVec 32 := Scalar.minsi arg1 c0_i32_2
  let c2304_i32_774 : BitVec 32 := 2304#32
  let v1292 : BitVec 32 := Scalar.addi v5 c2304_i32_774
  v1292
def k0_mult59 (i : grid0.Coords) : BitVec 32 :=
  let arg1 : BitVec 32 := BitVec.ofNat 32 (i 1).val
  let c0_i32_2 : BitVec 32 := 0#32
  let v5 : BitVec 32 := Scalar.minsi arg1 c0_i32_2
  let c2560_i32_787 : BitVec 32 := 2560#32
  let v1313 : BitVec 32 := Scalar.addi v5 c2560_i32_787
  v1313
def k0_mult60 (i : grid0.Coords) : BitVec 32 :=
  let arg1 : BitVec 32 := BitVec.ofNat 32 (i 1).val
  let c0_i32_2 : BitVec 32 := 0#32
  let v5 : BitVec 32 := Scalar.minsi arg1 c0_i32_2
  let c2816_i32_800 : BitVec 32 := 2816#32
  let v1334 : BitVec 32 := Scalar.addi v5 c2816_i32_800
  v1334
def k0_mult61 (i : grid0.Coords) : BitVec 32 :=
  let arg1 : BitVec 32 := BitVec.ofNat 32 (i 1).val
  let c0_i32_2 : BitVec 32 := 0#32
  let v5 : BitVec 32 := Scalar.minsi arg1 c0_i32_2
  let c3072_i32_813 : BitVec 32 := 3072#32
  let v1355 : BitVec 32 := Scalar.addi v5 c3072_i32_813
  v1355
def k0_mult62 (i : grid0.Coords) : BitVec 32 :=
  let arg1 : BitVec 32 := BitVec.ofNat 32 (i 1).val
  let c0_i32_2 : BitVec 32 := 0#32
  let v5 : BitVec 32 := Scalar.minsi arg1 c0_i32_2
  let c3328_i32_826 : BitVec 32 := 3328#32
  let v1376 : BitVec 32 := Scalar.addi v5 c3328_i32_826
  v1376
def k0_mult63 (i : grid0.Coords) : BitVec 32 :=
  let arg1 : BitVec 32 := BitVec.ofNat 32 (i 1).val
  let c0_i32_2 : BitVec 32 := 0#32
  let v5 : BitVec 32 := Scalar.minsi arg1 c0_i32_2
  let c3584_i32_839 : BitVec 32 := 3584#32
  let v1397 : BitVec 32 := Scalar.addi v5 c3584_i32_839
  v1397
def k0_mult64 (i : grid0.Coords) : BitVec 32 :=
  let arg1 : BitVec 32 := BitVec.ofNat 32 (i 1).val
  let c0_i32_2 : BitVec 32 := 0#32
  let v5 : BitVec 32 := Scalar.minsi arg1 c0_i32_2
  let c3840_i32_852 : BitVec 32 := 3840#32
  let v1418 : BitVec 32 := Scalar.addi v5 c3840_i32_852
  v1418
def k0_mult65 (i : grid0.Coords) : BitVec 32 :=
  let arg1 : BitVec 32 := BitVec.ofNat 32 (i 1).val
  let c0_i32_2 : BitVec 32 := 0#32
  let v5 : BitVec 32 := Scalar.minsi arg1 c0_i32_2
  let c0_i32_883 : BitVec 32 := 0#32
  let v1469 : BitVec 32 := Scalar.addi v5 c0_i32_883
  v1469
def k0_mult66 (i : grid0.Coords) : BitVec 32 :=
  let arg1 : BitVec 32 := BitVec.ofNat 32 (i 1).val
  let c0_i32_2 : BitVec 32 := 0#32
  let v5 : BitVec 32 := Scalar.minsi arg1 c0_i32_2
  let c256_i32_896 : BitVec 32 := 256#32
  let v1488 : BitVec 32 := Scalar.addi v5 c256_i32_896
  v1488
def k0_mult67 (i : grid0.Coords) : BitVec 32 :=
  let arg1 : BitVec 32 := BitVec.ofNat 32 (i 1).val
  let c0_i32_2 : BitVec 32 := 0#32
  let v5 : BitVec 32 := Scalar.minsi arg1 c0_i32_2
  let c512_i32_909 : BitVec 32 := 512#32
  let v1509 : BitVec 32 := Scalar.addi v5 c512_i32_909
  v1509
def k0_mult68 (i : grid0.Coords) : BitVec 32 :=
  let arg1 : BitVec 32 := BitVec.ofNat 32 (i 1).val
  let c0_i32_2 : BitVec 32 := 0#32
  let v5 : BitVec 32 := Scalar.minsi arg1 c0_i32_2
  let c768_i32_922 : BitVec 32 := 768#32
  let v1530 : BitVec 32 := Scalar.addi v5 c768_i32_922
  v1530
def k0_mult69 (i : grid0.Coords) : BitVec 32 :=
  let arg1 : BitVec 32 := BitVec.ofNat 32 (i 1).val
  let c0_i32_2 : BitVec 32 := 0#32
  let v5 : BitVec 32 := Scalar.minsi arg1 c0_i32_2
  let c1024_i32_935 : BitVec 32 := 1024#32
  let v1551 : BitVec 32 := Scalar.addi v5 c1024_i32_935
  v1551
def k0_mult70 (i : grid0.Coords) : BitVec 32 :=
  let arg1 : BitVec 32 := BitVec.ofNat 32 (i 1).val
  let c0_i32_2 : BitVec 32 := 0#32
  let v5 : BitVec 32 := Scalar.minsi arg1 c0_i32_2
  let c1280_i32_948 : BitVec 32 := 1280#32
  let v1572 : BitVec 32 := Scalar.addi v5 c1280_i32_948
  v1572
def k0_mult71 (i : grid0.Coords) : BitVec 32 :=
  let arg1 : BitVec 32 := BitVec.ofNat 32 (i 1).val
  let c0_i32_2 : BitVec 32 := 0#32
  let v5 : BitVec 32 := Scalar.minsi arg1 c0_i32_2
  let c1536_i32_961 : BitVec 32 := 1536#32
  let v1593 : BitVec 32 := Scalar.addi v5 c1536_i32_961
  v1593
def k0_mult72 (i : grid0.Coords) : BitVec 32 :=
  let arg1 : BitVec 32 := BitVec.ofNat 32 (i 1).val
  let c0_i32_2 : BitVec 32 := 0#32
  let v5 : BitVec 32 := Scalar.minsi arg1 c0_i32_2
  let c1792_i32_974 : BitVec 32 := 1792#32
  let v1614 : BitVec 32 := Scalar.addi v5 c1792_i32_974
  v1614
def k0_mult73 (i : grid0.Coords) : BitVec 32 :=
  let arg1 : BitVec 32 := BitVec.ofNat 32 (i 1).val
  let c0_i32_2 : BitVec 32 := 0#32
  let v5 : BitVec 32 := Scalar.minsi arg1 c0_i32_2
  let c2048_i32_987 : BitVec 32 := 2048#32
  let v1635 : BitVec 32 := Scalar.addi v5 c2048_i32_987
  v1635
def k0_mult74 (i : grid0.Coords) : BitVec 32 :=
  let arg1 : BitVec 32 := BitVec.ofNat 32 (i 1).val
  let c0_i32_2 : BitVec 32 := 0#32
  let v5 : BitVec 32 := Scalar.minsi arg1 c0_i32_2
  let c2304_i32_1000 : BitVec 32 := 2304#32
  let v1656 : BitVec 32 := Scalar.addi v5 c2304_i32_1000
  v1656
def k0_mult75 (i : grid0.Coords) : BitVec 32 :=
  let arg1 : BitVec 32 := BitVec.ofNat 32 (i 1).val
  let c0_i32_2 : BitVec 32 := 0#32
  let v5 : BitVec 32 := Scalar.minsi arg1 c0_i32_2
  let c2560_i32_1013 : BitVec 32 := 2560#32
  let v1677 : BitVec 32 := Scalar.addi v5 c2560_i32_1013
  v1677
def k0_mult76 (i : grid0.Coords) : BitVec 32 :=
  let arg1 : BitVec 32 := BitVec.ofNat 32 (i 1).val
  let c0_i32_2 : BitVec 32 := 0#32
  let v5 : BitVec 32 := Scalar.minsi arg1 c0_i32_2
  let c2816_i32_1026 : BitVec 32 := 2816#32
  let v1698 : BitVec 32 := Scalar.addi v5 c2816_i32_1026
  v1698
def k0_mult77 (i : grid0.Coords) : BitVec 32 :=
  let arg1 : BitVec 32 := BitVec.ofNat 32 (i 1).val
  let c0_i32_2 : BitVec 32 := 0#32
  let v5 : BitVec 32 := Scalar.minsi arg1 c0_i32_2
  let c3072_i32_1039 : BitVec 32 := 3072#32
  let v1719 : BitVec 32 := Scalar.addi v5 c3072_i32_1039
  v1719
def k0_mult78 (i : grid0.Coords) : BitVec 32 :=
  let arg1 : BitVec 32 := BitVec.ofNat 32 (i 1).val
  let c0_i32_2 : BitVec 32 := 0#32
  let v5 : BitVec 32 := Scalar.minsi arg1 c0_i32_2
  let c3328_i32_1052 : BitVec 32 := 3328#32
  let v1740 : BitVec 32 := Scalar.addi v5 c3328_i32_1052
  v1740
def k0_mult79 (i : grid0.Coords) : BitVec 32 :=
  let arg1 : BitVec 32 := BitVec.ofNat 32 (i 1).val
  let c0_i32_2 : BitVec 32 := 0#32
  let v5 : BitVec 32 := Scalar.minsi arg1 c0_i32_2
  let c3584_i32_1065 : BitVec 32 := 3584#32
  let v1761 : BitVec 32 := Scalar.addi v5 c3584_i32_1065
  v1761
def k0_mult80 (i : grid0.Coords) : BitVec 32 :=
  let arg1 : BitVec 32 := BitVec.ofNat 32 (i 1).val
  let c0_i32_2 : BitVec 32 := 0#32
  let v5 : BitVec 32 := Scalar.minsi arg1 c0_i32_2
  let c3840_i32_1078 : BitVec 32 := 3840#32
  let v1782 : BitVec 32 := Scalar.addi v5 c3840_i32_1078
  v1782
def k0_mult81 (i : grid0.Coords) : BitVec 32 :=
  let arg1 : BitVec 32 := BitVec.ofNat 32 (i 1).val
  let c0_i32_2 : BitVec 32 := 0#32
  let v5 : BitVec 32 := Scalar.minsi arg1 c0_i32_2
  let c0_i32_1110 : BitVec 32 := 0#32
  let v1833 : BitVec 32 := Scalar.addi v5 c0_i32_1110
  v1833
def k0_mult82 (i : grid0.Coords) : BitVec 32 :=
  let arg1 : BitVec 32 := BitVec.ofNat 32 (i 1).val
  let c0_i32_2 : BitVec 32 := 0#32
  let v5 : BitVec 32 := Scalar.minsi arg1 c0_i32_2
  let c256_i32_1123 : BitVec 32 := 256#32
  let v1852 : BitVec 32 := Scalar.addi v5 c256_i32_1123
  v1852
def k0_mult83 (i : grid0.Coords) : BitVec 32 :=
  let arg1 : BitVec 32 := BitVec.ofNat 32 (i 1).val
  let c0_i32_2 : BitVec 32 := 0#32
  let v5 : BitVec 32 := Scalar.minsi arg1 c0_i32_2
  let c512_i32_1136 : BitVec 32 := 512#32
  let v1873 : BitVec 32 := Scalar.addi v5 c512_i32_1136
  v1873
def k0_mult84 (i : grid0.Coords) : BitVec 32 :=
  let arg1 : BitVec 32 := BitVec.ofNat 32 (i 1).val
  let c0_i32_2 : BitVec 32 := 0#32
  let v5 : BitVec 32 := Scalar.minsi arg1 c0_i32_2
  let c768_i32_1149 : BitVec 32 := 768#32
  let v1894 : BitVec 32 := Scalar.addi v5 c768_i32_1149
  v1894
def k0_mult85 (i : grid0.Coords) : BitVec 32 :=
  let arg1 : BitVec 32 := BitVec.ofNat 32 (i 1).val
  let c0_i32_2 : BitVec 32 := 0#32
  let v5 : BitVec 32 := Scalar.minsi arg1 c0_i32_2
  let c1024_i32_1162 : BitVec 32 := 1024#32
  let v1915 : BitVec 32 := Scalar.addi v5 c1024_i32_1162
  v1915
def k0_mult86 (i : grid0.Coords) : BitVec 32 :=
  let arg1 : BitVec 32 := BitVec.ofNat 32 (i 1).val
  let c0_i32_2 : BitVec 32 := 0#32
  let v5 : BitVec 32 := Scalar.minsi arg1 c0_i32_2
  let c1280_i32_1175 : BitVec 32 := 1280#32
  let v1936 : BitVec 32 := Scalar.addi v5 c1280_i32_1175
  v1936
def k0_mult87 (i : grid0.Coords) : BitVec 32 :=
  let arg1 : BitVec 32 := BitVec.ofNat 32 (i 1).val
  let c0_i32_2 : BitVec 32 := 0#32
  let v5 : BitVec 32 := Scalar.minsi arg1 c0_i32_2
  let c1536_i32_1188 : BitVec 32 := 1536#32
  let v1957 : BitVec 32 := Scalar.addi v5 c1536_i32_1188
  v1957
def k0_mult88 (i : grid0.Coords) : BitVec 32 :=
  let arg1 : BitVec 32 := BitVec.ofNat 32 (i 1).val
  let c0_i32_2 : BitVec 32 := 0#32
  let v5 : BitVec 32 := Scalar.minsi arg1 c0_i32_2
  let c1792_i32_1201 : BitVec 32 := 1792#32
  let v1978 : BitVec 32 := Scalar.addi v5 c1792_i32_1201
  v1978
def k0_mult89 (i : grid0.Coords) : BitVec 32 :=
  let arg1 : BitVec 32 := BitVec.ofNat 32 (i 1).val
  let c0_i32_2 : BitVec 32 := 0#32
  let v5 : BitVec 32 := Scalar.minsi arg1 c0_i32_2
  let c2048_i32_1214 : BitVec 32 := 2048#32
  let v1999 : BitVec 32 := Scalar.addi v5 c2048_i32_1214
  v1999
def k0_mult90 (i : grid0.Coords) : BitVec 32 :=
  let arg1 : BitVec 32 := BitVec.ofNat 32 (i 1).val
  let c0_i32_2 : BitVec 32 := 0#32
  let v5 : BitVec 32 := Scalar.minsi arg1 c0_i32_2
  let c2304_i32_1227 : BitVec 32 := 2304#32
  let v2020 : BitVec 32 := Scalar.addi v5 c2304_i32_1227
  v2020
def k0_mult91 (i : grid0.Coords) : BitVec 32 :=
  let arg1 : BitVec 32 := BitVec.ofNat 32 (i 1).val
  let c0_i32_2 : BitVec 32 := 0#32
  let v5 : BitVec 32 := Scalar.minsi arg1 c0_i32_2
  let c2560_i32_1240 : BitVec 32 := 2560#32
  let v2041 : BitVec 32 := Scalar.addi v5 c2560_i32_1240
  v2041
def k0_mult92 (i : grid0.Coords) : BitVec 32 :=
  let arg1 : BitVec 32 := BitVec.ofNat 32 (i 1).val
  let c0_i32_2 : BitVec 32 := 0#32
  let v5 : BitVec 32 := Scalar.minsi arg1 c0_i32_2
  let c2816_i32_1253 : BitVec 32 := 2816#32
  let v2062 : BitVec 32 := Scalar.addi v5 c2816_i32_1253
  v2062
def k0_mult93 (i : grid0.Coords) : BitVec 32 :=
  let arg1 : BitVec 32 := BitVec.ofNat 32 (i 1).val
  let c0_i32_2 : BitVec 32 := 0#32
  let v5 : BitVec 32 := Scalar.minsi arg1 c0_i32_2
  let c3072_i32_1266 : BitVec 32 := 3072#32
  let v2083 : BitVec 32 := Scalar.addi v5 c3072_i32_1266
  v2083
def k0_mult94 (i : grid0.Coords) : BitVec 32 :=
  let arg1 : BitVec 32 := BitVec.ofNat 32 (i 1).val
  let c0_i32_2 : BitVec 32 := 0#32
  let v5 : BitVec 32 := Scalar.minsi arg1 c0_i32_2
  let c3328_i32_1279 : BitVec 32 := 3328#32
  let v2104 : BitVec 32 := Scalar.addi v5 c3328_i32_1279
  v2104
def k0_mult95 (i : grid0.Coords) : BitVec 32 :=
  let arg1 : BitVec 32 := BitVec.ofNat 32 (i 1).val
  let c0_i32_2 : BitVec 32 := 0#32
  let v5 : BitVec 32 := Scalar.minsi arg1 c0_i32_2
  let c3584_i32_1292 : BitVec 32 := 3584#32
  let v2125 : BitVec 32 := Scalar.addi v5 c3584_i32_1292
  v2125
def k0_mult96 (i : grid0.Coords) : BitVec 32 :=
  let arg1 : BitVec 32 := BitVec.ofNat 32 (i 1).val
  let c0_i32_2 : BitVec 32 := 0#32
  let v5 : BitVec 32 := Scalar.minsi arg1 c0_i32_2
  let c3840_i32_1305 : BitVec 32 := 3840#32
  let v2146 : BitVec 32 := Scalar.addi v5 c3840_i32_1305
  v2146
def k0_mult97 (i : grid0.Coords) : BitVec 32 :=
  let arg1 : BitVec 32 := BitVec.ofNat 32 (i 1).val
  let c0_i32_2 : BitVec 32 := 0#32
  let v5 : BitVec 32 := Scalar.minsi arg1 c0_i32_2
  let c0_i32_1337 : BitVec 32 := 0#32
  let v2197 : BitVec 32 := Scalar.addi v5 c0_i32_1337
  v2197
def k0_mult98 (i : grid0.Coords) : BitVec 32 :=
  let arg1 : BitVec 32 := BitVec.ofNat 32 (i 1).val
  let c0_i32_2 : BitVec 32 := 0#32
  let v5 : BitVec 32 := Scalar.minsi arg1 c0_i32_2
  let c256_i32_1350 : BitVec 32 := 256#32
  let v2216 : BitVec 32 := Scalar.addi v5 c256_i32_1350
  v2216
def k0_mult99 (i : grid0.Coords) : BitVec 32 :=
  let arg1 : BitVec 32 := BitVec.ofNat 32 (i 1).val
  let c0_i32_2 : BitVec 32 := 0#32
  let v5 : BitVec 32 := Scalar.minsi arg1 c0_i32_2
  let c512_i32_1363 : BitVec 32 := 512#32
  let v2237 : BitVec 32 := Scalar.addi v5 c512_i32_1363
  v2237
def k0_mult100 (i : grid0.Coords) : BitVec 32 :=
  let arg1 : BitVec 32 := BitVec.ofNat 32 (i 1).val
  let c0_i32_2 : BitVec 32 := 0#32
  let v5 : BitVec 32 := Scalar.minsi arg1 c0_i32_2
  let c768_i32_1376 : BitVec 32 := 768#32
  let v2258 : BitVec 32 := Scalar.addi v5 c768_i32_1376
  v2258
def k0_mult101 (i : grid0.Coords) : BitVec 32 :=
  let arg1 : BitVec 32 := BitVec.ofNat 32 (i 1).val
  let c0_i32_2 : BitVec 32 := 0#32
  let v5 : BitVec 32 := Scalar.minsi arg1 c0_i32_2
  let c1024_i32_1389 : BitVec 32 := 1024#32
  let v2279 : BitVec 32 := Scalar.addi v5 c1024_i32_1389
  v2279
def k0_mult102 (i : grid0.Coords) : BitVec 32 :=
  let arg1 : BitVec 32 := BitVec.ofNat 32 (i 1).val
  let c0_i32_2 : BitVec 32 := 0#32
  let v5 : BitVec 32 := Scalar.minsi arg1 c0_i32_2
  let c1280_i32_1402 : BitVec 32 := 1280#32
  let v2300 : BitVec 32 := Scalar.addi v5 c1280_i32_1402
  v2300
def k0_mult103 (i : grid0.Coords) : BitVec 32 :=
  let arg1 : BitVec 32 := BitVec.ofNat 32 (i 1).val
  let c0_i32_2 : BitVec 32 := 0#32
  let v5 : BitVec 32 := Scalar.minsi arg1 c0_i32_2
  let c1536_i32_1415 : BitVec 32 := 1536#32
  let v2321 : BitVec 32 := Scalar.addi v5 c1536_i32_1415
  v2321
def k0_mult104 (i : grid0.Coords) : BitVec 32 :=
  let arg1 : BitVec 32 := BitVec.ofNat 32 (i 1).val
  let c0_i32_2 : BitVec 32 := 0#32
  let v5 : BitVec 32 := Scalar.minsi arg1 c0_i32_2
  let c1792_i32_1428 : BitVec 32 := 1792#32
  let v2342 : BitVec 32 := Scalar.addi v5 c1792_i32_1428
  v2342
def k0_mult105 (i : grid0.Coords) : BitVec 32 :=
  let arg1 : BitVec 32 := BitVec.ofNat 32 (i 1).val
  let c0_i32_2 : BitVec 32 := 0#32
  let v5 : BitVec 32 := Scalar.minsi arg1 c0_i32_2
  let c2048_i32_1441 : BitVec 32 := 2048#32
  let v2363 : BitVec 32 := Scalar.addi v5 c2048_i32_1441
  v2363
def k0_mult106 (i : grid0.Coords) : BitVec 32 :=
  let arg1 : BitVec 32 := BitVec.ofNat 32 (i 1).val
  let c0_i32_2 : BitVec 32 := 0#32
  let v5 : BitVec 32 := Scalar.minsi arg1 c0_i32_2
  let c2304_i32_1454 : BitVec 32 := 2304#32
  let v2384 : BitVec 32 := Scalar.addi v5 c2304_i32_1454
  v2384
def k0_mult107 (i : grid0.Coords) : BitVec 32 :=
  let arg1 : BitVec 32 := BitVec.ofNat 32 (i 1).val
  let c0_i32_2 : BitVec 32 := 0#32
  let v5 : BitVec 32 := Scalar.minsi arg1 c0_i32_2
  let c2560_i32_1467 : BitVec 32 := 2560#32
  let v2405 : BitVec 32 := Scalar.addi v5 c2560_i32_1467
  v2405
def k0_mult108 (i : grid0.Coords) : BitVec 32 :=
  let arg1 : BitVec 32 := BitVec.ofNat 32 (i 1).val
  let c0_i32_2 : BitVec 32 := 0#32
  let v5 : BitVec 32 := Scalar.minsi arg1 c0_i32_2
  let c2816_i32_1480 : BitVec 32 := 2816#32
  let v2426 : BitVec 32 := Scalar.addi v5 c2816_i32_1480
  v2426
def k0_mult109 (i : grid0.Coords) : BitVec 32 :=
  let arg1 : BitVec 32 := BitVec.ofNat 32 (i 1).val
  let c0_i32_2 : BitVec 32 := 0#32
  let v5 : BitVec 32 := Scalar.minsi arg1 c0_i32_2
  let c3072_i32_1493 : BitVec 32 := 3072#32
  let v2447 : BitVec 32 := Scalar.addi v5 c3072_i32_1493
  v2447
def k0_mult110 (i : grid0.Coords) : BitVec 32 :=
  let arg1 : BitVec 32 := BitVec.ofNat 32 (i 1).val
  let c0_i32_2 : BitVec 32 := 0#32
  let v5 : BitVec 32 := Scalar.minsi arg1 c0_i32_2
  let c3328_i32_1506 : BitVec 32 := 3328#32
  let v2468 : BitVec 32 := Scalar.addi v5 c3328_i32_1506
  v2468
def k0_mult111 (i : grid0.Coords) : BitVec 32 :=
  let arg1 : BitVec 32 := BitVec.ofNat 32 (i 1).val
  let c0_i32_2 : BitVec 32 := 0#32
  let v5 : BitVec 32 := Scalar.minsi arg1 c0_i32_2
  let c3584_i32_1519 : BitVec 32 := 3584#32
  let v2489 : BitVec 32 := Scalar.addi v5 c3584_i32_1519
  v2489
def k0_mult112 (i : grid0.Coords) : BitVec 32 :=
  let arg1 : BitVec 32 := BitVec.ofNat 32 (i 1).val
  let c0_i32_2 : BitVec 32 := 0#32
  let v5 : BitVec 32 := Scalar.minsi arg1 c0_i32_2
  let c3840_i32_1532 : BitVec 32 := 3840#32
  let v2510 : BitVec 32 := Scalar.addi v5 c3840_i32_1532
  v2510
def k0_mult113 (i : grid0.Coords) : BitVec 32 :=
  let arg1 : BitVec 32 := BitVec.ofNat 32 (i 1).val
  let c0_i32_2 : BitVec 32 := 0#32
  let v5 : BitVec 32 := Scalar.minsi arg1 c0_i32_2
  let c0_i32_1564 : BitVec 32 := 0#32
  let v2561 : BitVec 32 := Scalar.addi v5 c0_i32_1564
  v2561
def k0_mult114 (i : grid0.Coords) : BitVec 32 :=
  let arg1 : BitVec 32 := BitVec.ofNat 32 (i 1).val
  let c0_i32_2 : BitVec 32 := 0#32
  let v5 : BitVec 32 := Scalar.minsi arg1 c0_i32_2
  let c256_i32_1577 : BitVec 32 := 256#32
  let v2580 : BitVec 32 := Scalar.addi v5 c256_i32_1577
  v2580
def k0_mult115 (i : grid0.Coords) : BitVec 32 :=
  let arg1 : BitVec 32 := BitVec.ofNat 32 (i 1).val
  let c0_i32_2 : BitVec 32 := 0#32
  let v5 : BitVec 32 := Scalar.minsi arg1 c0_i32_2
  let c512_i32_1590 : BitVec 32 := 512#32
  let v2601 : BitVec 32 := Scalar.addi v5 c512_i32_1590
  v2601
def k0_mult116 (i : grid0.Coords) : BitVec 32 :=
  let arg1 : BitVec 32 := BitVec.ofNat 32 (i 1).val
  let c0_i32_2 : BitVec 32 := 0#32
  let v5 : BitVec 32 := Scalar.minsi arg1 c0_i32_2
  let c768_i32_1603 : BitVec 32 := 768#32
  let v2622 : BitVec 32 := Scalar.addi v5 c768_i32_1603
  v2622
def k0_mult117 (i : grid0.Coords) : BitVec 32 :=
  let arg1 : BitVec 32 := BitVec.ofNat 32 (i 1).val
  let c0_i32_2 : BitVec 32 := 0#32
  let v5 : BitVec 32 := Scalar.minsi arg1 c0_i32_2
  let c1024_i32_1616 : BitVec 32 := 1024#32
  let v2643 : BitVec 32 := Scalar.addi v5 c1024_i32_1616
  v2643
def k0_mult118 (i : grid0.Coords) : BitVec 32 :=
  let arg1 : BitVec 32 := BitVec.ofNat 32 (i 1).val
  let c0_i32_2 : BitVec 32 := 0#32
  let v5 : BitVec 32 := Scalar.minsi arg1 c0_i32_2
  let c1280_i32_1629 : BitVec 32 := 1280#32
  let v2664 : BitVec 32 := Scalar.addi v5 c1280_i32_1629
  v2664
def k0_mult119 (i : grid0.Coords) : BitVec 32 :=
  let arg1 : BitVec 32 := BitVec.ofNat 32 (i 1).val
  let c0_i32_2 : BitVec 32 := 0#32
  let v5 : BitVec 32 := Scalar.minsi arg1 c0_i32_2
  let c1536_i32_1642 : BitVec 32 := 1536#32
  let v2685 : BitVec 32 := Scalar.addi v5 c1536_i32_1642
  v2685
def k0_mult120 (i : grid0.Coords) : BitVec 32 :=
  let arg1 : BitVec 32 := BitVec.ofNat 32 (i 1).val
  let c0_i32_2 : BitVec 32 := 0#32
  let v5 : BitVec 32 := Scalar.minsi arg1 c0_i32_2
  let c1792_i32_1655 : BitVec 32 := 1792#32
  let v2706 : BitVec 32 := Scalar.addi v5 c1792_i32_1655
  v2706
def k0_mult121 (i : grid0.Coords) : BitVec 32 :=
  let arg1 : BitVec 32 := BitVec.ofNat 32 (i 1).val
  let c0_i32_2 : BitVec 32 := 0#32
  let v5 : BitVec 32 := Scalar.minsi arg1 c0_i32_2
  let c2048_i32_1668 : BitVec 32 := 2048#32
  let v2727 : BitVec 32 := Scalar.addi v5 c2048_i32_1668
  v2727
def k0_mult122 (i : grid0.Coords) : BitVec 32 :=
  let arg1 : BitVec 32 := BitVec.ofNat 32 (i 1).val
  let c0_i32_2 : BitVec 32 := 0#32
  let v5 : BitVec 32 := Scalar.minsi arg1 c0_i32_2
  let c2304_i32_1681 : BitVec 32 := 2304#32
  let v2748 : BitVec 32 := Scalar.addi v5 c2304_i32_1681
  v2748
def k0_mult123 (i : grid0.Coords) : BitVec 32 :=
  let arg1 : BitVec 32 := BitVec.ofNat 32 (i 1).val
  let c0_i32_2 : BitVec 32 := 0#32
  let v5 : BitVec 32 := Scalar.minsi arg1 c0_i32_2
  let c2560_i32_1694 : BitVec 32 := 2560#32
  let v2769 : BitVec 32 := Scalar.addi v5 c2560_i32_1694
  v2769
def k0_mult124 (i : grid0.Coords) : BitVec 32 :=
  let arg1 : BitVec 32 := BitVec.ofNat 32 (i 1).val
  let c0_i32_2 : BitVec 32 := 0#32
  let v5 : BitVec 32 := Scalar.minsi arg1 c0_i32_2
  let c2816_i32_1707 : BitVec 32 := 2816#32
  let v2790 : BitVec 32 := Scalar.addi v5 c2816_i32_1707
  v2790
def k0_mult125 (i : grid0.Coords) : BitVec 32 :=
  let arg1 : BitVec 32 := BitVec.ofNat 32 (i 1).val
  let c0_i32_2 : BitVec 32 := 0#32
  let v5 : BitVec 32 := Scalar.minsi arg1 c0_i32_2
  let c3072_i32_1720 : BitVec 32 := 3072#32
  let v2811 : BitVec 32 := Scalar.addi v5 c3072_i32_1720
  v2811
def k0_mult126 (i : grid0.Coords) : BitVec 32 :=
  let arg1 : BitVec 32 := BitVec.ofNat 32 (i 1).val
  let c0_i32_2 : BitVec 32 := 0#32
  let v5 : BitVec 32 := Scalar.minsi arg1 c0_i32_2
  let c3328_i32_1733 : BitVec 32 := 3328#32
  let v2832 : BitVec 32 := Scalar.addi v5 c3328_i32_1733
  v2832
def k0_mult127 (i : grid0.Coords) : BitVec 32 :=
  let arg1 : BitVec 32 := BitVec.ofNat 32 (i 1).val
  let c0_i32_2 : BitVec 32 := 0#32
  let v5 : BitVec 32 := Scalar.minsi arg1 c0_i32_2
  let c3584_i32_1746 : BitVec 32 := 3584#32
  let v2853 : BitVec 32 := Scalar.addi v5 c3584_i32_1746
  v2853
def k0_mult128 (i : grid0.Coords) : BitVec 32 :=
  let arg1 : BitVec 32 := BitVec.ofNat 32 (i 1).val
  let c0_i32_2 : BitVec 32 := 0#32
  let v5 : BitVec 32 := Scalar.minsi arg1 c0_i32_2
  let c3840_i32_1759 : BitVec 32 := 3840#32
  let v2874 : BitVec 32 := Scalar.addi v5 c3840_i32_1759
  v2874
def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_1 (i : grid0.Coords) : Fin 5 → Nat :=
  let arg0 : BitVec 32 := BitVec.ofNat 32 (i 0).val
  let arg1 : BitVec 32 := BitVec.ofNat 32 (i 1).val
  let c7_i32 : BitVec 32 := 7#32
  let v0 : BitVec 1 := Scalar.cmpi .eq arg1 c7_i32
  let v1 : BitVec 32 := Scalar.extui v0
  let v2 : BitVec 32 := Scalar.addi arg0 v1
  let c15_i32 : BitVec 32 := 15#32
  let v3 : BitVec 32 := Scalar.minsi v2 c15_i32
  let c7_i32_0 : BitVec 32 := 7#32
  let v4 : BitVec 1 := Scalar.cmpi .eq arg1 c7_i32_0
  let c1_i32 : BitVec 32 := 1#32
  let v5 : BitVec 32 := Scalar.addi arg1 c1_i32
  let c4_i32 : BitVec 32 := 4#32
  let v6 : BitVec 32 := Scalar.muli c4_i32 v5
  let c0_i32 : BitVec 32 := 0#32
  let v7 : BitVec 32 := Scalar.select v4 c0_i32 v6
  let c0_i32_1 : BitVec 32 := 0#32
  let c0_i32_2 : BitVec 32 := 0#32
  let c0_i32_3 : BitVec 32 := 0#32
  let c0_i32_4 : BitVec 32 := 0#32
  ![v3.toNat, c0_i32_1.toNat, v7.toNat, c0_i32_2.toNat, c0_i32_3.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 1 := Scalar.cmpi .eq arg1 c7_i32
  let v1 : BitVec 32 := Scalar.extui v0
  let v2 : BitVec 32 := Scalar.addi arg0 v1
  let c15_i32 : BitVec 32 := 15#32
  let v3 : BitVec 32 := Scalar.minsi v2 c15_i32
  let c0_i32 : BitVec 32 := 0#32
  let c0_i32_0 : BitVec 32 := 0#32
  ![v3.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1x2x4x64x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2x1x64x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2x80x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S16x4096x8x64 : Shape := ⟨4, ![16, 4096, 8, 64]⟩
abbrev S16x4096x2x64 : Shape := ⟨4, ![16, 4096, 2, 64]⟩
abbrev S65536x512 : Shape := ⟨2, ![65536, 512]⟩
abbrev S16x4096x2x4x64 : Shape := ⟨5, ![16, 4096, 2, 4, 64]⟩
abbrev S16x2x4096x4096x4 : Shape := ⟨5, ![16, 2, 4096, 4096, 4]⟩
abbrev S16x2x4x4096x4096 : Shape := ⟨5, ![16, 2, 4, 4096, 4096]⟩
abbrev S_ : Shape := ⟨0, ![]⟩
abbrev S16x2x4x4096 : Shape := ⟨4, ![16, 2, 4, 4096]⟩
abbrev S16x2x4x4096x1 : Shape := ⟨5, ![16, 2, 4, 4096, 1]⟩
abbrev S16x2x64x4x4096 : Shape := ⟨5, ![16, 2, 64, 4, 4096]⟩

abbrev nBuf : Space → Nat
  | .hbm => 29
  | .vmem => 0
  | .smem => 0
  | _ => 0

abbrev bufTy : (tb : Table) → Fin (tcTables nBuf tb) → BufTy
  | .hbm, ⟨0, _⟩ => ⟨S16x4096x8x64, .f32⟩
  | .hbm, ⟨1, _⟩ => ⟨S16x4096x2x64, .f32⟩
  | .hbm, ⟨2, _⟩ => ⟨S16x4096x2x64, .f32⟩
  | .hbm, ⟨3, _⟩ => ⟨S65536x512, .f32⟩
  | .hbm, ⟨4, _⟩ => ⟨S16x4096x2x4x64, .f32⟩
  | .hbm, ⟨5, _⟩ => ⟨S16x2x4096x4096x4, .f32⟩
  | .hbm, ⟨6, _⟩ => ⟨S16x2x4x4096x4096, .f32⟩
  | .hbm, ⟨7, _⟩ => ⟨S_, .f32⟩
  | .hbm, ⟨8, _⟩ => ⟨S16x2x4x4096x4096, .f32⟩
  | .hbm, ⟨9, _⟩ => ⟨S16x2x4x4096x4096, .f32⟩
  | .hbm, ⟨10, _⟩ => ⟨S_, .f32⟩
  | .hbm, ⟨11, _⟩ => ⟨S16x2x4x4096, .f32⟩
  | .hbm, ⟨12, _⟩ => ⟨S_, .f32⟩
  | .hbm, ⟨13, _⟩ => ⟨S16x2x4x4096, .f32⟩
  | .hbm, ⟨14, _⟩ => ⟨S16x2x4x4096, .f32⟩
  | .hbm, ⟨15, _⟩ => ⟨S16x2x4x4096x1, .f32⟩
  | .hbm, ⟨16, _⟩ => ⟨S16x2x4x4096x4096, .f32⟩
  | .hbm, ⟨17, _⟩ => ⟨S16x2x4x4096x4096, .f32⟩
  | .hbm, ⟨18, _⟩ => ⟨S16x2x4x4096x4096, .f32⟩
  | .hbm, ⟨19, _⟩ => ⟨S_, .f32⟩
  | .hbm, ⟨20, _⟩ => ⟨S16x2x4x4096, .f32⟩
  | .hbm, ⟨21, _⟩ => ⟨S16x2x4x4096x1, .f32⟩
  | .hbm, ⟨22, _⟩ => ⟨S16x2x4x4096x4096, .f32⟩
  | .hbm, ⟨23, _⟩ => ⟨S16x2x4x4096x4096, .f32⟩
  | .hbm, ⟨24, _⟩ => ⟨S16x2x64x4x4096, .f32⟩
  | .hbm, ⟨25, _⟩ => ⟨S16x4096x2x4x64, .f32⟩
  | .hbm, ⟨26, _⟩ => ⟨S65536x512, .f32⟩
  | .hbm, ⟨27, _⟩ => ⟨S65536x512, .f32⟩
  | .hbm, ⟨28, _⟩ => ⟨S65536x512, .bf16⟩
  | _, _ => ⟨S16x4096x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== Kernel2.lean ====
abbrev S16x4096x1024 : Shape := ⟨3, ![16, 4096, 1024]⟩
abbrev S16x4096x512 : Shape := ⟨3, ![16, 4096, 512]⟩
abbrev S1024x1024 : Shape := ⟨2, ![1024, 1024]⟩
abbrev S1024 : Shape := ⟨1, ![1024]⟩
abbrev S65536x1024 : Shape := ⟨2, ![65536, 1024]⟩
abbrev S65536x512 : Shape := ⟨2, ![65536, 512]⟩
abbrev S1x1024 : Shape := ⟨2, ![1, 1024]⟩
abbrev S1024x512 : Shape := ⟨2, ![1024, 512]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩

abbrev nBuf : Space → Nat
  | .hbm => 13
  | .vmem => 10
  | .smem => 0
  | _ => 0

abbrev bufTy : (tb : Table) → Fin (tcTables nBuf tb) → BufTy
  | .hbm, ⟨0, _⟩ => ⟨S16x4096x1024, .f32⟩
  | .hbm, ⟨1, _⟩ => ⟨S16x4096x512, .f32⟩
  | .hbm, ⟨2, _⟩ => ⟨S16x4096x512, .f32⟩
  | .hbm, ⟨3, _⟩ => ⟨S1024x1024, .f32⟩
  | .hbm, ⟨4, _⟩ => ⟨S1024, .f32⟩
  | .hbm, ⟨5, _⟩ => ⟨S65536x1024, .f32⟩
  | .hbm, ⟨6, _⟩ => ⟨S65536x512, .f32⟩
  | .hbm, ⟨7, _⟩ => ⟨S65536x512, .bf16⟩
  | .hbm, ⟨8, _⟩ => ⟨S65536x512, .f32⟩
  | .hbm, ⟨9, _⟩ => ⟨S65536x512, .bf16⟩
  | .hbm, ⟨10, _⟩ => ⟨S1024x1024, .bf16⟩
  | .hbm, ⟨11, _⟩ => ⟨S1x1024, .f32⟩
  | .hbm, ⟨12, _⟩ => ⟨S65536x1024, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x1024, .bf16⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S16x4096x1024 : Shape := ⟨3, ![16, 4096, 1024]⟩
abbrev S16x4096x512 : Shape := ⟨3, ![16, 4096, 512]⟩
abbrev S1024x1024 : Shape := ⟨2, ![1024, 1024]⟩
abbrev S1024 : Shape := ⟨1, ![1024]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩
abbrev S65536x1024 : Shape := ⟨2, ![65536, 1024]⟩

abbrev nBuf : Space → Nat
  | .hbm => 25
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S16x4096x512, .f32⟩
  | .hbm, ⟨2, _⟩ => ⟨S16x4096x512, .f32⟩
  | .hbm, ⟨3, _⟩ => ⟨S1024x1024, .f32⟩
  | .hbm, ⟨4, _⟩ => ⟨S1024, .f32⟩
  | .hbm, ⟨5, _⟩ => ⟨S16x4096x1024, .f32⟩
  | .hbm, ⟨6, _⟩ => ⟨S16x4096x1024, .f32⟩
  | .hbm, ⟨7, _⟩ => ⟨S16x4096x1024, .f32⟩
  | .hbm, ⟨8, _⟩ => ⟨S_, .f32⟩
  | .hbm, ⟨9, _⟩ => ⟨S16x4096, .f32⟩
  | .hbm, ⟨10, _⟩ => ⟨S16x4096x1, .f32⟩
  | .hbm, ⟨11, _⟩ => ⟨S_, .f32⟩
  | .hbm, ⟨12, _⟩ => ⟨S16x4096x1, .f32⟩
  | .hbm, ⟨13, _⟩ => ⟨S16x4096x1, .f32⟩
  | .hbm, ⟨14, _⟩ => ⟨S_, .f32⟩
  | .hbm, ⟨15, _⟩ => ⟨S16x4096x1, .f32⟩
  | .hbm, ⟨16, _⟩ => ⟨S16x4096x1, .f32⟩
  | .hbm, ⟨17, _⟩ => ⟨S16x4096x1, .f32⟩
  | .hbm, ⟨18, _⟩ => ⟨S16x4096x1024, .f32⟩
  | .hbm, ⟨19, _⟩ => ⟨S16x4096x1024, .f32⟩
  | .hbm, ⟨20, _⟩ => ⟨S1x1x1024, .f32⟩
  | .hbm, ⟨21, _⟩ => ⟨S16x4096x1024, .f32⟩
  | .hbm, ⟨22, _⟩ => ⟨S16x4096x1024, .f32⟩
  | .hbm, ⟨23, _⟩ => ⟨S16x4096x1024, .f32⟩
  | .hbm, ⟨24, _⟩ => ⟨S65536x1024, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]
-- ==== Kernel3.lean ====
abbrev S16x4096x1024 : Shape := ⟨3, ![16, 4096, 1024]⟩
abbrev S1024x2816 : Shape := ⟨2, ![1024, 2816]⟩
abbrev S1024 : Shape := ⟨1, ![1024]⟩
abbrev S512 : Shape := ⟨1, ![512]⟩
abbrev S8x128x128 : Shape := ⟨3, ![8, 128, 128]⟩
abbrev S8x128 : Shape := ⟨2, ![8, 128]⟩
abbrev S64 : Shape := ⟨1, ![64]⟩
abbrev S4096 : Shape := ⟨1, ![4096]⟩
abbrev S_ : Shape := ⟨0, ![]⟩
abbrev S16 : Shape := ⟨1, ![16]⟩
abbrev S16x1 : Shape := ⟨2, ![16, 1]⟩
abbrev S1x4096 : Shape := ⟨2, ![1, 4096]⟩
abbrev S16x4096 : Shape := ⟨2, ![16, 4096]⟩
abbrev S32x4096 : Shape := ⟨2, ![32, 4096]⟩
abbrev S65536x1024 : Shape := ⟨2, ![65536, 1024]⟩
abbrev S1x1024x2816 : Shape := ⟨3, ![1, 1024, 2816]⟩
abbrev S1x1024 : Shape := ⟨2, ![1, 1024]⟩
abbrev S1x512 : Shape := ⟨2, ![1, 512]⟩
abbrev S1x8x128x128 : Shape := ⟨4, ![1, 8, 128, 128]⟩
abbrev S1x8x128 : Shape := ⟨3, ![1, 8, 128]⟩
abbrev S1x64 : Shape := ⟨2, ![1, 64]⟩
abbrev S1x1024x1536 : Shape := ⟨3, ![1, 1024, 1536]⟩
abbrev S1x1024x512 : Shape := ⟨3, ![1, 1024, 512]⟩
abbrev S1x1024x2048 : Shape := ⟨3, ![1, 1024, 2048]⟩
abbrev S1x1024x768 : Shape := ⟨3, ![1, 1024, 768]⟩
abbrev S1x768x1024 : Shape := ⟨3, ![1, 768, 1024]⟩
abbrev S1x4x128x128 : Shape := ⟨4, ![1, 4, 128, 128]⟩
abbrev S1x4x128x256 : Shape := ⟨4, ![1, 4, 128, 256]⟩
abbrev S1x128x8 : Shape := ⟨3, ![1, 128, 8]⟩
abbrev S1x128x8x64 : Shape := ⟨4, ![1, 128, 8, 64]⟩
abbrev S1x128x512 : Shape := ⟨3, ![1, 128, 512]⟩
abbrev S1x64x1 : Shape := ⟨3, ![1, 64, 1]⟩
abbrev S1x64x128 : Shape := ⟨3, ![1, 64, 128]⟩
abbrev S1x1x1024 : Shape := ⟨3, ![1, 1, 1024]⟩
abbrev S1x1x512 : Shape := ⟨3, ![1, 1, 512]⟩
abbrev S1024x2048 : Shape := ⟨2, ![1024, 2048]⟩
abbrev S768x1024 : Shape := ⟨2, ![768, 1024]⟩
abbrev S4x128x256 : Shape := ⟨3, ![4, 128, 256]⟩
abbrev S128x512 : Shape := ⟨2, ![128, 512]⟩
abbrev S64x128 : Shape := ⟨2, ![64, 128]⟩
abbrev S65536x512 : Shape := ⟨2, ![65536, 512]⟩
abbrev S16x2x32x64x512 : Shape := ⟨5, ![16, 2, 32, 64, 512]⟩
abbrev S65536x128 : Shape := ⟨2, ![65536, 128]⟩
abbrev S16x2x80x4096 : Shape := ⟨4, ![16, 2, 80, 4096]⟩
abbrev S1024x1024 : Shape := ⟨2, ![1024, 1024]⟩
abbrev S32x1024 : Shape := ⟨2, ![32, 1024]⟩
abbrev S1024x512 : Shape := ⟨2, ![1024, 512]⟩
abbrev S1x2x8x64x512 : Shape := ⟨5, ![1, 2, 8, 64, 512]⟩
abbrev S1024x128 : Shape := ⟨2, ![1024, 128]⟩
abbrev S1x2x80x1024 : Shape := ⟨4, ![1, 2, 80, 1024]⟩
abbrev S512x1024 : Shape := ⟨2, ![512, 1024]⟩
abbrev S512x1 : Shape := ⟨2, ![512, 1]⟩
abbrev S768x512 : Shape := ⟨2, ![768, 512]⟩
abbrev S32x512 : Shape := ⟨2, ![32, 512]⟩
abbrev S64x512 : Shape := ⟨2, ![64, 512]⟩
abbrev S512x512 : Shape := ⟨2, ![512, 512]⟩
abbrev S8x64x512 : Shape := ⟨3, ![8, 64, 512]⟩
abbrev S8x512 : Shape := ⟨2, ![8, 512]⟩
abbrev S8x1x512 : Shape := ⟨3, ![8, 1, 512]⟩
abbrev S1x64x512 : Shape := ⟨3, ![1, 64, 512]⟩
abbrev S8x16x512 : Shape := ⟨3, ![8, 16, 512]⟩
abbrev S16x512 : Shape := ⟨2, ![16, 512]⟩
abbrev S1x16x512 : Shape := ⟨3, ![1, 16, 512]⟩
abbrev S1x1x1x64x512 : Shape := ⟨5, ![1, 1, 1, 64, 512]⟩
abbrev S2x64x512 : Shape := ⟨3, ![2, 64, 512]⟩
abbrev S2x512 : Shape := ⟨2, ![2, 512]⟩
abbrev S2x1x512 : Shape := ⟨3, ![2, 1, 512]⟩
abbrev S2x16x512 : Shape := ⟨3, ![2, 16, 512]⟩
abbrev S512x128 : Shape := ⟨2, ![512, 128]⟩
abbrev S80x512 : Shape := ⟨2, ![80, 512]⟩
abbrev S1x1x80x512 : Shape := ⟨4, ![1, 1, 80, 512]⟩
abbrev S512x2048 : Shape := ⟨2, ![512, 2048]⟩
abbrev S128x128 : Shape := ⟨2, ![128, 128]⟩
abbrev S256x128 : Shape := ⟨2, ![256, 128]⟩
abbrev S1x128x256 : Shape := ⟨3, ![1, 128, 256]⟩
abbrev S128x256 : Shape := ⟨2, ![128, 256]⟩
abbrev S256x256 : Shape := ⟨2, ![256, 256]⟩

abbrev nBuf : Space → Nat
  | .hbm => 123
  | .vmem => 25
  | .smem => 0
  | _ => 0

abbrev bufTy : (tb : Table) → Fin (tcTables nBuf tb) → BufTy
  | .hbm, ⟨0, _⟩ => ⟨S16x4096x1024, .f32⟩
  | .hbm, ⟨1, _⟩ => ⟨S1024x2816, .f32⟩
  | .hbm, ⟨2, _⟩ => ⟨S1024, .f32⟩
  | .hbm, ⟨3, _⟩ => ⟨S512, .f32⟩
  | .hbm, ⟨4, _⟩ => ⟨S512, .f32⟩
  | .hbm, ⟨5, _⟩ => ⟨S8x128x128, .f32⟩
  | .hbm, ⟨6, _⟩ => ⟨S8x128, .f32⟩
  | .hbm, ⟨7, _⟩ => ⟨S64, .f32⟩
  | .hbm, ⟨8, _⟩ => ⟨S64, .f32⟩
  | .hbm, ⟨9, _⟩ => ⟨S4096, .i32⟩
  | .hbm, ⟨10, _⟩ => ⟨S_, .i32⟩
  | .hbm, ⟨11, _⟩ => ⟨S_, .i32⟩
  | .hbm, ⟨12, _⟩ => ⟨S4096, .i32⟩
  | .hbm, ⟨13, _⟩ => ⟨S4096, .i32⟩
  | .hbm, ⟨14, _⟩ => ⟨S4096, .i32⟩
  | .hbm, ⟨15, _⟩ => ⟨S_, .i32⟩
  | .hbm, ⟨16, _⟩ => ⟨S4096, .i32⟩
  | .hbm, ⟨17, _⟩ => ⟨S4096, .i1⟩
  | .hbm, ⟨18, _⟩ => ⟨S4096, .i32⟩
  | .hbm, ⟨19, _⟩ => ⟨S4096, .i32⟩
  | .hbm, ⟨20, _⟩ => ⟨S_, .i32⟩
  | .hbm, ⟨21, _⟩ => ⟨S4096, .i32⟩
  | .hbm, ⟨22, _⟩ => ⟨S4096, .i1⟩
  | .hbm, ⟨23, _⟩ => ⟨S4096, .i1⟩
  | .hbm, ⟨24, _⟩ => ⟨S_, .i32⟩
  | .hbm, ⟨25, _⟩ => ⟨S4096, .i32⟩
  | .hbm, ⟨26, _⟩ => ⟨S4096, .i32⟩
  | .hbm, ⟨27, _⟩ => ⟨S4096, .i32⟩
  | .hbm, ⟨28, _⟩ => ⟨S4096, .f32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i1⟩
  | .hbm, ⟨33, _⟩ => ⟨S_, .i32⟩
  | .hbm, ⟨34, _⟩ => ⟨S_, .i32⟩
  | .hbm, ⟨35, _⟩ => ⟨S4096, .i32⟩
  | .hbm, ⟨36, _⟩ => ⟨S4096, .i32⟩
  | .hbm, ⟨37, _⟩ => ⟨S_, .i32⟩
  | .hbm, ⟨38, _⟩ => ⟨S4096, .i32⟩
  | .hbm, ⟨39, _⟩ => ⟨S4096, .i1⟩
  | .hbm, ⟨40, _⟩ => ⟨S_, .i32⟩
  | .hbm, ⟨41, _⟩ => ⟨S4096, .i32⟩
  | .hbm, ⟨42, _⟩ => ⟨S4096, .i1⟩
  | .hbm, ⟨43, _⟩ => ⟨S_, .i32⟩
  | .hbm, ⟨44, _⟩ => ⟨S_, .i1⟩
  | .hbm, ⟨45, _⟩ => ⟨S4096, .i1⟩
  | .hbm, ⟨46, _⟩ => ⟨S4096, .i1⟩
  | .hbm, ⟨47, _⟩ => ⟨S4096, .i1⟩
  | .hbm, ⟨48, _⟩ => ⟨S4096, .i32⟩
  | .hbm, ⟨49, _⟩ => ⟨S4096, .i32⟩
  | .hbm, ⟨50, _⟩ => ⟨S4096, .i32⟩
  | .hbm, ⟨51, _⟩ => ⟨S4096, .f32⟩
  | .hbm, ⟨52, _⟩ => ⟨S16, .f32⟩
  | .hbm, ⟨53, _⟩ => ⟨S_, .f32⟩
  | .hbm, ⟨54, _⟩ => ⟨S16, .f32⟩
  | .hbm, ⟨55, _⟩ => ⟨S16, .f32⟩
  | .hbm, ⟨56, _⟩ => ⟨S_, .f32⟩
  | .hbm, ⟨57, _⟩ => ⟨S16, .f32⟩
  | .hbm, ⟨58, _⟩ => ⟨S16, .f32⟩
  | .hbm, ⟨59, _⟩ => ⟨S16, .f32⟩
  | .hbm, ⟨60, _⟩ => ⟨S_, .f32⟩
  | .hbm, ⟨61, _⟩ => ⟨S16, .f32⟩
  | .hbm, ⟨62, _⟩ => ⟨S16, .f32⟩
  | .hbm, ⟨63, _⟩ => ⟨S_, .f32⟩
  | .hbm, ⟨64, _⟩ => ⟨S16, .f32⟩
  | .hbm, ⟨65, _⟩ => ⟨S16, .f32⟩
  | .hbm, ⟨66, _⟩ => ⟨S16x1, .f32⟩
  | .hbm, ⟨67, _⟩ => ⟨S1x4096, .f32⟩
  | .hbm, ⟨68, _⟩ => ⟨S16x4096, .f32⟩
  | .hbm, ⟨69, _⟩ => ⟨S16x4096, .f32⟩
  | .hbm, ⟨70, _⟩ => ⟨S16x4096, .f32⟩
  | .hbm, ⟨71, _⟩ => ⟨S16x1, .f32⟩
  | .hbm, ⟨72, _⟩ => ⟨S1x4096, .f32⟩
  | .hbm, ⟨73, _⟩ => ⟨S16x4096, .f32⟩
  | .hbm, ⟨74, _⟩ => ⟨S16x4096, .f32⟩
  | .hbm, ⟨75, _⟩ => ⟨S16x4096, .f32⟩
  | .hbm, ⟨76, _⟩ => ⟨S32x4096, .f32⟩
  | .hbm, ⟨77, _⟩ => ⟨S32x4096, .f32⟩
  | .hbm, ⟨78, _⟩ => ⟨S32x4096, .f32⟩
  | .hbm, ⟨79, _⟩ => ⟨S65536x1024, .f32⟩
  | .hbm, ⟨80, _⟩ => ⟨S1x1024x2816, .f32⟩
  | .hbm, ⟨81, _⟩ => ⟨S1x1024, .f32⟩
  | .hbm, ⟨82, _⟩ => ⟨S1x512, .f32⟩
  | .hbm, ⟨83, _⟩ => ⟨S1x512, .f32⟩
  | .hbm, ⟨84, _⟩ => ⟨S1x8x128x128, .f32⟩
  | .hbm, ⟨85, _⟩ => ⟨S1x8x128, .f32⟩
  | .hbm, ⟨86, _⟩ => ⟨S1x64, .f32⟩
  | .hbm, ⟨87, _⟩ => ⟨S1x64, .f32⟩
  | .hbm, ⟨88, _⟩ => ⟨S1x1024x1536, .f32⟩
  | .hbm, ⟨89, _⟩ => ⟨S1x1024x512, .f32⟩
  | .hbm, ⟨90, _⟩ => ⟨S1x1024x2048, .f32⟩
  | .hbm, ⟨91, _⟩ => ⟨S1x1024x2048, .bf16⟩
  | .hbm, ⟨92, _⟩ => ⟨S1x1024x768, .f32⟩
  | .hbm, ⟨93, _⟩ => ⟨S1x768x1024, .f32⟩
  | .hbm, ⟨94, _⟩ => ⟨S1x768x1024, .bf16⟩
  | .hbm, ⟨95, _⟩ => ⟨S1x8x128x128, .bf16⟩
  | .hbm, ⟨96, _⟩ => ⟨S1x4x128x128, .bf16⟩
  | .hbm, ⟨97, _⟩ => ⟨S1x4x128x128, .bf16⟩
  | .hbm, ⟨98, _⟩ => ⟨S1x4x128x256, .bf16⟩
  | .hbm, ⟨99, _⟩ => ⟨S1x128x8, .f32⟩
  | .hbm, ⟨100, _⟩ => ⟨S1x128x8x64, .f32⟩
  | .hbm, ⟨101, _⟩ => ⟨S1x128x512, .f32⟩
  | .hbm, ⟨102, _⟩ => ⟨S1x64x1, .f32⟩
  | .hbm, ⟨103, _⟩ => ⟨S1x64x128, .f32⟩
  | .hbm, ⟨104, _⟩ => ⟨S1x64x1, .f32⟩
  | .hbm, ⟨105, _⟩ => ⟨S1x64x128, .f32⟩
  | .hbm, ⟨106, _⟩ => ⟨S1x1x1024, .f32⟩
  | .hbm, ⟨107, _⟩ => ⟨S1x1x512, .f32⟩
  | .hbm, ⟨108, _⟩ => ⟨S1x1x512, .f32⟩
  | .hbm, ⟨109, _⟩ => ⟨S1x1024, .f32⟩
  | .hbm, ⟨110, _⟩ => ⟨S1024x2048, .bf16⟩
  | .hbm, ⟨111, _⟩ => ⟨S768x1024, .bf16⟩
  | .hbm, ⟨112, _⟩ => ⟨S1x512, .f32⟩
  | .hbm, ⟨113, _⟩ => ⟨S1x512, .f32⟩
  | .hbm, ⟨114, _⟩ => ⟨S4x128x256, .bf16⟩
  | .hbm, ⟨115, _⟩ => ⟨S128x512, .f32⟩
  | .hbm, ⟨116, _⟩ => ⟨S64x128, .f32⟩
  | .hbm, ⟨117, _⟩ => ⟨S64x128, .f32⟩
  | .hbm, ⟨118, _⟩ => ⟨S65536x512, .bf16⟩
  | .hbm, ⟨119, _⟩ => ⟨S65536x512, .f32⟩
  | .hbm, ⟨120, _⟩ => ⟨S16x2x32x64x512, .bf16⟩
  | .hbm, ⟨121, _⟩ => ⟨S65536x128, .bf16⟩
  | .hbm, ⟨122, _⟩ => ⟨S16x2x80x4096, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x2048, .bf16⟩
  | .local _ .vmem, ⟨4, _⟩ => ⟨S768x1024, .bf16⟩
  | .local _ .vmem, ⟨5, _⟩ => ⟨S1x512, .f32⟩
  | .local _ .vmem, ⟨6, _⟩ => ⟨S1x512, .f32⟩
  | .local _ .vmem, ⟨7, _⟩ => ⟨S4x128x256, .bf16⟩
  | .local _ .vmem, ⟨8, _⟩ => ⟨S128x512, .f32⟩
  | .local _ .vmem, ⟨9, _⟩ => ⟨S64x128, .f32⟩
  | .local _ .vmem, ⟨10, _⟩ => ⟨S64x128, .f32⟩
  | .local _ .vmem, ⟨11, _⟩ => ⟨S32x1024, .f32⟩
  | .local _ .vmem, ⟨12, _⟩ => ⟨S32x1024, .f32⟩
  | .local _ .vmem, ⟨13, _⟩ => ⟨S32x1024, .f32⟩
  | .local _ .vmem, ⟨14, _⟩ => ⟨S32x1024, .f32⟩
  | .local _ .vmem, ⟨15, _⟩ => ⟨S1024x512, .bf16⟩
  | .local _ .vmem, ⟨16, _⟩ => ⟨S1024x512, .bf16⟩
  | .local _ .vmem, ⟨17, _⟩ => ⟨S1024x512, .f32⟩
  | .local _ .vmem, ⟨18, _⟩ => ⟨S1024x512, .f32⟩
  | .local _ .vmem, ⟨19, _⟩ => ⟨S1x2x8x64x512, .bf16⟩
  | .local _ .vmem, ⟨20, _⟩ => ⟨S1x2x8x64x512, .bf16⟩
  | .local _ .vmem, ⟨21, _⟩ => ⟨S1024x128, .bf16⟩
  | .local _ .vmem, ⟨22, _⟩ => ⟨S1024x128, .bf16⟩
  | .local _ .vmem, ⟨23, _⟩ => ⟨S1x2x80x1024, .bf16⟩
  | .local _ .vmem, ⟨24, _⟩ => ⟨S1x2x80x1024, .bf16⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_c : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_0 : Ref sig .tc := ⟨.hbm, 24, rfl⟩
abbrev main_call0_v12 : Ref sig .tc := ⟨.hbm, 25, rfl⟩
abbrev main_call0_v13 : Ref sig .tc := ⟨.hbm, 26, rfl⟩
abbrev main_v1 : Ref sig .tc := ⟨.hbm, 27, rfl⟩
abbrev main_v2 : Ref sig .tc := ⟨.hbm, 28, rfl⟩
abbrev main_c_0 : Ref sig .tc := ⟨.hbm, 29, rfl⟩
abbrev main_call1_v0 : Ref sig .tc := ⟨.hbm, 30, rfl⟩
abbrev main_call1_c : Ref sig .tc := ⟨.hbm, 31, rfl⟩
abbrev main_call1_v1 : Ref sig .tc := ⟨.hbm, 32, rfl⟩
abbrev main_call1_c_0 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_c_1 : Ref sig .tc := ⟨.hbm, 37, rfl⟩
abbrev main_call1_v5 : Ref sig .tc := ⟨.hbm, 38, rfl⟩
abbrev main_call1_v6 : Ref sig .tc := ⟨.hbm, 39, rfl⟩
abbrev main_call1_c_2 : Ref sig .tc := ⟨.hbm, 40, rfl⟩
abbrev main_call1_v7 : Ref sig .tc := ⟨.hbm, 41, rfl⟩
abbrev main_call1_v8 : Ref sig .tc := ⟨.hbm, 42, rfl⟩
abbrev main_call1_c_3 : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_v12 : Ref sig .tc := ⟨.hbm, 47, rfl⟩
abbrev main_call1_v13 : Ref sig .tc := ⟨.hbm, 48, rfl⟩
abbrev main_call1_v14 : Ref sig .tc := ⟨.hbm, 49, rfl⟩
abbrev main_v3 : Ref sig .tc := ⟨.hbm, 50, rfl⟩
abbrev main_v4 : Ref sig .tc := ⟨.hbm, 51, rfl⟩
abbrev main_v5 : Ref sig .tc := ⟨.hbm, 52, rfl⟩
abbrev main_cst : Ref sig .tc := ⟨.hbm, 53, rfl⟩
abbrev main_v6 : Ref sig .tc := ⟨.hbm, 54, rfl⟩
abbrev main_v7 : Ref sig .tc := ⟨.hbm, 55, rfl⟩
abbrev main_cst_1 : Ref sig .tc := ⟨.hbm, 56, rfl⟩
abbrev main_v8 : Ref sig .tc := ⟨.hbm, 57, rfl⟩
abbrev main_v9 : Ref sig .tc := ⟨.hbm, 58, rfl⟩
abbrev main_v10 : Ref sig .tc := ⟨.hbm, 59, rfl⟩
abbrev main_cst_2 : Ref sig .tc := ⟨.hbm, 60, rfl⟩
abbrev main_v11 : Ref sig .tc := ⟨.hbm, 61, rfl⟩
abbrev main_v12 : Ref sig .tc := ⟨.hbm, 62, rfl⟩
abbrev main_cst_3 : Ref sig .tc := ⟨.hbm, 63, rfl⟩
abbrev main_v13 : Ref sig .tc := ⟨.hbm, 64, rfl⟩
abbrev main_v14 : Ref sig .tc := ⟨.hbm, 65, rfl⟩
abbrev main_v15 : Ref sig .tc := ⟨.hbm, 66, rfl⟩
abbrev main_v16 : Ref sig .tc := ⟨.hbm, 67, rfl⟩
abbrev main_v17 : Ref sig .tc := ⟨.hbm, 68, rfl⟩
abbrev main_v18 : Ref sig .tc := ⟨.hbm, 69, rfl⟩
abbrev main_v19 : Ref sig .tc := ⟨.hbm, 70, rfl⟩
abbrev main_v20 : Ref sig .tc := ⟨.hbm, 71, rfl⟩
abbrev main_v21 : Ref sig .tc := ⟨.hbm, 72, rfl⟩
abbrev main_v22 : Ref sig .tc := ⟨.hbm, 73, rfl⟩
abbrev main_v23 : Ref sig .tc := ⟨.hbm, 74, rfl⟩
abbrev main_v24 : Ref sig .tc := ⟨.hbm, 75, rfl⟩
abbrev main_v25 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_v29 : Ref sig .tc := ⟨.hbm, 80, rfl⟩
abbrev main_v30 : Ref sig .tc := ⟨.hbm, 81, rfl⟩
abbrev main_v31 : Ref sig .tc := ⟨.hbm, 82, rfl⟩
abbrev main_v32 : Ref sig .tc := ⟨.hbm, 83, rfl⟩
abbrev main_v33 : Ref sig .tc := ⟨.hbm, 84, rfl⟩
abbrev main_v34 : Ref sig .tc := ⟨.hbm, 85, rfl⟩
abbrev main_v35 : Ref sig .tc := ⟨.hbm, 86, rfl⟩
abbrev main_v36 : Ref sig .tc := ⟨.hbm, 87, rfl⟩
abbrev main_v37 : Ref sig .tc := ⟨.hbm, 88, rfl⟩
abbrev main_v38 : Ref sig .tc := ⟨.hbm, 89, rfl⟩
abbrev main_v39 : Ref sig .tc := ⟨.hbm, 90, rfl⟩
abbrev main_v40 : Ref sig .tc := ⟨.hbm, 91, rfl⟩
abbrev main_v41 : Ref sig .tc := ⟨.hbm, 92, rfl⟩
abbrev main_v42 : Ref sig .tc := ⟨.hbm, 93, rfl⟩
abbrev main_v43 : Ref sig .tc := ⟨.hbm, 94, rfl⟩
abbrev main_v44 : Ref sig .tc := ⟨.hbm, 95, rfl⟩
abbrev main_v45 : Ref sig .tc := ⟨.hbm, 96, rfl⟩
abbrev main_v46 : Ref sig .tc := ⟨.hbm, 97, rfl⟩
abbrev main_v47 : Ref sig .tc := ⟨.hbm, 98, rfl⟩
abbrev main_v48 : Ref sig .tc := ⟨.hbm, 99, rfl⟩
abbrev main_v49 : Ref sig .tc := ⟨.hbm, 100, rfl⟩
abbrev main_v50 : Ref sig .tc := ⟨.hbm, 101, rfl⟩
abbrev main_v51 : Ref sig .tc := ⟨.hbm, 102, rfl⟩
abbrev main_v52 : Ref sig .tc := ⟨.hbm, 103, rfl⟩
abbrev main_v53 : Ref sig .tc := ⟨.hbm, 104, rfl⟩
abbrev main_v54 : Ref sig .tc := ⟨.hbm, 105, rfl⟩
abbrev main_v55 : Ref sig .tc := ⟨.hbm, 106, rfl⟩
abbrev main_v56 : Ref sig .tc := ⟨.hbm, 107, rfl⟩
abbrev main_v57 : Ref sig .tc := ⟨.hbm, 108, rfl⟩
abbrev main_v58 : Ref sig .tc := ⟨.hbm, 109, rfl⟩
abbrev main_v59 : Ref sig .tc := ⟨.hbm, 110, rfl⟩
abbrev main_v60 : Ref sig .tc := ⟨.hbm, 111, rfl⟩
abbrev main_v61 : Ref sig .tc := ⟨.hbm, 112, rfl⟩
abbrev main_v62 : Ref sig .tc := ⟨.hbm, 113, rfl⟩
abbrev main_v63 : Ref sig .tc := ⟨.hbm, 114, rfl⟩
abbrev main_v64 : Ref sig .tc := ⟨.hbm, 115, rfl⟩
abbrev main_v65 : Ref sig .tc := ⟨.hbm, 116, rfl⟩
abbrev main_v66 : Ref sig .tc := ⟨.hbm, 117, rfl⟩
abbrev main_v67_0 : Ref sig .tc := ⟨.hbm, 118, rfl⟩
abbrev main_v67_1 : Ref sig .tc := ⟨.hbm, 119, rfl⟩
abbrev main_v67_2 : Ref sig .tc := ⟨.hbm, 120, rfl⟩
abbrev main_v67_3 : Ref sig .tc := ⟨.hbm, 121, rfl⟩
abbrev main_v67_4 : Ref sig .tc := ⟨.hbm, 122, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem11_1 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![c0_i32_3.toNat, v9.toNat]

def cc0_transform_11 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![c0_i32_3.toNat, v9.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 5 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  let c0_i32_13 : BitVec 32 := 0#32
  ![v16.toNat, c0_i32_10.toNat, v26.toNat, c0_i32_11.toNat, c0_i32_12.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, c0_i32_11.toNat, v26.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S768x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x128x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S32x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S32x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x2x8x64x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1024x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x2x80x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Reference3Ideal.lean ====
abbrev S16x4096x1024 : Shape := ⟨3, ![16, 4096, 1024]⟩
abbrev S1024x2816 : Shape := ⟨2, ![1024, 2816]⟩
abbrev S1024 : Shape := ⟨1, ![1024]⟩
abbrev S512 : Shape := ⟨1, ![512]⟩
abbrev S8x128x128 : Shape := ⟨3, ![8, 128, 128]⟩
abbrev S8x128 : Shape := ⟨2, ![8, 128]⟩
abbrev S64 : Shape := ⟨1, ![64]⟩
abbrev S64x1 : Shape := ⟨2, ![64, 1]⟩
abbrev S64x64 : Shape := ⟨2, ![64, 64]⟩
abbrev S4096 : Shape := ⟨1, ![4096]⟩
abbrev S1x64 : Shape := ⟨2, ![1, 64]⟩
abbrev S16 : Shape := ⟨1, ![16]⟩
abbrev S_ : Shape := ⟨0, ![]⟩
abbrev S4096x1 : Shape := ⟨2, ![4096, 1]⟩
abbrev S1x16 : Shape := ⟨2, ![1, 16]⟩
abbrev S4096x16 : Shape := ⟨2, ![4096, 16]⟩
abbrev S16x4096 : Shape := ⟨2, ![16, 4096]⟩
abbrev S16x4096x1 : Shape := ⟨3, ![16, 4096, 1]⟩
abbrev S1x1x1024 : Shape := ⟨3, ![1, 1, 1024]⟩
abbrev S16x4096x2816 : Shape := ⟨3, ![16, 4096, 2816]⟩
abbrev S16x4096x512 : Shape := ⟨3, ![16, 4096, 512]⟩
abbrev S16x4096x128 : Shape := ⟨3, ![16, 4096, 128]⟩
abbrev S1x1x512 : Shape := ⟨3, ![1, 1, 512]⟩
abbrev S16x32x128x8x64 : Shape := ⟨5, ![16, 32, 128, 8, 64]⟩
abbrev S8x16x32x64x128 : Shape := ⟨5, ![8, 16, 32, 64, 128]⟩
abbrev S128x8 : Shape := ⟨2, ![128, 8]⟩
abbrev S1x1x128x8x1 : Shape := ⟨5, ![1, 1, 128, 8, 1]⟩
abbrev S16x4096x2x64 : Shape := ⟨4, ![16, 4096, 2, 64]⟩
abbrev S16x4096x2 : Shape := ⟨3, ![16, 4096, 2]⟩
abbrev S16x4096x2x1 : Shape := ⟨4, ![16, 4096, 2, 1]⟩
abbrev S1x1x1x64 : Shape := ⟨4, ![1, 1, 1, 64]⟩
abbrev S16x4096x2x32 : Shape := ⟨4, ![16, 4096, 2, 32]⟩
abbrev S4096x1x16 : Shape := ⟨3, ![4096, 1, 16]⟩
abbrev S16x4096x2x16 : Shape := ⟨4, ![16, 4096, 2, 16]⟩
abbrev S1x4096x1x16 : Shape := ⟨4, ![1, 4096, 1, 16]⟩
abbrev S65536x512 : Shape := ⟨2, ![65536, 512]⟩
abbrev S65536x128 : Shape := ⟨2, ![65536, 128]⟩

abbrev nBuf : Space → Nat
  | .hbm => 189
  | .vmem => 0
  | .smem => 0
  | _ => 0

abbrev hbmTy0_0 (i : Nat) : BufTy := match i % 128 with
  | 0 => ⟨S16x4096x1024, .f32⟩
  | 1 => ⟨S1024x2816, .f32⟩
  | 2 => ⟨S1024, .f32⟩
  | 3 => ⟨S512, .f32⟩
  | 4 => ⟨S512, .f32⟩
  | 5 => ⟨S8x128x128, .f32⟩
  | 6 => ⟨S8x128, .f32⟩
  | 7 => ⟨S64, .f32⟩
  | 8 => ⟨S64, .f32⟩
  | 9 => ⟨S64, .f32⟩
  | 10 => ⟨S64x1, .f32⟩
  | 11 => ⟨S64x64, .f32⟩
  | 12 => ⟨S4096, .f32⟩
  | 13 => ⟨S64, .f32⟩
  | 14 => ⟨S1x64, .f32⟩
  | 15 => ⟨S64x64, .f32⟩
  | 16 => ⟨S4096, .f32⟩
  | 17 => ⟨S16, .f32⟩
  | 18 => ⟨S_, .f32⟩
  | 19 => ⟨S16, .f32⟩
  | 20 => ⟨S16, .f32⟩
  | 21 => ⟨S_, .f32⟩
  | 22 => ⟨S16, .f32⟩
  | 23 => ⟨S16, .f32⟩
  | 24 => ⟨S16, .f32⟩
  | 25 => ⟨S_, .f32⟩
  | 26 => ⟨S16, .f32⟩
  | 27 => ⟨S16, .f32⟩
  | 28 => ⟨S_, .f32⟩
  | 29 => ⟨S16, .f32⟩
  | 30 => ⟨S16, .f32⟩
  | 31 => ⟨S4096x1, .f32⟩
  | 32 => ⟨S1x16, .f32⟩
  | 33 => ⟨S4096x16, .f32⟩
  | 34 => ⟨S4096x16, .f32⟩
  | 35 => ⟨S4096x16, .f32⟩
  | 36 => ⟨S4096x1, .f32⟩
  | 37 => ⟨S1x16, .f32⟩
  | 38 => ⟨S4096x16, .f32⟩
  | 39 => ⟨S4096x16, .f32⟩
  | 40 => ⟨S4096x16, .f32⟩
  | 41 => ⟨S4096x16, .f32⟩
  | 42 => ⟨S4096x16, .f32⟩
  | 43 => ⟨S4096x16, .f32⟩
  | 44 => ⟨S4096x16, .f32⟩
  | 45 => ⟨S16x4096x1024, .f32⟩
  | 46 => ⟨S_, .f32⟩
  | 47 => ⟨S16x4096, .f32⟩
  | 48 => ⟨S16x4096x1, .f32⟩
  | 49 => ⟨S_, .f32⟩
  | 50 => ⟨S16x4096x1, .f32⟩
  | 51 => ⟨S16x4096x1, .f32⟩
  | 52 => ⟨S_, .f32⟩
  | 53 => ⟨S16x4096x1, .f32⟩
  | 54 => ⟨S16x4096x1, .f32⟩
  | 55 => ⟨S16x4096x1, .f32⟩
  | 56 => ⟨S16x4096x1024, .f32⟩
  | 57 => ⟨S16x4096x1024, .f32⟩
  | 58 => ⟨S1x1x1024, .f32⟩
  | 59 => ⟨S16x4096x1024, .f32⟩
  | 60 => ⟨S16x4096x1024, .f32⟩
  | 61 => ⟨S16x4096x2816, .f32⟩
  | 62 => ⟨S16x4096x512, .f32⟩
  | 63 => ⟨S16x4096x512, .f32⟩
  | 64 => ⟨S16x4096x512, .f32⟩
  | 65 => ⟨S16x4096x512, .f32⟩
  | 66 => ⟨S16x4096x128, .f32⟩
  | 67 => ⟨S16x4096x128, .f32⟩
  | 68 => ⟨S16x4096x512, .f32⟩
  | 69 => ⟨S_, .f32⟩
  | 70 => ⟨S16x4096, .f32⟩
  | 71 => ⟨S16x4096x1, .f32⟩
  | 72 => ⟨S_, .f32⟩
  | 73 => ⟨S16x4096x1, .f32⟩
  | 74 => ⟨S16x4096x1, .f32⟩
  | 75 => ⟨S16x4096x512, .f32⟩
  | 76 => ⟨S16x4096x512, .f32⟩
  | 77 => ⟨S16x4096x512, .f32⟩
  | 78 => ⟨S_, .f32⟩
  | 79 => ⟨S16x4096, .f32⟩
  | 80 => ⟨S16x4096x1, .f32⟩
  | 81 => ⟨S_, .f32⟩
  | 82 => ⟨S16x4096x1, .f32⟩
  | 83 => ⟨S16x4096x1, .f32⟩
  | 84 => ⟨S16x4096x512, .f32⟩
  | 85 => ⟨S16x4096x512, .f32⟩
  | 86 => ⟨S_, .f32⟩
  | 87 => ⟨S16x4096x1, .f32⟩
  | 88 => ⟨S16x4096x1, .f32⟩
  | 89 => ⟨S16x4096x1, .f32⟩
  | 90 => ⟨S16x4096x512, .f32⟩
  | 91 => ⟨S16x4096x512, .f32⟩
  | 92 => ⟨S1x1x512, .f32⟩
  | 93 => ⟨S16x4096x512, .f32⟩
  | 94 => ⟨S16x4096x512, .f32⟩
  | 95 => ⟨S1x1x512, .f32⟩
  | 96 => ⟨S16x4096x512, .f32⟩
  | 97 => ⟨S16x4096x512, .f32⟩
  | 98 => ⟨S16x32x128x8x64, .f32⟩
  | 99 => ⟨S8x16x32x64x128, .f32⟩
  | 100 => ⟨S16x32x128x8x64, .f32⟩
  | 101 => ⟨S128x8, .f32⟩
  | 102 => ⟨S1x1x128x8x1, .f32⟩
  | 103 => ⟨S16x32x128x8x64, .f32⟩
  | 104 => ⟨S16x32x128x8x64, .f32⟩
  | 105 => ⟨S16x4096x512, .f32⟩
  | 106 => ⟨S16x4096x512, .f32⟩
  | 107 => ⟨S16x4096x512, .f32⟩
  | 108 => ⟨S16x4096x512, .f32⟩
  | 109 => ⟨S_, .f32⟩
  | 110 => ⟨S16x4096x512, .f32⟩
  | 111 => ⟨S16x4096x512, .f32⟩
  | 112 => ⟨S_, .f32⟩
  | 113 => ⟨S16x4096x512, .f32⟩
  | 114 => ⟨S16x4096x512, .f32⟩
  | 115 => ⟨S16x4096x512, .f32⟩
  | 116 => ⟨S16x4096x512, .f32⟩
  | 117 => ⟨S16x4096x2x64, .f32⟩
  | 118 => ⟨S16x4096x2x64, .f32⟩
  | 119 => ⟨S_, .f32⟩
  | 120 => ⟨S16x4096x2, .f32⟩
  | 121 => ⟨S16x4096x2x1, .f32⟩
  | 122 => ⟨S_, .f32⟩
  | 123 => ⟨S16x4096x2x1, .f32⟩
  | 124 => ⟨S16x4096x2x1, .f32⟩
  | 125 => ⟨S_, .f32⟩
  | 126 => ⟨S16x4096x2x1, .f32⟩
  | 127 => ⟨S16x4096x2x1, .f32⟩
  | _ => ⟨S16x4096x1024, .f32⟩

abbrev hbmTy0_1 (i : Nat) : BufTy := match i % 128 with
  | 0 => ⟨S16x4096x2x1, .f32⟩
  | 1 => ⟨S16x4096x2x64, .f32⟩
  | 2 => ⟨S16x4096x2x64, .f32⟩
  | 3 => ⟨S1x1x1x64, .f32⟩
  | 4 => ⟨S16x4096x2x64, .f32⟩
  | 5 => ⟨S16x4096x2x64, .f32⟩
  | 6 => ⟨S16x4096x2x32, .f32⟩
  | 7 => ⟨S4096x1x16, .f32⟩
  | 8 => ⟨S4096x1x16, .f32⟩
  | 9 => ⟨S16x4096x2x16, .f32⟩
  | 10 => ⟨S16x4096x2x16, .f32⟩
  | 11 => ⟨S1x4096x1x16, .f32⟩
  | 12 => ⟨S16x4096x2x16, .f32⟩
  | 13 => ⟨S16x4096x2x16, .f32⟩
  | 14 => ⟨S1x4096x1x16, .f32⟩
  | 15 => ⟨S16x4096x2x16, .f32⟩
  | 16 => ⟨S16x4096x2x16, .f32⟩
  | 17 => ⟨S16x4096x2x16, .f32⟩
  | 18 => ⟨S1x4096x1x16, .f32⟩
  | 19 => ⟨S16x4096x2x16, .f32⟩
  | 20 => ⟨S16x4096x2x16, .f32⟩
  | 21 => ⟨S1x4096x1x16, .f32⟩
  | 22 => ⟨S16x4096x2x16, .f32⟩
  | 23 => ⟨S16x4096x2x16, .f32⟩
  | 24 => ⟨S16x4096x2x16, .f32⟩
  | 25 => ⟨S16x4096x2x32, .f32⟩
  | 26 => ⟨S16x4096x2x32, .f32⟩
  | 27 => ⟨S4096x1x16, .f32⟩
  | 28 => ⟨S4096x1x16, .f32⟩
  | 29 => ⟨S16x4096x2x16, .f32⟩
  | 30 => ⟨S16x4096x2x16, .f32⟩
  | 31 => ⟨S1x4096x1x16, .f32⟩
  | 32 => ⟨S16x4096x2x16, .f32⟩
  | 33 => ⟨S16x4096x2x16, .f32⟩
  | 34 => ⟨S1x4096x1x16, .f32⟩
  | 35 => ⟨S16x4096x2x16, .f32⟩
  | 36 => ⟨S16x4096x2x16, .f32⟩
  | 37 => ⟨S16x4096x2x16, .f32⟩
  | 38 => ⟨S1x4096x1x16, .f32⟩
  | 39 => ⟨S16x4096x2x16, .f32⟩
  | 40 => ⟨S16x4096x2x16, .f32⟩
  | 41 => ⟨S1x4096x1x16, .f32⟩
  | 42 => ⟨S16x4096x2x16, .f32⟩
  | 43 => ⟨S16x4096x2x16, .f32⟩
  | 44 => ⟨S16x4096x2x16, .f32⟩
  | 45 => ⟨S16x4096x2x32, .f32⟩
  | 46 => ⟨S16x4096x2x64, .f32⟩
  | 47 => ⟨S65536x512, .f32⟩
  | 48 => ⟨S65536x512, .bf16⟩
  | 49 => ⟨S16x4096x512, .f32⟩
  | 50 => ⟨S16x4096x512, .f32⟩
  | 51 => ⟨S_, .f32⟩
  | 52 => ⟨S16x4096x512, .f32⟩
  | 53 => ⟨S16x4096x512, .f32⟩
  | 54 => ⟨S_, .f32⟩
  | 55 => ⟨S16x4096x512, .f32⟩
  | 56 => ⟨S16x4096x512, .f32⟩
  | 57 => ⟨S16x4096x512, .f32⟩
  | 58 => ⟨S65536x512, .f32⟩
  | 59 => ⟨S65536x128, .f32⟩
  | 60 => ⟨S65536x128, .bf16⟩
  | _ => ⟨S16x4096x1024, .f32⟩

abbrev hbmTy (i : Nat) : BufTy := match i / 128 with
  | 0 => hbmTy0_0 i
  | 1 => hbmTy0_1 i
  | _ => ⟨S16x4096x1024, .f32⟩

abbrev bufTy : (tb : Table) → Fin (tcTables nBuf tb) → BufTy
  | .hbm, ⟨i, _⟩ => hbmTy i
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_3 : Ref sig .tc := ⟨.hbm, 46, rfl⟩
abbrev main_v33 : Ref sig .tc := ⟨.hbm, 47, rfl⟩
abbrev main_v34 : Ref sig .tc := ⟨.hbm, 48, rfl⟩
abbrev main_cst_4 : Ref sig .tc := ⟨.hbm, 49, rfl⟩
abbrev main_v35 : Ref sig .tc := ⟨.hbm, 50, rfl⟩
abbrev main_v36 : Ref sig .tc := ⟨.hbm, 51, rfl⟩
abbrev main_cst_5 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_cst_6 : Ref sig .tc := ⟨.hbm, 69, rfl⟩
abbrev main_v53 : Ref sig .tc := ⟨.hbm, 70, rfl⟩
abbrev main_v54 : Ref sig .tc := ⟨.hbm, 71, rfl⟩
abbrev main_cst_7 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_cst_8 : Ref sig .tc := ⟨.hbm, 78, rfl⟩
abbrev main_v60 : Ref sig .tc := ⟨.hbm, 79, rfl⟩
abbrev main_v61 : Ref sig .tc := ⟨.hbm, 80, rfl⟩
abbrev main_cst_9 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_cst_10 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_call0_v0 : Ref sig .tc := ⟨.hbm, 107, rfl⟩
abbrev main_call0_v1 : Ref sig .tc := ⟨.hbm, 108, rfl⟩
abbrev main_call0_cst : Ref sig .tc := ⟨.hbm, 109, rfl⟩
abbrev main_call0_v2 : Ref sig .tc := ⟨.hbm, 110, rfl⟩
abbrev main_call0_v3 : Ref sig .tc := ⟨.hbm, 111, rfl⟩
abbrev main_call0_cst_0 : Ref sig .tc := ⟨.hbm, 112, rfl⟩
abbrev main_call0_v4 : Ref sig .tc := ⟨.hbm, 113, rfl⟩
abbrev main_call0_v5 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_cst_11 : Ref sig .tc := ⟨.hbm, 119, rfl⟩
abbrev main_v90 : Ref sig .tc := ⟨.hbm, 120, rfl⟩
abbrev main_v91 : Ref sig .tc := ⟨.hbm, 121, rfl⟩
abbrev main_cst_12 : Ref sig .tc := ⟨.hbm, 122, rfl⟩
abbrev main_v92 : Ref sig .tc := ⟨.hbm, 123, rfl⟩
abbrev main_v93 : Ref sig .tc := ⟨.hbm, 124, rfl⟩
abbrev main_cst_13 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_v130 : Ref sig .tc := ⟨.hbm, 162, rfl⟩
abbrev main_v131 : Ref sig .tc := ⟨.hbm, 163, rfl⟩
abbrev main_v132 : Ref sig .tc := ⟨.hbm, 164, rfl⟩
abbrev main_v133 : Ref sig .tc := ⟨.hbm, 165, rfl⟩
abbrev main_v134 : Ref sig .tc := ⟨.hbm, 166, rfl⟩
abbrev main_v135 : Ref sig .tc := ⟨.hbm, 167, rfl⟩
abbrev main_v136 : Ref sig .tc := ⟨.hbm, 168, rfl⟩
abbrev main_v137 : Ref sig .tc := ⟨.hbm, 169, rfl⟩
abbrev main_v138 : Ref sig .tc := ⟨.hbm, 170, rfl⟩
abbrev main_v139 : Ref sig .tc := ⟨.hbm, 171, rfl⟩
abbrev main_v140 : Ref sig .tc := ⟨.hbm, 172, rfl⟩
abbrev main_v141 : Ref sig .tc := ⟨.hbm, 173, rfl⟩
abbrev main_v142 : Ref sig .tc := ⟨.hbm, 174, rfl⟩
abbrev main_v143 : Ref sig .tc := ⟨.hbm, 175, rfl⟩
abbrev main_v144 : Ref sig .tc := ⟨.hbm, 176, rfl⟩
abbrev main_call1_v0 : Ref sig .tc := ⟨.hbm, 177, rfl⟩
abbrev main_call1_v1 : Ref sig .tc := ⟨.hbm, 178, rfl⟩
abbrev main_call1_cst : Ref sig .tc := ⟨.hbm, 179, rfl⟩
abbrev main_call1_v2 : Ref sig .tc := ⟨.hbm, 180, rfl⟩
abbrev main_call1_v3 : Ref sig .tc := ⟨.hbm, 181, rfl⟩
abbrev main_call1_cst_0 : Ref sig .tc := ⟨.hbm, 182, rfl⟩
abbrev main_call1_v4 : Ref sig .tc := ⟨.hbm, 183, rfl⟩
abbrev main_call1_v5 : Ref sig .tc := ⟨.hbm, 184, rfl⟩
abbrev main_v145 : Ref sig .tc := ⟨.hbm, 185, rfl⟩
abbrev main_v146 : Ref sig .tc := ⟨.hbm, 186, rfl⟩
abbrev main_v147 : Ref sig .tc := ⟨.hbm, 187, rfl⟩
abbrev main_v148 : Ref sig .tc := ⟨.hbm, 188, rfl⟩

abbrev nD : Nat := 1
abbrev τ : Topo := Topo.v7x

variable {F : FTy → Type} [FloatOps F]
-- ==== Proof.AttOps.lean ====
module

public import proofs.«01_k».proof.Proof.Gen.KernelIdeal.Frame.RunB

@[expose] public section

set_option maxRecDepth 16384

noncomputable section

namespace Cert.KernelIdeal.Att

open Idealize.ShloMosaic Idealize.ShloMosaic.TcCoe Idealize.SL.Sem
open Cert.KernelIdeal Cert.KernelIdeal.Gen

variable {F : FTy → Type} [FloatOps F]

/-- The weights of a query block for the first head pair: the 64 query rows above 64 rows of zeros. -/
def wq0 (q : Vec F S1x1x1x64x512 .bf16) : FVec F S128x512 .bf16 :=
  concatenate S128x512 0 [⟨S64x512, shapeCast S64x512 q shapeCasts_S1x1x1x64x512_S64x512⟩,
    ⟨S64x512, broadcast S64x512 (Scalar.ofBits .bf16 0x0000#16)⟩] concatenates_S64x512_S64x512_S128x512_d0

/-- The weights for the second head pair: the zeros above the query rows. -/
def wq1 (q : Vec F S1x1x1x64x512 .bf16) : FVec F S128x512 .bf16 :=
  concatenate S128x512 0 [⟨S64x512, broadcast S64x512 (Scalar.ofBits .bf16 0x0000#16)⟩,
    ⟨S64x512, shapeCast S64x512 q shapeCasts_S1x1x1x64x512_S64x512⟩] concatenates_S64x512_S64x512_S128x512_d0

/-- The scores of 256 keys against all 512 query columns. -/
def sc (w : FVec F S128x512 .bf16) (k : Vec F S256x128 .bf16) : FVec F S256x512 .f32 :=
  matmul dot_S256x128_S128x512_S256x512_1_0_0_1_n_n none (shapeCast S256x128 k shapeCasts_S256x128_S256x128) w
    (constant S256x512 .f32 0x00000000#32)

/-- Column maxima of 256 score rows, kept as eight partial rows. -/
def red8 (s : FVec F S256x512 .f32) : FVec F S8x512 .f32 :=
  multiReduction .maximumf [0] S8x512 (shapeCast S32x8x512 s shapeCasts_S256x512_S32x8x512) 0xFF800000#32
    reduces_S32x8x512_S8x512 (.inl rfl) rfl

/-- The sixteen chunks' partial maxima joined. -/
def mx (w : FVec F S128x512 .bf16) (k : Fin 16 → Vec F S256x128 .bf16) : FVec F S8x512 .f32 :=
  maximumf (maximumf (maximumf (maximumf (maximumf (maximumf (maximumf (maximumf (maximumf (maximumf (maximumf (maximumf (maximumf (maximumf (maximumf (red8 (sc w (k 0))) (red8 (sc w (k 1)))) (red8 (sc w (k 2)))) (red8 (sc w (k 3)))) (red8 (sc w (k 4)))) (red8 (sc w (k 5)))) (red8 (sc w (k 6)))) (red8 (sc w (k 7)))) (red8 (sc w (k 8)))) (red8 (sc w (k 9)))) (red8 (sc w (k 10)))) (red8 (sc w (k 11)))) (red8 (sc w (k 12)))) (red8 (sc w (k 13)))) (red8 (sc w (k 14)))) (red8 (sc w (k 15)))

/-- One row of maxima from the eight partial rows. -/
def mrow (m8 : FVec F S8x512 .f32) : FVec F S1x512 .f32 :=
  shapeCast S1x512 (multiReduction .maximumf [0] S512 m8 0xFF800000#32 reduces_S8x512_S512 (.inl rfl) rfl) shapeCasts_S512_S1x512

/-- One chunk's contribution: value rows times the exponentials of the shifted scores. -/
def cacc (m : FVec F S1x512 .f32) (s : FVec F S256x512 .f32) (v : Vec F S1x1x80x256 .bf16) : FVec F S80x512 .f32 :=
  matmul dot_S80x256_S256x512_S80x512_1_0_0_1_n_n none (shapeCast S80x256 v shapeCasts_S1x1x80x256_S80x256)
    (truncf .bf16 (exp2 (subf s (broadcastTo S256x512 m broadcasts_S1x512_S256x512))) bitsLt_bf16_f32)
    (constant S80x512 .f32 0x00000000#32)

/-- The sixteen contributions added up. -/
def acc (m8 : FVec F S8x512 .f32) (s : Fin 16 → FVec F S256x512 .f32) (v : Fin 16 → Vec F S1x1x80x256 .bf16) :
    FVec F S80x512 .f32 :=
  addf (addf (addf (addf (addf (addf (addf (addf (addf (addf (addf (addf (addf (addf (addf (cacc (mrow m8) (s 0) (v 0)) (cacc (mrow m8) (s 1) (v 1))) (cacc (mrow m8) (s 2) (v 2))) (cacc (mrow m8) (s 3) (v 3))) (cacc (mrow m8) (s 4) (v 4))) (cacc (mrow m8) (s 5) (v 5))) (cacc (mrow m8) (s 6) (v 6))) (cacc (mrow m8) (s 7) (v 7))) (cacc (mrow m8) (s 8) (v 8))) (cacc (mrow m8) (s 9) (v 9))) (cacc (mrow m8) (s 10) (v 10))) (cacc (mrow m8) (s 11) (v 11))) (cacc (mrow m8) (s 12) (v 12))) (cacc (mrow m8) (s 13) (v 13))) (cacc (mrow m8) (s 14) (v 14))) (cacc (mrow m8) (s 15) (v 15))

/-- The weighted values over the normaliser, which is row 64. -/
def quo (a : FVec F S80x512 .f32) : FVec F S64x512 .f32 :=
  divf (extractStridedSlice S64x512 ![0, 0] a slices_S80x512_o0_0_S64x512)
    (broadcastTo S64x512 (extractStridedSlice S1x512 ![64, 0] a slices_S80x512_o64_0_S1x512) broadcasts_S1x512_S64x512)

/-- The first two heads of a group, side by side, times the gate. -/
def out0 (a : FVec F S80x512 .f32) (g : Vec F S128x128 .f32) : FVec F S128x128 .bf16 :=
  truncf .bf16 (mulf (transpose S128x128 [1, 0]
    (concatenate S128x128 0 [⟨S64x128, extractStridedSlice S64x128 ![0, 0] (quo a) slices_S64x512_o0_0_S64x128⟩,
      ⟨S64x128, extractStridedSlice S64x128 ![0, 128] (quo a) slices_S64x512_o0_128_S64x128⟩]
      concatenates_S64x128_S64x128_S128x128_d0) transposes_S128x128_p1_0_S128x128) g) bitsLt_bf16_f32

/-- The last two heads of a group, side by side, times the gate. -/
def out1 (a : FVec F S80x512 .f32) (g : Vec F S128x128 .f32) : FVec F S128x128 .bf16 :=
  truncf .bf16 (mulf (transpose S128x128 [1, 0]
    (concatenate S128x128 0 [⟨S64x128, extractStridedSlice S64x128 ![0, 256] (quo a) slices_S64x512_o0_256_S64x128⟩,
      ⟨S64x128, extractStridedSlice S64x128 ![0, 384] (quo a) slices_S64x512_o0_384_S64x128⟩]
      concatenates_S64x128_S64x128_S128x128_d0) transposes_S128x128_p1_0_S128x128) g) bitsLt_bf16_f32

/-- Rows `256 c` … of a key block lie inside it. -/
theorem inK (c : Fin 16) : ∀ a, (![256 * c.val, 0] : Fin 2 → Nat) a + S256x128.size a ≤ S4096x128.size a := by
  intro a; have := c.isLt
  match a with
  | ⟨0, _⟩ => show 256 * c.val + 256 ≤ 4096; omega
  | ⟨1, _⟩ => show 0 + 128 ≤ 128; omega

/-- Rows `256 c` … of a score scratch lie inside it. -/
theorem inS (c : Fin 16) : ∀ a, (![256 * c.val, 0] : Fin 2 → Nat) a + S256x512.size a ≤ S4096x512.size a := by
  intro a; have := c.isLt
  match a with
  | ⟨0, _⟩ => show 256 * c.val + 256 ≤ 4096; omega
  | ⟨1, _⟩ => show 0 + 512 ≤ 512; omega

/-- Columns `256 c` … of head group `v` of the value block lie inside it. -/
theorem inV (v : Fin 2) (c : Fin 16) :
    ∀ a, (![0, v.val, 0, 256 * c.val] : Fin 4 → Nat) a + S1x1x80x256.size a ≤ S1x2x80x4096.size a := by
  intro a; have := c.isLt; have := v.isLt
  match a with
  | ⟨0, _⟩ => show 0 + 1 ≤ 1; omega
  | ⟨1, _⟩ => show v.val + 1 ≤ 2; omega
  | ⟨2, _⟩ => show 0 + 80 ≤ 80; omega
  | ⟨3, _⟩ => show 256 * c.val + 256 ≤ 4096; omega

/-- Query block `b` of head group `v` lies inside the four staged. -/
theorem inQ (v : Fin 2) (b : Fin 4) :
    ∀ a, (![0, v.val, b.val, 0, 0] : Fin 5 → Nat) a + S1x1x1x64x512.size a ≤ S1x2x4x64x512.size a := by
  intro a; have := b.isLt; have := v.isLt
  match a with
  | ⟨0, _⟩ => show 0 + 1 ≤ 1; omega
  | ⟨1, _⟩ => show v.val + 1 ≤ 2; omega
  | ⟨2, _⟩ => show b.val + 1 ≤ 4; omega
  | ⟨3, _⟩ => show 0 + 64 ≤ 64; omega
  | ⟨4, _⟩ => show 0 + 512 ≤ 512; omega

/-- Head group `v` of the next query block lies inside it. -/
theorem inN (v : Fin 2) :
    ∀ a, (![0, v.val, 0, 0, 0] : Fin 5 → Nat) a + S1x1x1x64x512.size a ≤ S1x2x1x64x512.size a := by
  intro a; have := v.isLt
  match a with
  | ⟨0, _⟩ => show 0 + 1 ≤ 1; omega
  | ⟨1, _⟩ => show v.val + 1 ≤ 2; omega
  | ⟨2, _⟩ => show 0 + 1 ≤ 1; omega
  | ⟨3, _⟩ => show 0 + 64 ≤ 64; omega
  | ⟨4, _⟩ => show 0 + 512 ≤ 512; omega

/-- A 128 by 128 tile of the output block lies inside it. -/
theorem inO (b v p : ℕ) (hb : b < 4) (hv : v < 2) (hp : p < 2) :
    ∀ a, (![128 * b, 256 * v + 128 * p] : Fin 2 → Nat) a + S128x128.size a ≤ S512x512.size a := by
  intro a
  match a with
  | ⟨0, _⟩ => show 128 * b + 128 ≤ 512; omega
  | ⟨1, _⟩ => show 256 * v + 128 * p + 128 ≤ 512; omega

/-- The eight partial rows are read and written whole. -/
theorem inM : ∀ a, (![0, 0] : Fin 2 → Nat) a + S8x512.size a ≤ S8x512.size a := by
  intro a
  match a with
  | ⟨0, _⟩ => show 0 + 8 ≤ 8; omega
  | ⟨1, _⟩ => show 0 + 512 ≤ 512; omega

/-- Chunk `c` of a staged key block. -/
def kch (a : Memref sig .tc .vmem S4096x128 .bf16) (h : a.IsWhole) (x : Vec F S4096x128 .bf16) (c : Fin 16) :
    Vec F S256x128 .bf16 :=
  View.readAt (Elt F) a.view (Rect.unit (s := S4096x128) ![256 * c.val, 0] S256x128.size (inK c)).toLoadRect (h.unread x)

/-- Chunk `c` of head group `v` of the staged values. -/
def vch (a : Memref sig .tc .vmem S1x2x80x4096 .bf16) (h : a.IsWhole) (x : Vec F S1x2x80x4096 .bf16) (v : Fin 2) (c : Fin 16) :
    Vec F S1x1x80x256 .bf16 :=
  View.readAt (Elt F) a.view (Rect.unit (s := S1x2x80x4096) ![0, v.val, 0, 256 * c.val] S1x1x80x256.size (inV v c)).toLoadRect (h.unread x)

/-- Query block `b` of head group `v`. -/
def qch (a : Memref sig .tc .vmem S1x2x4x64x512 .bf16) (h : a.IsWhole) (x : Vec F S1x2x4x64x512 .bf16) (v : Fin 2) (b : Fin 4) :
    Vec F S1x1x1x64x512 .bf16 :=
  View.readAt (Elt F) a.view (Rect.unit (s := S1x2x4x64x512) ![0, v.val, b.val, 0, 0] S1x1x1x64x512.size (inQ v b)).toLoadRect (h.unread x)

/-- Head group `v` of the next query block. -/
def nch (a : Memref sig .tc .vmem S1x2x1x64x512 .bf16) (h : a.IsWhole) (x : Vec F S1x2x1x64x512 .bf16) (v : Fin 2) :
    Vec F S1x1x1x64x512 .bf16 :=
  View.readAt (Elt F) a.view (Rect.unit (s := S1x2x1x64x512) ![0, v.val, 0, 0, 0] S1x1x1x64x512.size (inN v)).toLoadRect (h.unread x)

/-- A 128 by 128 tile of the gate. -/
def gch (a : Memref sig .tc .vmem S512x512 .f32) (h : a.IsWhole) (x : Vec F S512x512 .f32) (b v p : ℕ) (hb : b < 4) (hv : v < 2)
    (hp : p < 2) : Vec F S128x128 .f32 :=
  View.readAt (Elt F) a.view (Rect.unit (s := S512x512) ![128 * b, 256 * v + 128 * p] S128x128.size (inO b v p hb hv hp)).toLoadRect (h.unread x)

/-- The sixteen score pieces one unit stores, before what the list already holds. -/
def scL (w : FVec F S128x512 .bf16) (k : Fin 16 → Vec F S256x128 .bf16) (L : List (View.Piece (Elt F) S4096x512 .f32)) :
    List (View.Piece (Elt F) S4096x512 .f32) :=
  ⟨Rect.unit (s := S4096x512) ![256 * ((15 : Fin 16)).val, 0] S256x512.size (inS 15), shapeCast S256x512 (sc w (k 15)) shapeCasts_S256x512_S256x512⟩ ::
  ⟨Rect.unit (s := S4096x512) ![256 * ((14 : Fin 16)).val, 0] S256x512.size (inS 14), shapeCast S256x512 (sc w (k 14)) shapeCasts_S256x512_S256x512⟩ ::
  ⟨Rect.unit (s := S4096x512) ![256 * ((13 : Fin 16)).val, 0] S256x512.size (inS 13), shapeCast S256x512 (sc w (k 13)) shapeCasts_S256x512_S256x512⟩ ::
  ⟨Rect.unit (s := S4096x512) ![256 * ((12 : Fin 16)).val, 0] S256x512.size (inS 12), shapeCast S256x512 (sc w (k 12)) shapeCasts_S256x512_S256x512⟩ ::
  ⟨Rect.unit (s := S4096x512) ![256 * ((11 : Fin 16)).val, 0] S256x512.size (inS 11), shapeCast S256x512 (sc w (k 11)) shapeCasts_S256x512_S256x512⟩ ::
  ⟨Rect.unit (s := S4096x512) ![256 * ((10 : Fin 16)).val, 0] S256x512.size (inS 10), shapeCast S256x512 (sc w (k 10)) shapeCasts_S256x512_S256x512⟩ ::
  ⟨Rect.unit (s := S4096x512) ![256 * ((9 : Fin 16)).val, 0] S256x512.size (inS 9), shapeCast S256x512 (sc w (k 9)) shapeCasts_S256x512_S256x512⟩ ::
  ⟨Rect.unit (s := S4096x512) ![256 * ((8 : Fin 16)).val, 0] S256x512.size (inS 8), shapeCast S256x512 (sc w (k 8)) shapeCasts_S256x512_S256x512⟩ ::
  ⟨Rect.unit (s := S4096x512) ![256 * ((7 : Fin 16)).val, 0] S256x512.size (inS 7), shapeCast S256x512 (sc w (k 7)) shapeCasts_S256x512_S256x512⟩ ::
  ⟨Rect.unit (s := S4096x512) ![256 * ((6 : Fin 16)).val, 0] S256x512.size (inS 6), shapeCast S256x512 (sc w (k 6)) shapeCasts_S256x512_S256x512⟩ ::
  ⟨Rect.unit (s := S4096x512) ![256 * ((5 : Fin 16)).val, 0] S256x512.size (inS 5), shapeCast S256x512 (sc w (k 5)) shapeCasts_S256x512_S256x512⟩ ::
  ⟨Rect.unit (s := S4096x512) ![256 * ((4 : Fin 16)).val, 0] S256x512.size (inS 4), shapeCast S256x512 (sc w (k 4)) shapeCasts_S256x512_S256x512⟩ ::
  ⟨Rect.unit (s := S4096x512) ![256 * ((3 : Fin 16)).val, 0] S256x512.size (inS 3), shapeCast S256x512 (sc w (k 3)) shapeCasts_S256x512_S256x512⟩ ::
  ⟨Rect.unit (s := S4096x512) ![256 * ((2 : Fin 16)).val, 0] S256x512.size (inS 2), shapeCast S256x512 (sc w (k 2)) shapeCasts_S256x512_S256x512⟩ ::
  ⟨Rect.unit (s := S4096x512) ![256 * ((1 : Fin 16)).val, 0] S256x512.size (inS 1), shapeCast S256x512 (sc w (k 1)) shapeCasts_S256x512_S256x512⟩ ::
  ⟨Rect.unit (s := S4096x512) ![256 * ((0 : Fin 16)).val, 0] S256x512.size (inS 0), shapeCast S256x512 (sc w (k 0)) shapeCasts_S256x512_S256x512⟩ :: L

/-- The piece of partial maxima one unit stores. -/
def mxL (w : FVec F S128x512 .bf16) (k : Fin 16 → Vec F S256x128 .bf16) (L : List (View.Piece (Elt F) S8x512 .f32)) :
    List (View.Piece (Elt F) S8x512 .f32) :=
  ⟨Rect.unit (s := S8x512) ![0, 0] S8x512.size inM, shapeCast S8x512 (mx w k) shapeCasts_S8x512_S8x512⟩ :: L

/-- Chunk `c` of the scores a list of pieces left in a scratch. -/
def sread (a : Memref sig .tc .vmem S4096x512 .f32) (L : List (View.Piece (Elt F) S4096x512 .f32)) (i : grid0.Coords) (c : Fin 16) :
    FVec F S256x512 .f32 :=
  a.view.readCov L (Rect.unit (s := S4096x512) (k0_off1 i (BitVec.ofNat 32 (256 * c.val))) S256x512.size (k0_off1_inb i c)).toLoadRect

/-- Chunk `c` of the scores the point before left. -/
def sold (a : Memref sig .tc .vmem S4096x512 .f32) (h : a.IsWhole) (x : Vec F S4096x512 .f32) (i : grid0.Coords) (c : Fin 16) :
    FVec F S256x512 .f32 :=
  View.readAt (Elt F) a.view (Rect.unit (s := S4096x512) (k0_off1 i (BitVec.ofNat 32 (256 * c.val))) S256x512.size (k0_off1_inb i c)).toLoadRect (h.unread x)

/-- The partial maxima a list of pieces left in a scratch. -/
def mread (a : Memref sig .tc .vmem S8x512 .f32) (L : List (View.Piece (Elt F) S8x512 .f32)) : FVec F S8x512 .f32 :=
  a.view.readCov L (Rect.unit (s := S8x512) ![0, 0] S8x512.size inM).toLoadRect

/-- The partial maxima the point before left. -/
def mold (a : Memref sig .tc .vmem S8x512 .f32) (h : a.IsWhole) (x : Vec F S8x512 .f32) : FVec F S8x512 .f32 :=
  View.readAt (Elt F) a.view (Rect.unit (s := S8x512) ![0, 0] S8x512.size inM).toLoadRect (h.unread x)

/-- The two output tiles a unit stores. -/
def outL (b v : ℕ) (hb : b < 4) (hv : v < 2) (a : FVec F S80x512 .f32) (g0 g1 : Vec F S128x128 .f32)
    (L : List (View.Piece (Elt F) S512x512 .bf16)) : List (View.Piece (Elt F) S512x512 .bf16) :=
  ⟨Rect.unit (s := S512x512) ![128 * b, 256 * v + 128 * 1] S128x128.size (inO b v 1 hb hv (by omega)), out1 a g1⟩ ::
  ⟨Rect.unit (s := S512x512) ![128 * b, 256 * v + 128 * 0] S128x128.size (inO b v 0 hb hv (by omega)), out0 a g0⟩ :: L

end Cert.KernelIdeal.Att

end
-- ==== Proof.AttRunA.lean ====
module

public import proofs.«01_k».proof.Proof.AttOps

@[expose] public section

set_option maxRecDepth 16384

noncomputable section

namespace Cert.KernelIdeal.Att

open Idealize.ShloMosaic Idealize.ShloMosaic.TcCoe Idealize.ShloMosaic.Tactic Idealize.SL.Sem
open Cert.KernelIdeal Cert.KernelIdeal.Gen

variable {F : FTy → Type} [FloatOps F]

variable (c : Dev nD) (i : grid0.Coords) (arg2 : Memref sig .tc .vmem S1x2x4x64x512 .bf16) (harg2 : arg2.IsWhole) (arg3 : Memref sig .tc .vmem S1x2x1x64x512 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S1x2x80x4096 .bf16) (harg6 : arg6.IsWhole) (arg7 : Memref sig .tc .vmem S512x512 .f32) (harg7 : arg7.IsWhole) (arg8 : Memref sig .tc .vmem S512x512 .bf16) (harg8 : arg8.IsWhole) (arg9 : Memref sig .tc .vmem S4096x512 .f32) (harg9 : arg9.IsWhole) (arg10 : Memref sig .tc .vmem S4096x512 .f32) (harg10 : arg10.IsWhole) (arg11 : Memref sig .tc .vmem S4096x512 .f32) (harg11 : arg11.IsWhole) (arg12 : Memref sig .tc .vmem S4096x512 .f32) (harg12 : arg12.IsWhole) (arg13 : Memref sig .tc .vmem S8x512 .f32) (harg13 : arg13.IsWhole) (arg14 : Memref sig .tc .vmem S8x512 .f32) (harg14 : arg14.IsWhole) (arg15 : Memref sig .tc .vmem S8x512 .f32) (harg15 : arg15.IsWhole) (arg16 : Memref sig .tc .vmem S8x512 .f32) (harg16 : arg16.IsWhole) (hc0 : cond0_0 i) (x0 : Vec F S1x2x4x64x512 .bf16) (x1 : Vec F S1x2x1x64x512 .bf16) (x2 : Vec F S4096x128 .bf16) (x3 : Vec F S4096x128 .bf16) (x4 : Vec F S1x2x80x4096 .bf16) (x5 : Vec F S512x512 .f32)

/-- The first carried score scratch ends with the next block's scores, first head pair. -/
theorem runA_s0 : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5).2.1 =
    (scL (wq0 (nch arg3 harg3 x1 0)) (kch arg5 harg5 x3) (scL (wq0 (qch arg2 harg2 x0 0 2)) (kch arg4 harg4 x2) (scL (wq0 (qch arg2 harg2 x0 0 0)) (kch arg4 harg4 x2) []))) := by
  sl_kernel_rfl

/-- The second carried score scratch ends with the next block's scores, second head pair. -/
theorem runA_s1 : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5).2.2.1 =
    (scL (wq1 (nch arg3 harg3 x1 1)) (kch arg5 harg5 x3) (scL (wq1 (qch arg2 harg2 x0 1 2)) (kch arg4 harg4 x2) (scL (wq1 (qch arg2 harg2 x0 1 0)) (kch arg4 harg4 x2) []))) := by
  sl_kernel_rfl

/-- The first carried scratch of maxima ends with the next block's, first head pair. -/
theorem runA_m0 : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5).2.2.2.1 =
    (mxL (wq0 (nch arg3 harg3 x1 0)) (kch arg5 harg5 x3) (mxL (wq0 (qch arg2 harg2 x0 0 2)) (kch arg4 harg4 x2) (mxL (wq0 (qch arg2 harg2 x0 0 0)) (kch arg4 harg4 x2) []))) := by
  sl_kernel_rfl

/-- The second carried scratch of maxima ends with the next block's, second head pair. -/
theorem runA_m1 : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5).2.2.2.2.1 =
    (mxL (wq1 (nch arg3 harg3 x1 1)) (kch arg5 harg5 x3) (mxL (wq1 (qch arg2 harg2 x0 1 2)) (kch arg4 harg4 x2) (mxL (wq1 (qch arg2 harg2 x0 1 0)) (kch arg4 harg4 x2) []))) := by
  sl_kernel_rfl

/-- The output block's sixteen tiles. -/
theorem runA_o : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5).1 =
    (outL 3 1 (by omega) (by omega) (acc (mread arg16 (mxL (wq1 (qch arg2 harg2 x0 1 3)) (kch arg4 harg4 x2) (mxL (wq1 (qch arg2 harg2 x0 1 1)) (kch arg4 harg4 x2) []))) (sread arg12 (scL (wq1 (qch arg2 harg2 x0 1 3)) (kch arg4 harg4 x2) (scL (wq1 (qch arg2 harg2 x0 1 1)) (kch arg4 harg4 x2) [])) i) (vch arg6 harg6 x4 1))
    (gch arg7 harg7 x5 3 1 0 (by omega) (by omega) (by omega))
    (gch arg7 harg7 x5 3 1 1 (by omega) (by omega) (by omega)) (outL 3 0 (by omega) (by omega) (acc (mread arg15 (mxL (wq0 (qch arg2 harg2 x0 0 3)) (kch arg4 harg4 x2) (mxL (wq0 (qch arg2 harg2 x0 0 1)) (kch arg4 harg4 x2) []))) (sread arg11 (scL (wq0 (qch arg2 harg2 x0 0 3)) (kch arg4 harg4 x2) (scL (wq0 (qch arg2 harg2 x0 0 1)) (kch arg4 harg4 x2) [])) i) (vch arg6 harg6 x4 0))
    (gch arg7 harg7 x5 3 0 0 (by omega) (by omega) (by omega))
    (gch arg7 harg7 x5 3 0 1 (by omega) (by omega) (by omega)) (outL 2 1 (by omega) (by omega) (acc (mread arg14 (mxL (wq1 (qch arg2 harg2 x0 1 2)) (kch arg4 harg4 x2) (mxL (wq1 (qch arg2 harg2 x0 1 0)) (kch arg4 harg4 x2) []))) (sread arg10 (scL (wq1 (qch arg2 harg2 x0 1 2)) (kch arg4 harg4 x2) (scL (wq1 (qch arg2 harg2 x0 1 0)) (kch arg4 harg4 x2) [])) i) (vch arg6 harg6 x4 1))
    (gch arg7 harg7 x5 2 1 0 (by omega) (by omega) (by omega))
    (gch arg7 harg7 x5 2 1 1 (by omega) (by omega) (by omega)) (outL 2 0 (by omega) (by omega) (acc (mread arg13 (mxL (wq0 (qch arg2 harg2 x0 0 2)) (kch arg4 harg4 x2) (mxL (wq0 (qch arg2 harg2 x0 0 0)) (kch arg4 harg4 x2) []))) (sread arg9 (scL (wq0 (qch arg2 harg2 x0 0 2)) (kch arg4 harg4 x2) (scL (wq0 (qch arg2 harg2 x0 0 0)) (kch arg4 harg4 x2) [])) i) (vch arg6 harg6 x4 0))
    (gch arg7 harg7 x5 2 0 0 (by omega) (by omega) (by omega))
    (gch arg7 harg7 x5 2 0 1 (by omega) (by omega) (by omega)) (outL 1 1 (by omega) (by omega) (acc (mread arg16 (mxL (wq1 (qch arg2 harg2 x0 1 1)) (kch arg4 harg4 x2) [])) (sread arg12 (scL (wq1 (qch arg2 harg2 x0 1 1)) (kch arg4 harg4 x2) []) i) (vch arg6 harg6 x4 1))
    (gch arg7 harg7 x5 1 1 0 (by omega) (by omega) (by omega))
    (gch arg7 harg7 x5 1 1 1 (by omega) (by omega) (by omega)) (outL 1 0 (by omega) (by omega) (acc (mread arg15 (mxL (wq0 (qch arg2 harg2 x0 0 1)) (kch arg4 harg4 x2) [])) (sread arg11 (scL (wq0 (qch arg2 harg2 x0 0 1)) (kch arg4 harg4 x2) []) i) (vch arg6 harg6 x4 0))
    (gch arg7 harg7 x5 1 0 0 (by omega) (by omega) (by omega))
    (gch arg7 harg7 x5 1 0 1 (by omega) (by omega) (by omega)) (outL 0 1 (by omega) (by omega) (acc (mread arg14 (mxL (wq1 (qch arg2 harg2 x0 1 0)) (kch arg4 harg4 x2) [])) (sread arg10 (scL (wq1 (qch arg2 harg2 x0 1 0)) (kch arg4 harg4 x2) []) i) (vch arg6 harg6 x4 1))
    (gch arg7 harg7 x5 0 1 0 (by omega) (by omega) (by omega))
    (gch arg7 harg7 x5 0 1 1 (by omega) (by omega) (by omega)) (outL 0 0 (by omega) (by omega) (acc (mread arg13 (mxL (wq0 (qch arg2 harg2 x0 0 0)) (kch arg4 harg4 x2) [])) (sread arg9 (scL (wq0 (qch arg2 harg2 x0 0 0)) (kch arg4 harg4 x2) []) i) (vch arg6 harg6 x4 0))
    (gch arg7 harg7 x5 0 0 0 (by omega) (by omega) (by omega))
    (gch arg7 harg7 x5 0 0 1 (by omega) (by omega) (by omega)) [])))))))) := by
  sl_kernel_rfl

end Cert.KernelIdeal.Att

end
-- ==== Proof.AttRunB.lean ====
module

public import proofs.«01_k».proof.Proof.AttOps

@[expose] public section

set_option maxRecDepth 16384

noncomputable section

namespace Cert.KernelIdeal.Att

open Idealize.ShloMosaic Idealize.ShloMosaic.TcCoe Idealize.ShloMosaic.Tactic Idealize.SL.Sem
open Cert.KernelIdeal Cert.KernelIdeal.Gen

variable {F : FTy → Type} [FloatOps F]

variable (c : Dev nD) (i : grid0.Coords) (arg2 : Memref sig .tc .vmem S1x2x4x64x512 .bf16) (harg2 : arg2.IsWhole) (arg3 : Memref sig .tc .vmem S1x2x1x64x512 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S1x2x80x4096 .bf16) (harg6 : arg6.IsWhole) (arg7 : Memref sig .tc .vmem S512x512 .f32) (harg7 : arg7.IsWhole) (arg8 : Memref sig .tc .vmem S512x512 .bf16) (harg8 : arg8.IsWhole) (arg9 : Memref sig .tc .vmem S4096x512 .f32) (harg9 : arg9.IsWhole) (arg10 : Memref sig .tc .vmem S4096x512 .f32) (harg10 : arg10.IsWhole) (arg11 : Memref sig .tc .vmem S4096x512 .f32) (harg11 : arg11.IsWhole) (arg12 : Memref sig .tc .vmem S4096x512 .f32) (harg12 : arg12.IsWhole) (arg13 : Memref sig .tc .vmem S8x512 .f32) (harg13 : arg13.IsWhole) (arg14 : Memref sig .tc .vmem S8x512 .f32) (harg14 : arg14.IsWhole) (arg15 : Memref sig .tc .vmem S8x512 .f32) (harg15 : arg15.IsWhole) (arg16 : Memref sig .tc .vmem S8x512 .f32) (harg16 : arg16.IsWhole) (hc0 : ¬cond0_0 i) (x0 : Vec F S1x2x4x64x512 .bf16) (x1 : Vec F S1x2x1x64x512 .bf16) (x2 : Vec F S4096x128 .bf16) (x3 : Vec F S4096x128 .bf16) (x4 : Vec F S1x2x80x4096 .bf16) (x5 : Vec F S512x512 .f32) (xs0 : Vec F S4096x512 .f32) (xs1 : Vec F S4096x512 .f32) (xs4 : Vec F S8x512 .f32) (xs5 : Vec F S8x512 .f32)

/-- The first carried score scratch ends with the next block's scores, first head pair. -/
theorem runB_s0 : (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 xs0 xs1 xs4 xs5).2.1 =
    (scL (wq0 (nch arg3 harg3 x1 0)) (kch arg5 harg5 x3) (scL (wq0 (qch arg2 harg2 x0 0 2)) (kch arg4 harg4 x2) [])) := by
  sl_kernel_rfl

/-- The second carried score scratch ends with the next block's scores, second head pair. -/
theorem runB_s1 : (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 xs0 xs1 xs4 xs5).2.2.1 =
    (scL (wq1 (nch arg3 harg3 x1 1)) (kch arg5 harg5 x3) (scL (wq1 (qch arg2 harg2 x0 1 2)) (kch arg4 harg4 x2) [])) := by
  sl_kernel_rfl

/-- The first carried scratch of maxima ends with the next block's, first head pair. -/
theorem runB_m0 : (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 xs0 xs1 xs4 xs5).2.2.2.1 =
    (mxL (wq0 (nch arg3 harg3 x1 0)) (kch arg5 harg5 x3) (mxL (wq0 (qch arg2 harg2 x0 0 2)) (kch arg4 harg4 x2) [])) := by
  sl_kernel_rfl

/-- The second carried scratch of maxima ends with the next block's, second head pair. -/
theorem runB_m1 : (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 xs0 xs1 xs4 xs5).2.2.2.2.1 =
    (mxL (wq1 (nch arg3 harg3 x1 1)) (kch arg5 harg5 x3) (mxL (wq1 (qch arg2 harg2 x0 1 2)) (kch arg4 harg4 x2) [])) := by
  sl_kernel_rfl

/-- The output block's sixteen tiles. -/
theorem runB_o : (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 xs0 xs1 xs4 xs5).1 =
    (outL 3 1 (by omega) (by omega) (acc (mread arg16 (mxL (wq1 (qch arg2 harg2 x0 1 3)) (kch arg4 harg4 x2) (mxL (wq1 (qch arg2 harg2 x0 1 1)) (kch arg4 harg4 x2) []))) (sread arg12 (scL (wq1 (qch arg2 harg2 x0 1 3)) (kch arg4 harg4 x2) (scL (wq1 (qch arg2 harg2 x0 1 1)) (kch arg4 harg4 x2) [])) i) (vch arg6 harg6 x4 1))
    (gch arg7 harg7 x5 3 1 0 (by omega) (by omega) (by omega))
    (gch arg7 harg7 x5 3 1 1 (by omega) (by omega) (by omega)) (outL 3 0 (by omega) (by omega) (acc (mread arg15 (mxL (wq0 (qch arg2 harg2 x0 0 3)) (kch arg4 harg4 x2) (mxL (wq0 (qch arg2 harg2 x0 0 1)) (kch arg4 harg4 x2) []))) (sread arg11 (scL (wq0 (qch arg2 harg2 x0 0 3)) (kch arg4 harg4 x2) (scL (wq0 (qch arg2 harg2 x0 0 1)) (kch arg4 harg4 x2) [])) i) (vch arg6 harg6 x4 0))
    (gch arg7 harg7 x5 3 0 0 (by omega) (by omega) (by omega))
    (gch arg7 harg7 x5 3 0 1 (by omega) (by omega) (by omega)) (outL 2 1 (by omega) (by omega) (acc (mread arg14 (mxL (wq1 (qch arg2 harg2 x0 1 2)) (kch arg4 harg4 x2) [])) (sread arg10 (scL (wq1 (qch arg2 harg2 x0 1 2)) (kch arg4 harg4 x2) []) i) (vch arg6 harg6 x4 1))
    (gch arg7 harg7 x5 2 1 0 (by omega) (by omega) (by omega))
    (gch arg7 harg7 x5 2 1 1 (by omega) (by omega) (by omega)) (outL 2 0 (by omega) (by omega) (acc (mread arg13 (mxL (wq0 (qch arg2 harg2 x0 0 2)) (kch arg4 harg4 x2) [])) (sread arg9 (scL (wq0 (qch arg2 harg2 x0 0 2)) (kch arg4 harg4 x2) []) i) (vch arg6 harg6 x4 0))
    (gch arg7 harg7 x5 2 0 0 (by omega) (by omega) (by omega))
    (gch arg7 harg7 x5 2 0 1 (by omega) (by omega) (by omega)) (outL 1 1 (by omega) (by omega) (acc (mread arg16 (mxL (wq1 (qch arg2 harg2 x0 1 1)) (kch arg4 harg4 x2) [])) (sread arg12 (scL (wq1 (qch arg2 harg2 x0 1 1)) (kch arg4 harg4 x2) []) i) (vch arg6 harg6 x4 1))
    (gch arg7 harg7 x5 1 1 0 (by omega) (by omega) (by omega))
    (gch arg7 harg7 x5 1 1 1 (by omega) (by omega) (by omega)) (outL 1 0 (by omega) (by omega) (acc (mread arg15 (mxL (wq0 (qch arg2 harg2 x0 0 1)) (kch arg4 harg4 x2) [])) (sread arg11 (scL (wq0 (qch arg2 harg2 x0 0 1)) (kch arg4 harg4 x2) []) i) (vch arg6 harg6 x4 0))
    (gch arg7 harg7 x5 1 0 0 (by omega) (by omega) (by omega))
    (gch arg7 harg7 x5 1 0 1 (by omega) (by omega) (by omega)) (outL 0 1 (by omega) (by omega) (acc (mold arg14 harg14 xs5) (sold arg10 harg10 xs1 i) (vch arg6 harg6 x4 1))
    (gch arg7 harg7 x5 0 1 0 (by omega) (by omega) (by omega))
    (gch arg7 harg7 x5 0 1 1 (by omega) (by omega) (by omega)) (outL 0 0 (by omega) (by omega) (acc (mold arg13 harg13 xs4) (sold arg9 harg9 xs0 i) (vch arg6 harg6 x4 0))
    (gch arg7 harg7 x5 0 0 0 (by omega) (by omega) (by omega))
    (gch arg7 harg7 x5 0 0 1 (by omega) (by omega) (by omega)) [])))))))) := by
  sl_kernel_rfl

end Cert.KernelIdeal.Att

end
-- ==== Proof.AttPure.lean ====
module

public import Idealize.ShloMosaic.Lib.Pointwise
public import Idealize.ShloMosaic.PureOps.Ideal
public import Mathlib.Analysis.SpecialFunctions.Pow.Real

@[expose] public section

set_option maxRecDepth 16384

noncomputable section

namespace Cert.SoftPure

open Idealize.ShloMosaic

/-- The extended real is a real number. -/
def Re (x : EReal) : Prop := ∃ r : ℝ, x = (r : EReal)

theorem Re.coe (r : ℝ) : Re (r : EReal) := ⟨r, rfl⟩

theorem Re.zero : Re (0 : EReal) := ⟨0, by norm_num⟩

theorem Re.add {x y : EReal} (hx : Re x) (hy : Re y) : Re (x + y) := by
  obtain ⟨a, rfl⟩ := hx; obtain ⟨b, rfl⟩ := hy; exact ⟨a + b, (EReal.coe_add a b).symm⟩

theorem Re.mul {x y : EReal} (hx : Re x) (hy : Re y) : Re (x * y) := by
  obtain ⟨a, rfl⟩ := hx; obtain ⟨b, rfl⟩ := hy; exact ⟨a * b, (EReal.coe_mul a b).symm⟩

theorem Re.max {x y : EReal} (hx : Re x) (hy : Re y) : Re (Max.max x y) := by
  rcases max_choice x y with h | h <;> rw [h] <;> assumption

theorem Re.sum {ι : Type*} (s : Finset ι) (f : ι → EReal) (h : ∀ i ∈ s, Re (f i)) : Re (∑ i ∈ s, f i) := by
  classical
  induction s using Finset.induction_on with
  | empty => simpa using Re.zero
  | insert a s ha ih =>
    rw [Finset.sum_insert ha]
    exact (h a (Finset.mem_insert_self a s)).add (ih fun i hi => h i (Finset.mem_insert_of_mem hi))

/-- A maximum over a nonempty family of reals, begun at minus infinity, is real. -/
theorem Re.fold {ι : Type*} (s : Finset ι) (f : ι → EReal) (h : ∀ i ∈ s, Re (f i)) (hs : s.Nonempty) :
    Re (s.fold Max.max ⊥ f) := by
  classical
  have key : ∀ s : Finset ι, (∀ i ∈ s, Re (f i)) → s = ∅ ∨ Re (s.fold Max.max ⊥ f) := by
    intro s
    induction s using Finset.induction_on with
    | empty => intro _; exact Or.inl rfl
    | insert a s ha ih =>
      intro h
      right
      rw [Finset.fold_insert ha]
      rcases ih fun i hi => h i (Finset.mem_insert_of_mem hi) with h0 | h0
      · subst h0; simpa using h a (Finset.mem_insert_self a _)
      · exact (h a (Finset.mem_insert_self a s)).max h0
  rcases key s h with h0 | h0
  · exact absurd h0 hs.ne_empty
  · exact h0

theorem Re.eq {x : EReal} (h : Re x) : x = (x.toReal : EReal) := by
  obtain ⟨r, rfl⟩ := h; simp

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A real factor that is not negative distributes over a sum of extended reals. -/
theorem sum_mul_coe {ι : Type*} (c : ℝ) (hc : 0 ≤ c) (s : Finset ι) (f : ι → EReal) :
    (∑ i ∈ s, f i) * (c : EReal) = ∑ i ∈ s, f i * (c : EReal) := by
  classical
  induction s using Finset.induction_on with
  | empty => simp
  | insert a s ha ih =>
    rw [Finset.sum_insert ha, Finset.sum_insert ha, ← ih]
    exact EReal.right_distrib_of_nonneg_of_ne_top (by exact_mod_cast hc) (EReal.coe_ne_top c) _ _

/-- The softmax weights of real scores, to the base two. -/
def soft2 {n : ℕ} (g : Fin n → ℝ) (r : Fin n) : ℝ := (2 : ℝ) ^ g r / ∑ k, (2 : ℝ) ^ g k

/-- Shifting the exponents by one real, weighting the values and dividing by the sum at the end is weighting by the softmax. -/
theorem quotient_eq {n : ℕ} (hn : 0 < n) (g : Fin n → ℝ) (μ : ℝ) (v : Fin n → EReal) :
    Ideal.div (∑ r, v r * Ideal.exp2 ((g r : EReal) - (μ : EReal))) (∑ r, 1 * Ideal.exp2 ((g r : EReal) - (μ : EReal)))
      = ∑ r, v r * ((soft2 g r : ℝ) : EReal) := by
  have h2 : ∀ r, Ideal.exp2 ((g r : EReal) - (μ : EReal)) = (((2 : ℝ) ^ (g r - μ) : ℝ) : EReal) := fun r => by
    rw [← EReal.coe_sub, Ideal.exp2_coe]; rfl
  have hpos : ∀ r, 0 < (2 : ℝ) ^ (g r - μ) := fun r => Real.rpow_pos_of_pos (by norm_num) _
  haveI : Nonempty (Fin n) := ⟨⟨0, hn⟩⟩
  have hL : 0 < ∑ r, (2 : ℝ) ^ (g r - μ) := Finset.sum_pos (fun r _ => hpos r) Finset.univ_nonempty
  simp only [h2, one_mul, ← coe_sum]
  rw [Ideal.div_coe hL.ne', sum_mul_coe _ (by positivity)]
  refine Finset.sum_congr rfl fun r _ => ?_
  rw [mul_assoc, ← EReal.coe_mul]
  congr 2
  have hμ : (2 : ℝ) ^ μ ≠ 0 := (Real.rpow_pos_of_pos (by norm_num) _).ne'
  simp only [soft2, Real.rpow_sub (show (0 : ℝ) < 2 by norm_num), ← Finset.sum_div]
  have hL' : (∑ k, (2 : ℝ) ^ g k) ≠ 0 :=
    (Finset.sum_pos (fun r _ => Real.rpow_pos_of_pos (by norm_num) _) Finset.univ_nonempty).ne'
  field_simp

/-- Weighting by exponentials divided one by one is weighting by the base-two softmax of the scores over the logarithm of two. -/
theorem weights_eq {n : ℕ} (hn : 0 < n) (s : Fin n → ℝ) (μ : ℝ) (v : Fin n → EReal) :
    (∑ r, v r * Ideal.div (Ideal.exp ((s r : EReal) - (μ : EReal))) (∑ k, Ideal.exp ((s k : EReal) - (μ : EReal))))
      = ∑ r, v r * ((soft2 (fun k => s k / Real.log 2) r : ℝ) : EReal) := by
  have h2 : ∀ r, Ideal.exp ((s r : EReal) - (μ : EReal)) = ((Real.exp (s r - μ) : ℝ) : EReal) := fun r => by
    rw [← EReal.coe_sub, Ideal.exp_coe]
  haveI : Nonempty (Fin n) := ⟨⟨0, hn⟩⟩
  have hL : 0 < ∑ r, Real.exp (s r - μ) := Finset.sum_pos (fun r _ => Real.exp_pos _) Finset.univ_nonempty
  have he : ∀ r, (2 : ℝ) ^ (s r / Real.log 2) = Real.exp (s r) := fun r => by
    rw [Real.rpow_def_of_pos (by norm_num), mul_div_cancel₀]
    exact (Real.log_pos (by norm_num)).ne'
  simp only [h2, ← coe_sum]
  refine Finset.sum_congr rfl fun r _ => ?_
  rw [Ideal.div_coe hL.ne', ← EReal.coe_mul]
  congr 2
  simp only [soft2, he, Real.exp_sub, ← Finset.sum_div]
  have hμ : Real.exp μ ≠ 0 := (Real.exp_pos _).ne'
  have hL' : (∑ k, Real.exp (s k)) ≠ 0 := (Finset.sum_pos (fun r _ => Real.exp_pos _) Finset.univ_nonempty).ne'
  field_simp

end Cert.SoftPure

end
-- ==== Proof.AttUnit.lean ====
module

public import proofs.«01_k».proof.Proof.AttOps
public import proofs.«01_k».proof.Proof.AttPure
public import Idealize.ShloMosaic.Lib.Pointwise

@[expose] public section

set_option maxRecDepth 16384

noncomputable section

namespace Cert.KernelIdeal.Att

open Idealize.ShloMosaic Idealize.ShloMosaic.TcCoe Idealize.SL.Sem
open Cert.KernelIdeal Cert.KernelIdeal.Gen Cert.SoftPure

/-- Row `256 c + x` of the 4096. -/
def row (c : Fin 16) (x : Fin 256) : Fin 4096 := ⟨256 * c.val + x.val, by have := c.isLt; have := x.isLt; omega⟩

/-- Column `64 v + d` of the 128 key columns. -/
def col (v : Fin 2) (d : Fin 64) : Fin 128 := ⟨64 * v.val + d.val, by have := v.isLt; have := d.isLt; omega⟩

theorem sc0_at (q : Vec Ideal S1x1x1x64x512 .bf16) (k : Vec Ideal S256x128 .bf16) (x : Fin 256) (j : Fin 512) :
    sc (F := Ideal) (wq0 q) k (ix2 x j) = ∑ d : Fin 64, (k (ix2 x (col 0 d)) : EReal) * q (ix5 0 0 0 d j) := by
  pointwise [sc, wq0]
  simp only [mul_zero, Finset.sum_const_zero, add_zero]
  refine Finset.sum_congr rfl fun d _ => ?_
  have hc : ∀ h, (⟨d.val, h⟩ : Fin 128) = col 0 d := fun h => Fin.ext (by show d.val = 64 * 0 + d.val; omega)
  rw [hc]

theorem sc1_at (q : Vec Ideal S1x1x1x64x512 .bf16) (k : Vec Ideal S256x128 .bf16) (x : Fin 256) (j : Fin 512) :
    sc (F := Ideal) (wq1 q) k (ix2 x j) = ∑ d : Fin 64, (k (ix2 x (col 1 d)) : EReal) * q (ix5 0 0 0 d j) := by
  pointwise [sc, wq1]
  simp only [mul_zero, Finset.sum_const_zero, zero_add]
  rfl

theorem negInf : Ideal.ofBits .f32 0xFF800000#32 = ⊥ := by
  simp [Ideal.ofBits, Ideal.ieee]

theorem red8_re (s : FVec Ideal S256x512 .f32) (h : ∀ x j, Re (s (ix2 x j))) (a : Fin 8) (j : Fin 512) :
    Re (red8 (F := Ideal) s (ix2 a j)) := by
  pointwise [red8]
  rw [negInf]
  exact Re.fold _ _ (fun x _ => h _ _) Finset.univ_nonempty

theorem mrow_re (m : FVec Ideal S8x512 .f32) (h : ∀ x j, Re (m (ix2 x j))) (j : Fin 512) :
    Re (mrow (F := Ideal) m (ix2 0 j)) := by
  pointwise [mrow]
  rw [negInf]
  exact Re.fold _ _ (fun x _ => h _ _) Finset.univ_nonempty

theorem maximumf_re (x y : FVec Ideal S8x512 .f32) (hx : ∀ a j, Re (x (ix2 a j))) (hy : ∀ a j, Re (y (ix2 a j)))
    (a : Fin 8) (j : Fin 512) : Re (maximumf x y (ix2 a j)) := (hx a j).max (hy a j)

/-- Partial maxima of real scores are real. -/
theorem mx_re (w : FVec Ideal S128x512 .bf16) (k : Fin 16 → Vec Ideal S256x128 .bf16)
    (h : ∀ c x j, Re (sc (F := Ideal) w (k c) (ix2 x j))) (a : Fin 8) (j : Fin 512) : Re (mx (F := Ideal) w k (ix2 a j)) := by
  unfold mx
  exact (maximumf_re _ _ (maximumf_re _ _ (maximumf_re _ _ (maximumf_re _ _ (maximumf_re _ _ (maximumf_re _ _ (maximumf_re _ _ (maximumf_re _ _ (maximumf_re _ _ (maximumf_re _ _ (maximumf_re _ _ (maximumf_re _ _ (maximumf_re _ _ (maximumf_re _ _ (maximumf_re _ _ (red8_re _ (h 0)) (red8_re _ (h 1))) (red8_re _ (h 2))) (red8_re _ (h 3))) (red8_re _ (h 4))) (red8_re _ (h 5))) (red8_re _ (h 6))) (red8_re _ (h 7))) (red8_re _ (h 8))) (red8_re _ (h 9))) (red8_re _ (h 10))) (red8_re _ (h 11))) (red8_re _ (h 12))) (red8_re _ (h 13))) (red8_re _ (h 14))) (red8_re _ (h 15))) a j

theorem cacc_at (m : FVec Ideal S1x512 .f32) (s : FVec Ideal S256x512 .f32) (v : Vec Ideal S1x1x80x256 .bf16) (e : Fin 80) (j : Fin 512) :
    cacc (F := Ideal) m s v (ix2 e j) = ∑ x : Fin 256, (v (ix4 0 0 e x) : EReal) * Ideal.exp2 (s (ix2 x j) - m (ix2 0 j)) := by
  pointwise [cacc]
  rfl

theorem addf_at (x y : FVec Ideal S80x512 .f32) (i : S80x512.Idx) : addf x y i = (x i + y i : EReal) := rfl

/-- The accumulated chunks are one sum over the 4096 keys. -/
theorem acc_at (m8 : FVec Ideal S8x512 .f32) (s : Fin 16 → FVec Ideal S256x512 .f32) (v : Fin 16 → Vec Ideal S1x1x80x256 .bf16)
    (S : Fin 4096 → Fin 512 → EReal) (V : Fin 80 → Fin 4096 → EReal)
    (hs : ∀ c x j, s c (ix2 x j) = S (row c x) j) (hv : ∀ c e x, v c (ix4 0 0 e x) = V e (row c x)) (e : Fin 80) (j : Fin 512) :
    acc (F := Ideal) m8 s v (ix2 e j)
      = ∑ r : Fin 4096, V e r * Ideal.exp2 (S r j - mrow (F := Ideal) m8 (ix2 0 j)) := by
  have hc : ∀ c, cacc (F := Ideal) (mrow m8) (s c) (v c) (ix2 e j)
      = ∑ x : Fin 256, V e (row c x) * Ideal.exp2 (S (row c x) j - mrow (F := Ideal) m8 (ix2 0 j)) := fun c => by
    rw [cacc_at]
    exact Finset.sum_congr rfl fun x _ => by rw [hs, hv]
  have ht := Fin.sum_univ_tiles 16 256 rfl (fun r : Fin 4096 => V e r * Ideal.exp2 (S r j - mrow (F := Ideal) m8 (ix2 0 j)))
  rw [ht]
  have hr : ∀ (c : Fin 16) (x : Fin 256) (h), (⟨c.val * 256 + x.val, h⟩ : Fin 4096) = row c x := fun c x h =>
    Fin.ext (by simp only [row]; omega)
  simp only [hr, ← hc]
  unfold acc
  simp only [addf_at]
  simp only [Fin.sum_univ_castSucc, Fin.sum_univ_zero, zero_add]
  rfl

/-- The values weighted by the base-two softmax of the scores. -/
def uval (S V : Fin 4096 → EReal) : EReal := ∑ r, V r * ((soft2 (fun k => (S k).toReal) r : ℝ) : EReal)

/-- The quotient of accumulated rows `e` and 64. -/
theorem acc_div (m8 : FVec Ideal S8x512 .f32) (s : Fin 16 → FVec Ideal S256x512 .f32) (v : Fin 16 → Vec Ideal S1x1x80x256 .bf16)
    (S : Fin 4096 → Fin 512 → EReal) (V : Fin 80 → Fin 4096 → EReal)
    (hs : ∀ c x j, s c (ix2 x j) = S (row c x) j) (hv : ∀ c e x, v c (ix4 0 0 e x) = V e (row c x))
    (hS : ∀ r j, Re (S r j)) (hm : ∀ a j, Re (m8 (ix2 a j))) (h1 : ∀ r, V 64 r = 1) (e : Fin 80) (j : Fin 512) :
    Ideal.div (acc (F := Ideal) m8 s v (ix2 e j)) (acc (F := Ideal) m8 s v (ix2 64 j)) = uval (fun r => S r j) (V e) := by
  rw [acc_at m8 s v S V hs hv, acc_at m8 s v S V hs hv]
  obtain ⟨μ, hμ⟩ := mrow_re m8 hm j
  rw [hμ]
  have hS' : ∀ r, S r j = ((S r j).toReal : EReal) := fun r => (hS r j).eq
  have := quotient_eq (n := 4096) (by norm_num) (fun r => (S r j).toReal) μ (V e)
  simp only [← hS'] at this
  simp only [h1]
  exact this

/-- Column `128 g + n` of the 512 query columns. -/
def qcol (g : Fin 4) (n : Fin 128) : Fin 512 := ⟨128 * g.val + n.val, by have := g.isLt; have := n.isLt; omega⟩

/-- A tile of the output: head `x / 64` of the pair, its feature `x % 64`. -/
theorem out0_at (a : FVec Ideal S80x512 .f32) (g : Vec Ideal S128x128 .f32) (f : Fin 80 → Fin 512 → EReal)
    (h : ∀ e j, Ideal.div (a (ix2 e j)) (a (ix2 64 j)) = f e j) (n : Fin 128) (x : Fin 128) :
    out0 (F := Ideal) a g (ix2 n x)
      = f ⟨x.val % 64, by omega⟩ (qcol ⟨x.val / 64, by have := x.isLt; omega⟩ n) * g (ix2 n x) := by
  pointwise [out0, quo]
  have hx := x.isLt
  refine congrArg₂ (fun p q : EReal => p * q) ?_ rfl
  by_cases hlt : (x : ℕ) < 64
  · rw [dif_pos hlt, h]
    exact congrArg₂ f (Fin.ext (by simp only []; omega)) (Fin.ext (by simp only [qcol]; omega))
  · rw [dif_neg hlt, h]
    exact congrArg₂ f (Fin.ext (by simp only []; omega)) (Fin.ext (by simp only [qcol]; omega))

theorem out1_at (a : FVec Ideal S80x512 .f32) (g : Vec Ideal S128x128 .f32) (f : Fin 80 → Fin 512 → EReal)
    (h : ∀ e j, Ideal.div (a (ix2 e j)) (a (ix2 64 j)) = f e j) (n : Fin 128) (x : Fin 128) :
    out1 (F := Ideal) a g (ix2 n x)
      = f ⟨x.val % 64, by omega⟩ (qcol ⟨2 + x.val / 64, by have := x.isLt; omega⟩ n) * g (ix2 n x) := by
  pointwise [out1, quo]
  have hx := x.isLt
  refine congrArg₂ (fun p q : EReal => p * q) ?_ rfl
  by_cases hlt : (x : ℕ) < 64
  · rw [dif_pos hlt, h]
    exact congrArg₂ f (Fin.ext (by simp only []; omega)) (Fin.ext (by simp only [qcol]; omega))
  · rw [dif_neg hlt, h]
    exact congrArg₂ f (Fin.ext (by simp only []; omega)) (Fin.ext (by simp only [qcol]; omega))

end Cert.KernelIdeal.Att

end
-- ==== Proof.AttPieces.lean ====
module

public import proofs.«01_k».proof.Proof.AttUnit
public import Idealize.ShloMosaic.Lib.Pipeline.ReadBack
public import Idealize.ShloMosaic.Lib.Pipeline.FrameBody
public import Idealize.ShloMosaic.Lib.Pipeline.Value

@[expose] public section

set_option maxRecDepth 16384

noncomputable section

namespace Cert.KernelIdeal.Att

open Idealize.ShloMosaic Idealize.ShloMosaic.TcCoe Idealize.ShloMosaic.Tactic Idealize.SL.Sem
open Cert.KernelIdeal Cert.KernelIdeal.Gen Cert.SoftPure

/-- Chunk `c` of a score scratch starts at row `256 c`, at every grid point. -/
theorem off1_eq (i : grid0.Coords) (c : Fin 16) : k0_off1 i (BitVec.ofNat 32 (256 * c.val)) = ![256 * c.val, 0] := by
  have key : ∀ (a : Fin 8) (c : Fin 16),
      (Scalar.indexCast (Scalar.addi (Scalar.minsi (BitVec.ofNat 32 a.val) 0#32) (BitVec.ofNat 32 (256 * c.val))) : Index).toNat = 256 * c.val := by
    decide
  have := key (i 1) c
  unfold k0_off1
  funext a
  match a with
  | ⟨0, _⟩ => exact this
  | ⟨1, _⟩ => rfl

/-- Row `y` of chunk `c` of a score scratch. -/
theorem embS (c : Fin 16) (z : (Rect.unit (s := S4096x512) ![256 * c.val, 0] S256x512.size (inS c)).shape.Idx) :
    (Rect.unit (s := S4096x512) ![256 * c.val, 0] S256x512.size (inS c)).emb z = ix2 (row c (z 0)) (z 1) := by
  funext a
  match a with
  | ⟨0, _⟩ => exact Fin.ext (by show 256 * c.val + 1 * (z 0).val = 256 * c.val + (z 0).val; omega)
  | ⟨1, _⟩ => exact Fin.ext (by show 0 + 1 * (z 1).val = (z 1).val; omega)

theorem idxS (i : grid0.Coords) (c : Fin 16) (x : Fin 256) (j : Fin 512) :
    (Rect.unit (s := S4096x512) (k0_off1 i (BitVec.ofNat 32 (256 * c.val))) S256x512.size (k0_off1_inb i c)).toLoadRect.idx (ix2 x j)
      = ix2 (row c x) j := by
  have h := off1_eq i c
  have key : ∀ (off : Fin 2 → ℕ) (hb : ∀ a, off a + S256x512.size a ≤ S4096x512.size a), off = ![256 * c.val, 0] →
      (Rect.unit (s := S4096x512) off S256x512.size hb).toLoadRect.idx (ix2 x j) = ix2 (row c x) j := by
    intro off hb e
    subst e
    exact embS c (ix2 x j)
  exact key _ _ h

theorem kch_at (a : Memref sig .tc .vmem S4096x128 .bf16) (h : a.IsWhole) (x : Vec Ideal S4096x128 .bf16) (c : Fin 16)
    (y : Fin 256) (d : Fin 128) : kch (F := Ideal) a h x c (ix2 y d) = x (ix2 (row c y) d) := by
  unfold kch
  rw [View.readAt_eq_ld, h.read_unread]
  refine congrArg x ?_
  funext a
  match a with
  | ⟨0, _⟩ => exact Fin.ext (by show 256 * c.val + 1 * y.val = 256 * c.val + y.val; omega)
  | ⟨1, _⟩ => exact Fin.ext (by show 0 + 1 * d.val = d.val; omega)

theorem vch_at (a : Memref sig .tc .vmem S1x2x80x4096 .bf16) (h : a.IsWhole) (x : Vec Ideal S1x2x80x4096 .bf16) (v : Fin 2)
    (c : Fin 16) (e : Fin 80) (y : Fin 256) : vch (F := Ideal) a h x v c (ix4 0 0 e y) = x (ix4 0 v e (row c y)) := by
  unfold vch
  rw [View.readAt_eq_ld, h.read_unread]
  refine congrArg x ?_
  funext a
  match a with
  | ⟨0, _⟩ => rfl
  | ⟨1, _⟩ => exact Fin.ext (by show v.val + 1 * 0 = v.val; omega)
  | ⟨2, _⟩ => exact Fin.ext (by show 0 + 1 * e.val = e.val; omega)
  | ⟨3, _⟩ => exact Fin.ext (by show 256 * c.val + 1 * y.val = 256 * c.val + y.val; omega)

theorem qch_at (a : Memref sig .tc .vmem S1x2x4x64x512 .bf16) (h : a.IsWhole) (x : Vec Ideal S1x2x4x64x512 .bf16) (v : Fin 2)
    (b : Fin 4) (d : Fin 64) (j : Fin 512) : qch (F := Ideal) a h x v b (ix5 0 0 0 d j) = x (ix5 0 v b d j) := by
  unfold qch
  rw [View.readAt_eq_ld, h.read_unread]
  refine congrArg x ?_
  funext a
  match a with
  | ⟨0, _⟩ => rfl
  | ⟨1, _⟩ => exact Fin.ext (by show v.val + 1 * 0 = v.val; omega)
  | ⟨2, _⟩ => exact Fin.ext (by show b.val + 1 * 0 = b.val; omega)
  | ⟨3, _⟩ => exact Fin.ext (by show 0 + 1 * d.val = d.val; omega)
  | ⟨4, _⟩ => exact Fin.ext (by show 0 + 1 * j.val = j.val; omega)

theorem nch_at (a : Memref sig .tc .vmem S1x2x1x64x512 .bf16) (h : a.IsWhole) (x : Vec Ideal S1x2x1x64x512 .bf16) (v : Fin 2)
    (d : Fin 64) (j : Fin 512) : nch (F := Ideal) a h x v (ix5 0 0 0 d j) = x (ix5 0 v 0 d j) := by
  unfold nch
  rw [View.readAt_eq_ld, h.read_unread]
  refine congrArg x ?_
  funext a
  match a with
  | ⟨0, _⟩ => rfl
  | ⟨1, _⟩ => exact Fin.ext (by show v.val + 1 * 0 = v.val; omega)
  | ⟨2, _⟩ => rfl
  | ⟨3, _⟩ => exact Fin.ext (by show 0 + 1 * d.val = d.val; omega)
  | ⟨4, _⟩ => exact Fin.ext (by show 0 + 1 * j.val = j.val; omega)

/-- The scores of a staged query block against the staged keys. -/
def scoreB (X0 : Vec Ideal S1x2x4x64x512 .bf16) (X2 : Vec Ideal S4096x128 .bf16) (v : Fin 2) (b : Fin 4) (r : Fin 4096) (j : Fin 512) :
    EReal := ∑ d : Fin 64, (X2 (ix2 r (col v d)) : EReal) * X0 (ix5 0 v b d j)

/-- The scores of the next query block against the next keys. -/
def scoreN (X1 : Vec Ideal S1x2x1x64x512 .bf16) (X3 : Vec Ideal S4096x128 .bf16) (v : Fin 2) (r : Fin 4096) (j : Fin 512) :
    EReal := ∑ d : Fin 64, (X3 (ix2 r (col v d)) : EReal) * X1 (ix5 0 v 0 d j)

theorem scoreB_re (X0 : Vec Ideal S1x2x4x64x512 .bf16) (X2 : Vec Ideal S4096x128 .bf16) (h0 : ∀ i, Re (X0 i)) (h2 : ∀ i, Re (X2 i))
    (v : Fin 2) (b : Fin 4) (r : Fin 4096) (j : Fin 512) : Re (scoreB X0 X2 v b r j) :=
  Re.sum _ _ fun _ _ => (h2 _).mul (h0 _)

theorem scoreN_re (X1 : Vec Ideal S1x2x1x64x512 .bf16) (X3 : Vec Ideal S4096x128 .bf16) (h0 : ∀ i, Re (X1 i)) (h2 : ∀ i, Re (X3 i))
    (v : Fin 2) (r : Fin 4096) (j : Fin 512) : Re (scoreN X1 X3 v r j) :=
  Re.sum _ _ fun _ _ => (h2 _).mul (h0 _)

section chunks

variable (a2 : Memref sig .tc .vmem S1x2x4x64x512 .bf16) (h2 : a2.IsWhole) (x0 : Vec Ideal S1x2x4x64x512 .bf16)
  (a3 : Memref sig .tc .vmem S1x2x1x64x512 .bf16) (h3 : a3.IsWhole) (x1 : Vec Ideal S1x2x1x64x512 .bf16)
  (a4 : Memref sig .tc .vmem S4096x128 .bf16) (h4 : a4.IsWhole) (x2 : Vec Ideal S4096x128 .bf16)

theorem sc0B (b : Fin 4) (c : Fin 16) (x : Fin 256) (j : Fin 512) :
    sc (F := Ideal) (wq0 (qch a2 h2 x0 0 b)) (kch a4 h4 x2 c) (ix2 x j) = scoreB x0 x2 0 b (row c x) j := by
  rw [sc0_at]; exact Finset.sum_congr rfl fun d _ => by rw [kch_at, qch_at]

theorem sc1B (b : Fin 4) (c : Fin 16) (x : Fin 256) (j : Fin 512) :
    sc (F := Ideal) (wq1 (qch a2 h2 x0 1 b)) (kch a4 h4 x2 c) (ix2 x j) = scoreB x0 x2 1 b (row c x) j := by
  rw [sc1_at]; exact Finset.sum_congr rfl fun d _ => by rw [kch_at, qch_at]

theorem sc0N (c : Fin 16) (x : Fin 256) (j : Fin 512) :
    sc (F := Ideal) (wq0 (nch a3 h3 x1 0)) (kch a4 h4 x2 c) (ix2 x j) = scoreN x1 x2 0 (row c x) j := by
  rw [sc0_at]; exact Finset.sum_congr rfl fun d _ => by rw [kch_at, nch_at]

theorem sc1N (c : Fin 16) (x : Fin 256) (j : Fin 512) :
    sc (F := Ideal) (wq1 (nch a3 h3 x1 1)) (kch a4 h4 x2 c) (ix2 x j) = scoreN x1 x2 1 (row c x) j := by
  rw [sc1_at]; exact Finset.sum_congr rfl fun d _ => by rw [kch_at, nch_at]

end chunks

section pieces

variable (w : FVec Ideal S128x512 .bf16) (k : Fin 16 → Vec Ideal S256x128 .bf16) (S : Fin 4096 → Fin 512 → EReal)
  (hw : ∀ c x j, sc (F := Ideal) w (k c) (ix2 x j) = S (row c x) j)
include hw

theorem sc_piece (c : Fin 16) (z : S256x512.Idx) :
    shapeCast S256x512 (sc (F := Ideal) w (k c)) shapeCasts_S256x512_S256x512 z
      = (fun y : S4096x512.Idx => S (y 0) (y 1)) ((Rect.unit (s := S4096x512) ![256 * c.val, 0] S256x512.size (inS c)).emb z) := by
  rw [embS c z, shapeCast_self]
  exact (congrArg (sc (F := Ideal) w (k c)) (eq_ix2 z)).trans (hw c (z 0) (z 1))

theorem scL_pieces : View.PiecesOf (Val := Elt Ideal) (fun y : S4096x512.Idx => S (y 0) (y 1)) (scL (F := Ideal) w k []) :=
  ⟨sc_piece w k S hw 15, sc_piece w k S hw 14, sc_piece w k S hw 13, sc_piece w k S hw 12, sc_piece w k S hw 11, sc_piece w k S hw 10, sc_piece w k S hw 9, sc_piece w k S hw 8, sc_piece w k S hw 7, sc_piece w k S hw 6, sc_piece w k S hw 5, sc_piece w k S hw 4, sc_piece w k S hw 3, sc_piece w k S hw 2, sc_piece w k S hw 1, sc_piece w k S hw 0, trivial⟩

/-- What a unit's score pieces leave, whatever was there before. -/
theorem scL_canon (L : List (View.Piece (Elt Ideal) S4096x512 .f32)) :
    View.canon (scL (F := Ideal) w k L) = fun y : S4096x512.Idx => S (y 0) (y 1) :=
by
  have hL : scL (F := Ideal) w k L = scL w k [] ++ L := rfl
  funext y
  rw [hL]
  exact View.canon_append_of_piecesOf _ L _ (scL_pieces w k S hw) y
    (View.cover_of_tiledL (scL (F := Ideal) w k []) S256x512.size (by sl_kernel_rfl) y)

theorem sread_at (a : Memref sig .tc .vmem S4096x512 .f32) (L : List (View.Piece (Elt Ideal) S4096x512 .f32)) (i : grid0.Coords)
    (c : Fin 16) (x : Fin 256) (j : Fin 512) : sread (F := Ideal) a (scL w k L) i c (ix2 x j) = S (row c x) j := by
  unfold sread
  rw [View.readCov_eq_canon', scL_canon w k S hw]
  exact congrArg (fun y : S4096x512.Idx => S (y 0) (y 1)) (idxS i c x j)

variable (hS : ∀ r j, Re (S r j))
include hS

theorem mxL_canon_re (L : List (View.Piece (Elt Ideal) S8x512 .f32)) (y : S8x512.Idx) :
    Re (View.canon (mxL (F := Ideal) w k L) y) := by
  unfold mxL
  rw [View.canon_cons_unit_zero (by funext a; match a with | ⟨0, _⟩ => rfl | ⟨1, _⟩ => rfl), shapeCast_self, eq_ix2 y]
  exact mx_re w k (fun c x j => by rw [hw]; exact hS _ _) _ _

theorem mread_re (a : Memref sig .tc .vmem S8x512 .f32) (L : List (View.Piece (Elt Ideal) S8x512 .f32)) (b : Fin 8) (j : Fin 512) :
    Re (mread (F := Ideal) a (mxL w k L) (ix2 b j)) := by
  unfold mread
  rw [View.readCov_eq_canon']
  exact mxL_canon_re w k S hw hS L _

end pieces

theorem sold_at (a : Memref sig .tc .vmem S4096x512 .f32) (h : a.IsWhole) (X : Vec Ideal S4096x512 .f32) (i : grid0.Coords)
    (c : Fin 16) (x : Fin 256) (j : Fin 512) : sold (F := Ideal) a h X i c (ix2 x j) = X (ix2 (row c x) j) := by
  unfold sold
  rw [View.readAt_eq_ld, h.read_unread]
  exact congrArg X (idxS i c x j)

theorem mold_re (a : Memref sig .tc .vmem S8x512 .f32) (h : a.IsWhole) (X : Vec Ideal S8x512 .f32) (hX : ∀ y, Re (X y)) (b : Fin 8)
    (j : Fin 512) : Re (mold (F := Ideal) a h X (ix2 b j)) := by
  unfold mold
  rw [View.readAt_eq_ld, h.read_unread]
  exact hX _

/-- The block one point leaves: for each of its four query blocks and both head groups, the softmax-weighted values times the gate. -/
def blk (S : Fin 2 → Fin 4 → Fin 4096 → Fin 512 → EReal) (X4 : Vec Ideal S1x2x80x4096 .bf16) (X5 : Vec Ideal S512x512 .f32)
    (n : Fin 512) (x : Fin 512) : EReal :=
  uval (fun r => S ⟨x.val / 256, by have := x.isLt; omega⟩ ⟨n.val / 128, by have := n.isLt; omega⟩ r
      (qcol ⟨x.val % 256 / 64, by omega⟩ ⟨n.val % 128, by omega⟩))
    (fun r => X4 (ix4 0 ⟨x.val / 256, by have := x.isLt; omega⟩ ⟨x.val % 64, by omega⟩ r)) * X5 (ix2 n x)

theorem gch_at (a : Memref sig .tc .vmem S512x512 .f32) (h : a.IsWhole) (X : Vec Ideal S512x512 .f32) (b v p : ℕ) (hb : b < 4) (hv : v < 2)
    (hp : p < 2) (n x : Fin 128) : gch (F := Ideal) a h X b v p hb hv hp (ix2 n x)
      = X (ix2 ⟨128 * b + n.val, by have := n.isLt; omega⟩ ⟨256 * v + 128 * p + x.val, by have := x.isLt; omega⟩) := by
  unfold gch
  rw [View.readAt_eq_ld, h.read_unread]
  refine congrArg X ?_
  funext a
  match a with
  | ⟨0, _⟩ => exact Fin.ext (by show 128 * b + 1 * n.val = _; simp)
  | ⟨1, _⟩ => exact Fin.ext (by show 256 * v + 128 * p + 1 * x.val = _; simp)

theorem embO (b v p : ℕ) (hb : b < 4) (hv : v < 2) (hp : p < 2)
    (z : (Rect.unit (s := S512x512) ![128 * b, 256 * v + 128 * p] S128x128.size (inO b v p hb hv hp)).shape.Idx) :
    (Rect.unit (s := S512x512) ![128 * b, 256 * v + 128 * p] S128x128.size (inO b v p hb hv hp)).emb z
      = ix2 ⟨128 * b + (z 0).val, by have : (z 0).val < 128 := (z 0).isLt; omega⟩
          ⟨256 * v + 128 * p + (z 1).val, by have : (z 1).val < 128 := (z 1).isLt; omega⟩ := by
  funext a
  match a with
  | ⟨0, _⟩ => exact Fin.ext (by show 128 * b + 1 * (z 0).val = 128 * b + (z 0).val; omega)
  | ⟨1, _⟩ => exact Fin.ext (by show 256 * v + 128 * p + 1 * (z 1).val = 256 * v + 128 * p + (z 1).val; omega)

theorem tile_idx (S : Fin 2 → Fin 4 → Fin 4096 → Fin 512 → EReal) (X4 : Vec Ideal S1x2x80x4096 .bf16) (X5 : Vec Ideal S512x512 .f32)
    (b : Fin 4) (v : Fin 2) (p : ℕ) (hp : p < 2) (n x : Fin 128) (hr) (hc) :
    blk S X4 X5 ⟨128 * b.val + n.val, hr⟩ ⟨256 * v.val + 128 * p + x.val, hc⟩
      = uval (fun r => S v b r (qcol ⟨2 * p + x.val / 64, by have := x.isLt; omega⟩ n))
          (fun r => X4 (ix4 0 v ⟨x.val % 64, by omega⟩ r)) * X5 (ix2 ⟨128 * b.val + n.val, hr⟩ ⟨256 * v.val + 128 * p + x.val, hc⟩) := by
  have hb := b.isLt; have hv := v.isLt; have hn := n.isLt; have hx := x.isLt
  unfold blk
  have e1 : ∀ h, (⟨(256 * v.val + 128 * p + x.val) / 256, h⟩ : Fin 2) = v := fun h => Fin.ext (by simp only []; omega)
  have e2 : ∀ h, (⟨(128 * b.val + n.val) / 128, h⟩ : Fin 4) = b := fun h => Fin.ext (by simp only []; omega)
  have e3 : ∀ h, (⟨(128 * b.val + n.val) % 128, h⟩ : Fin 128) = n := fun h => Fin.ext (by simp only []; omega)
  have e4 : ∀ h h', (⟨(256 * v.val + 128 * p + x.val) % 256 / 64, h⟩ : Fin 4) = ⟨2 * p + x.val / 64, h'⟩ := fun h h' => Fin.ext (by simp only []; omega)
  have e5 : ∀ h h', (⟨(256 * v.val + 128 * p + x.val) % 64, h⟩ : Fin 80) = ⟨x.val % 64, h'⟩ := fun h h' => Fin.ext (by simp only []; omega)
  simp only [e1, e2, e3]
  rw [e4 _ (by omega), e5 _ (by omega)]

section tiles

variable (S : Fin 2 → Fin 4 → Fin 4096 → Fin 512 → EReal) (X4 : Vec Ideal S1x2x80x4096 .bf16) (X5 : Vec Ideal S512x512 .f32)
    (a7 : Memref sig .tc .vmem S512x512 .f32) (h7 : a7.IsWhole) (b v : ℕ) (hb : b < 4) (hv : v < 2) (a : FVec Ideal S80x512 .f32)
    (ha : ∀ e j, Ideal.div (a (ix2 e j)) (a (ix2 64 j)) = uval (fun r => S ⟨v, hv⟩ ⟨b, hb⟩ r j) (fun r => X4 (ix4 0 ⟨v, hv⟩ e r)))
include ha

theorem tile1 (n x : Fin 128) (hr) (hc) : out1 (F := Ideal) a (gch a7 h7 X5 b v 1 hb hv (by omega)) (ix2 n x)
    = blk S X4 X5 ⟨128 * b + n.val, hr⟩ ⟨256 * v + 128 * 1 + x.val, hc⟩ := by
  rw [out1_at a _ _ ha n x, gch_at]
  exact (tile_idx S X4 X5 ⟨b, hb⟩ ⟨v, hv⟩ 1 (by omega) n x _ _).symm

theorem tile0 (n x : Fin 128) (hr) (hc) : out0 (F := Ideal) a (gch a7 h7 X5 b v 0 hb hv (by omega)) (ix2 n x)
    = blk S X4 X5 ⟨128 * b + n.val, hr⟩ ⟨256 * v + 128 * 0 + x.val, hc⟩ := by
  rw [out0_at a _ _ ha n x, gch_at]
  refine Eq.trans ?_ (tile_idx S X4 X5 ⟨b, hb⟩ ⟨v, hv⟩ 0 (by omega) n x _ _).symm
  have e : ∀ h h', (⟨2 * 0 + x.val / 64, h⟩ : Fin 4) = ⟨x.val / 64, h'⟩ := fun h h' => Fin.ext (by simp)
  rw [e]

/-- A unit's two tiles are the block's. -/
theorem outL_pieces (L : List (View.Piece (Elt Ideal) S512x512 .bf16))
    (hL : View.PiecesOf (Val := Elt Ideal) (fun y : S512x512.Idx => blk S X4 X5 (y 0) (y 1)) L) :
    View.PiecesOf (Val := Elt Ideal) (fun y : S512x512.Idx => blk S X4 X5 (y 0) (y 1))
      (outL (F := Ideal) b v hb hv a (gch a7 h7 X5 b v 0 hb hv (by omega)) (gch a7 h7 X5 b v 1 hb hv (by omega)) L) :=
  ⟨fun z => ((congrArg (out1 (F := Ideal) a _) (eq_ix2 z)).trans (tile1 S X4 X5 a7 h7 b v hb hv a ha (z 0) (z 1) _ _)).trans
      (congrArg (fun y : S512x512.Idx => blk S X4 X5 (y 0) (y 1)) (embO b v 1 hb hv (by omega) z)).symm,
   fun z => ((congrArg (out0 (F := Ideal) a _) (eq_ix2 z)).trans (tile0 S X4 X5 a7 h7 b v hb hv a ha (z 0) (z 1) _ _)).trans
      (congrArg (fun y : S512x512.Idx => blk S X4 X5 (y 0) (y 1)) (embO b v 0 hb hv (by omega) z)).symm, hL⟩

end tiles

end Cert.KernelIdeal.Att

end
-- ==== Proof.AttPoint.lean ====
module

public import proofs.«01_k».proof.Proof.AttRunA
public import proofs.«01_k».proof.Proof.AttRunB
public import proofs.«01_k».proof.Proof.AttPieces
public import proofs.«01_k».proof.Proof.Gen.KernelIdeal.Frame

@[expose] public section

set_option maxRecDepth 16384

noncomputable section

namespace Cert.KernelIdeal.Att

open Idealize.ShloMosaic Idealize.ShloMosaic.TcCoe Idealize.ShloMosaic.Tactic Idealize.SL.Sem
open Cert.KernelIdeal Cert.KernelIdeal.Gen Cert.SoftPure

/-- Pieces of one array that cover it leave that array. -/
theorem canon_of_pieces {s : Shape} {e : EltTy} (G : s.Idx → Elt Ideal e) (L : List (View.Piece (Elt Ideal) s e))
    (h : View.PiecesOf G L) (hc : ∀ y, ∃ p ∈ L, y ∈ p.1.set) : View.canon L = G := by
  funext y
  have := View.canon_append_of_piecesOf G [] L h y (hc y)
  rwa [List.append_nil] at this

section caseA

variable (c : Dev nD) (i : grid0.Coords) (arg2 : Memref sig .tc .vmem S1x2x4x64x512 .bf16) (harg2 : arg2.IsWhole) (arg3 : Memref sig .tc .vmem S1x2x1x64x512 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S1x2x80x4096 .bf16) (harg6 : arg6.IsWhole) (arg7 : Memref sig .tc .vmem S512x512 .f32) (harg7 : arg7.IsWhole) (arg8 : Memref sig .tc .vmem S512x512 .bf16) (harg8 : arg8.IsWhole) (arg9 : Memref sig .tc .vmem S4096x512 .f32) (harg9 : arg9.IsWhole) (arg10 : Memref sig .tc .vmem S4096x512 .f32) (harg10 : arg10.IsWhole) (arg11 : Memref sig .tc .vmem S4096x512 .f32) (harg11 : arg11.IsWhole) (arg12 : Memref sig .tc .vmem S4096x512 .f32) (harg12 : arg12.IsWhole) (arg13 : Memref sig .tc .vmem S8x512 .f32) (harg13 : arg13.IsWhole) (arg14 : Memref sig .tc .vmem S8x512 .f32) (harg14 : arg14.IsWhole) (arg15 : Memref sig .tc .vmem S8x512 .f32) (harg15 : arg15.IsWhole) (arg16 : Memref sig .tc .vmem S8x512 .f32) (harg16 : arg16.IsWhole) (hc0 : cond0_0 i) (x0 : Vec Ideal S1x2x4x64x512 .bf16) (x1 : Vec Ideal S1x2x1x64x512 .bf16) (x2 : Vec Ideal S4096x128 .bf16) (x3 : Vec Ideal S4096x128 .bf16) (x4 : Vec Ideal S1x2x80x4096 .bf16) (x5 : Vec Ideal S512x512 .f32)

/-- The output block of a point in case A. -/
theorem outA_eq (h0 : ∀ y, Re (x0 y)) (h2 : ∀ y, Re (x2 y)) (h4 : ∀ v r, x4 (ix4 0 v 64 r) = (1 : EReal)) :
    out0_A_6 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 = fun y => blk (scoreB x0 x2) x4 x5 (y 0) (y 1) := by
  have hc := cover0_A_6 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5
  unfold out0_A_6
  rw [View.read_writes_junk_eq_canon]
  rw [runA_o] at hc ⊢
  refine canon_of_pieces (fun y : S512x512.Idx => blk (scoreB x0 x2) x4 x5 (y 0) (y 1)) _ ?_ hc
  exact (outL_pieces _ _ _ _ _ 3 1 _ _ _
      (acc_div _ _ _ (scoreB x0 x2 1 3) (fun e r => x4 (ix4 0 1 e r)) (sread_at _ _ _ (sc1B _ _ _ _ _ _ 3) _ _ _) (vch_at _ _ _ 1) (scoreB_re x0 x2 h0 h2 1 3) (mread_re _ _ _ (sc1B _ _ _ _ _ _ 3) (scoreB_re x0 x2 h0 h2 1 3) _ _) (h4 1)) _
      (outL_pieces _ _ _ _ _ 3 0 _ _ _
      (acc_div _ _ _ (scoreB x0 x2 0 3) (fun e r => x4 (ix4 0 0 e r)) (sread_at _ _ _ (sc0B _ _ _ _ _ _ 3) _ _ _) (vch_at _ _ _ 0) (scoreB_re x0 x2 h0 h2 0 3) (mread_re _ _ _ (sc0B _ _ _ _ _ _ 3) (scoreB_re x0 x2 h0 h2 0 3) _ _) (h4 0)) _
      (outL_pieces _ _ _ _ _ 2 1 _ _ _
      (acc_div _ _ _ (scoreB x0 x2 1 2) (fun e r => x4 (ix4 0 1 e r)) (sread_at _ _ _ (sc1B _ _ _ _ _ _ 2) _ _ _) (vch_at _ _ _ 1) (scoreB_re x0 x2 h0 h2 1 2) (mread_re _ _ _ (sc1B _ _ _ _ _ _ 2) (scoreB_re x0 x2 h0 h2 1 2) _ _) (h4 1)) _
      (outL_pieces _ _ _ _ _ 2 0 _ _ _
      (acc_div _ _ _ (scoreB x0 x2 0 2) (fun e r => x4 (ix4 0 0 e r)) (sread_at _ _ _ (sc0B _ _ _ _ _ _ 2) _ _ _) (vch_at _ _ _ 0) (scoreB_re x0 x2 h0 h2 0 2) (mread_re _ _ _ (sc0B _ _ _ _ _ _ 2) (scoreB_re x0 x2 h0 h2 0 2) _ _) (h4 0)) _
      (outL_pieces _ _ _ _ _ 1 1 _ _ _
      (acc_div _ _ _ (scoreB x0 x2 1 1) (fun e r => x4 (ix4 0 1 e r)) (sread_at _ _ _ (sc1B _ _ _ _ _ _ 1) _ _ _) (vch_at _ _ _ 1) (scoreB_re x0 x2 h0 h2 1 1) (mread_re _ _ _ (sc1B _ _ _ _ _ _ 1) (scoreB_re x0 x2 h0 h2 1 1) _ _) (h4 1)) _
      (outL_pieces _ _ _ _ _ 1 0 _ _ _
      (acc_div _ _ _ (scoreB x0 x2 0 1) (fun e r => x4 (ix4 0 0 e r)) (sread_at _ _ _ (sc0B _ _ _ _ _ _ 1) _ _ _) (vch_at _ _ _ 0) (scoreB_re x0 x2 h0 h2 0 1) (mread_re _ _ _ (sc0B _ _ _ _ _ _ 1) (scoreB_re x0 x2 h0 h2 0 1) _ _) (h4 0)) _
      (outL_pieces _ _ _ _ _ 0 1 _ _ _
      (acc_div _ _ _ (scoreB x0 x2 1 0) (fun e r => x4 (ix4 0 1 e r)) (sread_at _ _ _ (sc1B _ _ _ _ _ _ 0) _ _ _) (vch_at _ _ _ 1) (scoreB_re x0 x2 h0 h2 1 0) (mread_re _ _ _ (sc1B _ _ _ _ _ _ 0) (scoreB_re x0 x2 h0 h2 1 0) _ _) (h4 1)) _
      (outL_pieces _ _ _ _ _ 0 0 _ _ _
      (acc_div _ _ _ (scoreB x0 x2 0 0) (fun e r => x4 (ix4 0 0 e r)) (sread_at _ _ _ (sc0B _ _ _ _ _ _ 0) _ _ _) (vch_at _ _ _ 0) (scoreB_re x0 x2 h0 h2 0 0) (mread_re _ _ _ (sc0B _ _ _ _ _ _ 0) (scoreB_re x0 x2 h0 h2 0 0) _ _) (h4 0)) _
      trivial))))))))

/-- The scores of the next query block a point in case A carries on, head group 0. -/
theorem carryA_s0 : sout0_A_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 = fun y => scoreN x1 x3 0 (y 0) (y 1) := by
  unfold sout0_A_0
  rw [View.read_writes_junk_eq_canon, runA_s0]
  exact scL_canon _ _ _ (sc0N _ _ _ _ _ _) _

/-- The partial maxima a point in case A carries on are real, head group 0. -/
theorem carryA_m0 (h1 : ∀ y, Re (x1 y)) (h3 : ∀ y, Re (x3 y)) (y : S8x512.Idx) :
    Re (sout0_A_4 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 y) := by
  unfold sout0_A_4
  rw [View.read_writes_junk_eq_canon, runA_m0]
  exact mxL_canon_re _ _ _ (sc0N _ _ _ _ _ _) (scoreN_re x1 x3 h1 h3 0) _ y

/-- The scores of the next query block a point in case A carries on, head group 1. -/
theorem carryA_s1 : sout0_A_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 = fun y => scoreN x1 x3 1 (y 0) (y 1) := by
  unfold sout0_A_1
  rw [View.read_writes_junk_eq_canon, runA_s1]
  exact scL_canon _ _ _ (sc1N _ _ _ _ _ _) _

/-- The partial maxima a point in case A carries on are real, head group 1. -/
theorem carryA_m1 (h1 : ∀ y, Re (x1 y)) (h3 : ∀ y, Re (x3 y)) (y : S8x512.Idx) :
    Re (sout0_A_5 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 y) := by
  unfold sout0_A_5
  rw [View.read_writes_junk_eq_canon, runA_m1]
  exact mxL_canon_re _ _ _ (sc1N _ _ _ _ _ _) (scoreN_re x1 x3 h1 h3 1) _ y

end caseA

section caseB

variable (c : Dev nD) (i : grid0.Coords) (arg2 : Memref sig .tc .vmem S1x2x4x64x512 .bf16) (harg2 : arg2.IsWhole) (arg3 : Memref sig .tc .vmem S1x2x1x64x512 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S1x2x80x4096 .bf16) (harg6 : arg6.IsWhole) (arg7 : Memref sig .tc .vmem S512x512 .f32) (harg7 : arg7.IsWhole) (arg8 : Memref sig .tc .vmem S512x512 .bf16) (harg8 : arg8.IsWhole) (arg9 : Memref sig .tc .vmem S4096x512 .f32) (harg9 : arg9.IsWhole) (arg10 : Memref sig .tc .vmem S4096x512 .f32) (harg10 : arg10.IsWhole) (arg11 : Memref sig .tc .vmem S4096x512 .f32) (harg11 : arg11.IsWhole) (arg12 : Memref sig .tc .vmem S4096x512 .f32) (harg12 : arg12.IsWhole) (arg13 : Memref sig .tc .vmem S8x512 .f32) (harg13 : arg13.IsWhole) (arg14 : Memref sig .tc .vmem S8x512 .f32) (harg14 : arg14.IsWhole) (arg15 : Memref sig .tc .vmem S8x512 .f32) (harg15 : arg15.IsWhole) (arg16 : Memref sig .tc .vmem S8x512 .f32) (harg16 : arg16.IsWhole) (hc0 : ¬cond0_0 i) (x0 : Vec Ideal S1x2x4x64x512 .bf16) (x1 : Vec Ideal S1x2x1x64x512 .bf16) (x2 : Vec Ideal S4096x128 .bf16) (x3 : Vec Ideal S4096x128 .bf16) (x4 : Vec Ideal S1x2x80x4096 .bf16) (x5 : Vec Ideal S512x512 .f32) (xs0 : Vec Ideal S4096x512 .f32) (xs1 : Vec Ideal S4096x512 .f32) (xs4 : Vec Ideal S8x512 .f32) (xs5 : Vec Ideal S8x512 .f32)

/-- The output block of a point in case B. -/
theorem outB_eq (h0 : ∀ y, Re (x0 y)) (h2 : ∀ y, Re (x2 y)) (h4 : ∀ v r, x4 (ix4 0 v 64 r) = (1 : EReal))
    (g0 : ∀ r j, xs0 (ix2 r j) = scoreB x0 x2 0 0 r j) (g1 : ∀ r j, xs1 (ix2 r j) = scoreB x0 x2 1 0 r j)
    (m0 : ∀ y, Re (xs4 y)) (m1 : ∀ y, Re (xs5 y)) :
    out0_B_6 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 xs0 xs1 xs4 xs5 = fun y => blk (scoreB x0 x2) x4 x5 (y 0) (y 1) := by
  have hc := cover0_B_6 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 xs0 xs1 xs4 xs5
  unfold out0_B_6
  rw [View.read_writes_junk_eq_canon]
  rw [runB_o] at hc ⊢
  refine canon_of_pieces (fun y : S512x512.Idx => blk (scoreB x0 x2) x4 x5 (y 0) (y 1)) _ ?_ hc
  exact (outL_pieces _ _ _ _ _ 3 1 _ _ _
      (acc_div _ _ _ (scoreB x0 x2 1 3) (fun e r => x4 (ix4 0 1 e r)) (sread_at _ _ _ (sc1B _ _ _ _ _ _ 3) _ _ _) (vch_at _ _ _ 1) (scoreB_re x0 x2 h0 h2 1 3) (mread_re _ _ _ (sc1B _ _ _ _ _ _ 3) (scoreB_re x0 x2 h0 h2 1 3) _ _) (h4 1)) _
      (outL_pieces _ _ _ _ _ 3 0 _ _ _
      (acc_div _ _ _ (scoreB x0 x2 0 3) (fun e r => x4 (ix4 0 0 e r)) (sread_at _ _ _ (sc0B _ _ _ _ _ _ 3) _ _ _) (vch_at _ _ _ 0) (scoreB_re x0 x2 h0 h2 0 3) (mread_re _ _ _ (sc0B _ _ _ _ _ _ 3) (scoreB_re x0 x2 h0 h2 0 3) _ _) (h4 0)) _
      (outL_pieces _ _ _ _ _ 2 1 _ _ _
      (acc_div _ _ _ (scoreB x0 x2 1 2) (fun e r => x4 (ix4 0 1 e r)) (sread_at _ _ _ (sc1B _ _ _ _ _ _ 2) _ _ _) (vch_at _ _ _ 1) (scoreB_re x0 x2 h0 h2 1 2) (mread_re _ _ _ (sc1B _ _ _ _ _ _ 2) (scoreB_re x0 x2 h0 h2 1 2) _ _) (h4 1)) _
      (outL_pieces _ _ _ _ _ 2 0 _ _ _
      (acc_div _ _ _ (scoreB x0 x2 0 2) (fun e r => x4 (ix4 0 0 e r)) (sread_at _ _ _ (sc0B _ _ _ _ _ _ 2) _ _ _) (vch_at _ _ _ 0) (scoreB_re x0 x2 h0 h2 0 2) (mread_re _ _ _ (sc0B _ _ _ _ _ _ 2) (scoreB_re x0 x2 h0 h2 0 2) _ _) (h4 0)) _
      (outL_pieces _ _ _ _ _ 1 1 _ _ _
      (acc_div _ _ _ (scoreB x0 x2 1 1) (fun e r => x4 (ix4 0 1 e r)) (sread_at _ _ _ (sc1B _ _ _ _ _ _ 1) _ _ _) (vch_at _ _ _ 1) (scoreB_re x0 x2 h0 h2 1 1) (mread_re _ _ _ (sc1B _ _ _ _ _ _ 1) (scoreB_re x0 x2 h0 h2 1 1) _ _) (h4 1)) _
      (outL_pieces _ _ _ _ _ 1 0 _ _ _
      (acc_div _ _ _ (scoreB x0 x2 0 1) (fun e r => x4 (ix4 0 0 e r)) (sread_at _ _ _ (sc0B _ _ _ _ _ _ 1) _ _ _) (vch_at _ _ _ 0) (scoreB_re x0 x2 h0 h2 0 1) (mread_re _ _ _ (sc0B _ _ _ _ _ _ 1) (scoreB_re x0 x2 h0 h2 0 1) _ _) (h4 0)) _
      (outL_pieces _ _ _ _ _ 0 1 _ _ _
      (acc_div _ _ _ (scoreB x0 x2 1 0) (fun e r => x4 (ix4 0 1 e r)) (fun c x j => (sold_at _ _ _ _ c x j).trans (g1 _ _)) (vch_at _ _ _ 1) (scoreB_re x0 x2 h0 h2 1 0) (mold_re _ _ _ m1) (h4 1)) _
      (outL_pieces _ _ _ _ _ 0 0 _ _ _
      (acc_div _ _ _ (scoreB x0 x2 0 0) (fun e r => x4 (ix4 0 0 e r)) (fun c x j => (sold_at _ _ _ _ c x j).trans (g0 _ _)) (vch_at _ _ _ 0) (scoreB_re x0 x2 h0 h2 0 0) (mold_re _ _ _ m0) (h4 0)) _
      trivial))))))))

/-- The scores of the next query block a point in case B carries on, head group 0. -/
theorem carryB_s0 : sout0_B_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 xs0 xs1 xs4 xs5 = fun y => scoreN x1 x3 0 (y 0) (y 1) := by
  unfold sout0_B_0
  rw [View.read_writes_junk_eq_canon, runB_s0]
  exact scL_canon _ _ _ (sc0N _ _ _ _ _ _) _

/-- The partial maxima a point in case B carries on are real, head group 0. -/
theorem carryB_m0 (h1 : ∀ y, Re (x1 y)) (h3 : ∀ y, Re (x3 y)) (y : S8x512.Idx) :
    Re (sout0_B_4 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 xs0 xs1 xs4 xs5 y) := by
  unfold sout0_B_4
  rw [View.read_writes_junk_eq_canon, runB_m0]
  exact mxL_canon_re _ _ _ (sc0N _ _ _ _ _ _) (scoreN_re x1 x3 h1 h3 0) _ y

/-- The scores of the next query block a point in case B carries on, head group 1. -/
theorem carryB_s1 : sout0_B_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 xs0 xs1 xs4 xs5 = fun y => scoreN x1 x3 1 (y 0) (y 1) := by
  unfold sout0_B_1
  rw [View.read_writes_junk_eq_canon, runB_s1]
  exact scL_canon _ _ _ (sc1N _ _ _ _ _ _) _

/-- The partial maxima a point in case B carries on are real, head group 1. -/
theorem carryB_m1 (h1 : ∀ y, Re (x1 y)) (h3 : ∀ y, Re (x3 y)) (y : S8x512.Idx) :
    Re (sout0_B_5 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 xs0 xs1 xs4 xs5 y) := by
  unfold sout0_B_5
  rw [View.read_writes_junk_eq_canon, runB_m1]
  exact mxL_canon_re _ _ _ (sc1N _ _ _ _ _ _) (scoreN_re x1 x3 h1 h3 1) _ y

end caseB

end Cert.KernelIdeal.Att

end
-- ==== Proof.AttReads.lean ====
module

public import proofs.«01_k».proof.Proof.AttPoint

@[expose] public section

set_option maxRecDepth 16384

noncomputable section

namespace Cert.KernelIdeal.Att

open Idealize.ShloMosaic Idealize.ShloMosaic.TcCoe Idealize.ShloMosaic.Tactic Idealize.SL.Sem
open Cert.KernelIdeal Cert.KernelIdeal.Gen Cert.SoftPure

/-- The block the six staged inputs and the output take at a grid point, axis by axis. -/
theorem index0 : ∀ t : Fin grid0.N, win0_0.index t = ![t.val / 8, 0, t.val % 8, 0, 0] := by decide +kernel
theorem index1 : ∀ t : Fin grid0.N, t.val + 1 < 128 → win0_1.index t = ![(t.val + 1) / 8, 0, 4 * ((t.val + 1) % 8), 0, 0] := by decide +kernel
theorem index1_le : ∀ t : Fin grid0.N, win0_1.index t 0 ≤ 15 ∧ win0_1.index t 2 ≤ 28 := by decide +kernel
theorem index2 : ∀ t : Fin grid0.N, win0_2.index t = ![t.val / 8, 0] := by decide +kernel
theorem index3 : ∀ t : Fin grid0.N, t.val + 1 < 128 → win0_3.index t = ![(t.val + 1) / 8, 0] := by decide +kernel
theorem index4 : ∀ t : Fin grid0.N, win0_4.index t = ![t.val / 8, 0, 0, 0] := by decide +kernel
theorem index5 : ∀ t : Fin grid0.N, win0_5.index t = ![t.val, 0] := by decide +kernel
theorem index6 : ∀ t : Fin grid0.N, win0_6.index t = ![t.val, 0] := by decide +kernel
/-- Every grid point writes its output block back. -/
theorem flush6 : ∀ t : Fin grid0.N, win0_6.flush t = true := by decide +kernel

theorem tlt (t : Fin cfg0.N) : t.val < 128 := lt_of_lt_of_eq t.isLt N_0

variable (m : (ℓ : Loc nD τ sig) → Buf (Elt Ideal) ℓ) (c : Dev nD)

/-- A staged query block: query head group `v`, block `b` of the four, of the point's batch entry. -/
theorem read0 (t : Fin cfg0.N) (z : S1x2x4x64x512.Idx) (k : S16x2x32x64x512.Idx)
    (h0 : (k 0).val = t.val / 8) (h1 : (k 1).val = (z 1).val) (h2 : (k 2).val = 4 * (t.val % 8) + (z 2).val)
    (h3 : (k 3).val = (z 3).val) (h4 : (k 4).val = (z 4).val) :
    iblk m c 0 t z = V m c main_v7 k := by
  show V m c main_v7 (((cfg0.win 0).blk t).view.emb z) = _
  refine congrArg _ (funext fun a => Fin.ext ?_)
  have hz : (z 0).val < 1 := (z 0).isLt
  have e := index0 t
  match a with
  | ⟨0, _⟩ =>
    have e' : win0_0.index t 0 = t.val / 8 := congrFun e 0
    show win0_0.index t 0 * 1 + 1 * (z 0).val = (k 0).val; omega
  | ⟨1, _⟩ =>
    have e' : win0_0.index t 1 = 0 := congrFun e 1
    show win0_0.index t 1 * 2 + 1 * (z 1).val = (k 1).val; omega
  | ⟨2, _⟩ =>
    have e' : win0_0.index t 2 = t.val % 8 := congrFun e 2
    show win0_0.index t 2 * 4 + 1 * (z 2).val = (k 2).val; omega
  | ⟨3, _⟩ =>
    have e' : win0_0.index t 3 = 0 := congrFun e 3
    show win0_0.index t 3 * 64 + 1 * (z 3).val = (k 3).val; omega
  | ⟨4, _⟩ =>
    have e' : win0_0.index t 4 = 0 := congrFun e 4
    show win0_0.index t 4 * 512 + 1 * (z 4).val = (k 4).val; omega

/-- The staged next query block is the first of the next point's four. -/
theorem read1 (s t : Fin cfg0.N) (hst : s.val + 1 = t.val) (v : Fin 2) (d : Fin 64) (j : Fin 512) :
    iblk m c 1 s (ix5 0 v 0 d j) = iblk m c 0 t (ix5 0 v 0 d j) := by
  have ht := tlt t
  show V m c main_v7 (((cfg0.win 1).blk s).view.emb (ix5 0 v 0 d j)) = V m c main_v7 (((cfg0.win 0).blk t).view.emb (ix5 0 v 0 d j))
  refine congrArg _ (funext fun a => Fin.ext ?_)
  have e := index0 t
  have e1 := index1 s (by omega)
  match a with
  | ⟨0, _⟩ =>
    have e' : win0_0.index t 0 = t.val / 8 := congrFun e 0
    have e1' : win0_1.index s 0 = (s.val + 1) / 8 := congrFun e1 0
    show win0_1.index s 0 * 1 + 1 * 0 = win0_0.index t 0 * 1 + 1 * 0; rw [e', e1', hst]
  | ⟨1, _⟩ =>
    have e' : win0_0.index t 1 = 0 := congrFun e 1
    have e1' : win0_1.index s 1 = 0 := congrFun e1 1
    show win0_1.index s 1 * 2 + 1 * v.val = win0_0.index t 1 * 2 + 1 * v.val; rw [e', e1']
  | ⟨2, _⟩ =>
    have e' : win0_0.index t 2 = t.val % 8 := congrFun e 2
    have e1' : win0_1.index s 2 = 4 * ((s.val + 1) % 8) := congrFun e1 2
    show win0_1.index s 2 * 1 + 1 * 0 = win0_0.index t 2 * 4 + 1 * 0; rw [e', e1', hst]; omega
  | ⟨3, _⟩ =>
    have e' : win0_0.index t 3 = 0 := congrFun e 3
    have e1' : win0_1.index s 3 = 0 := congrFun e1 3
    show win0_1.index s 3 * 64 + 1 * d.val = win0_0.index t 3 * 64 + 1 * d.val; rw [e', e1']
  | ⟨4, _⟩ =>
    have e' : win0_0.index t 4 = 0 := congrFun e 4
    have e1' : win0_1.index s 4 = 0 := congrFun e1 4
    show win0_1.index s 4 * 512 + 1 * j.val = win0_0.index t 4 * 512 + 1 * j.val; rw [e', e1']

/-- The staged keys: the 4096 rows of the point's batch entry. -/
theorem read2 (t : Fin cfg0.N) (z : S4096x128.Idx) (k : S65536x128.Idx)
    (h0 : (k 0).val = t.val / 8 * 4096 + (z 0).val) (h1 : (k 1).val = (z 1).val) :
    iblk m c 2 t z = V m c main_v9 k := by
  show V m c main_v9 (((cfg0.win 2).blk t).view.emb z) = _
  refine congrArg _ (funext fun a => Fin.ext ?_)
  have e := index2 t
  match a with
  | ⟨0, _⟩ =>
    have e' : win0_2.index t 0 = t.val / 8 := congrFun e 0
    show win0_2.index t 0 * 4096 + 1 * (z 0).val = (k 0).val; omega
  | ⟨1, _⟩ =>
    have e' : win0_2.index t 1 = 0 := congrFun e 1
    show win0_2.index t 1 * 128 + 1 * (z 1).val = (k 1).val; omega

/-- The staged next keys are the next point's keys. -/
theorem read3 (s t : Fin cfg0.N) (hst : s.val + 1 = t.val) (z : S4096x128.Idx) :
    iblk m c 3 s z = iblk m c 2 t z := by
  have ht := tlt t
  show V m c main_v9 (((cfg0.win 3).blk s).view.emb z) = V m c main_v9 (((cfg0.win 2).blk t).view.emb z)
  refine congrArg _ (funext fun a => Fin.ext ?_)
  have e := index2 t
  have e1 := index3 s (by omega)
  match a with
  | ⟨0, _⟩ =>
    have e' : win0_2.index t 0 = t.val / 8 := congrFun e 0
    have e1' : win0_3.index s 0 = (s.val + 1) / 8 := congrFun e1 0
    show win0_3.index s 0 * 4096 + 1 * (z 0).val = win0_2.index t 0 * 4096 + 1 * (z 0).val; rw [e', e1', hst]
  | ⟨1, _⟩ =>
    have e' : win0_2.index t 1 = 0 := congrFun e 1
    have e1' : win0_3.index s 1 = 0 := congrFun e1 1
    show win0_3.index s 1 * 128 + 1 * (z 1).val = win0_2.index t 1 * 128 + 1 * (z 1).val; rw [e', e1']

/-- The staged values, with the row of ones below them. -/
theorem read4 (t : Fin cfg0.N) (z : S1x2x80x4096.Idx) (k : S16x2x80x4096.Idx)
    (h0 : (k 0).val = t.val / 8) (h1 : (k 1).val = (z 1).val) (h2 : (k 2).val = (z 2).val) (h3 : (k 3).val = (z 3).val) :
    iblk m c 4 t z = V m c main_v14 k := by
  show V m c main_v14 (((cfg0.win 4).blk t).view.emb z) = _
  refine congrArg _ (funext fun a => Fin.ext ?_)
  have hz : (z 0).val < 1 := (z 0).isLt
  have e := index4 t
  match a with
  | ⟨0, _⟩ =>
    have e' : win0_4.index t 0 = t.val / 8 := congrFun e 0
    show win0_4.index t 0 * 1 + 1 * (z 0).val = (k 0).val; omega
  | ⟨1, _⟩ =>
    have e' : win0_4.index t 1 = 0 := congrFun e 1
    show win0_4.index t 1 * 2 + 1 * (z 1).val = (k 1).val; omega
  | ⟨2, _⟩ =>
    have e' : win0_4.index t 2 = 0 := congrFun e 2
    show win0_4.index t 2 * 80 + 1 * (z 2).val = (k 2).val; omega
  | ⟨3, _⟩ =>
    have e' : win0_4.index t 3 = 0 := congrFun e 3
    show win0_4.index t 3 * 4096 + 1 * (z 3).val = (k 3).val; omega

/-- The staged gate block. -/
theorem read5 (t : Fin cfg0.N) (z : S512x512.Idx) (k : S65536x512.Idx)
    (h0 : (k 0).val = t.val * 512 + (z 0).val) (h1 : (k 1).val = (z 1).val) :
    iblk m c 5 t z = V m c main_arg3 k := by
  show V m c main_arg3 (((cfg0.win 5).blk t).view.emb z) = _
  refine congrArg _ (funext fun a => Fin.ext ?_)
  have e := index5 t
  match a with
  | ⟨0, _⟩ =>
    have e' : win0_5.index t 0 = t.val := congrFun e 0
    show win0_5.index t 0 * 512 + 1 * (z 0).val = (k 0).val; omega
  | ⟨1, _⟩ =>
    have e' : win0_5.index t 1 = 0 := congrFun e 1
    show win0_5.index t 1 * 512 + 1 * (z 1).val = (k 1).val; omega

section real

variable (hq : ∀ y, Re (V m c main_v7 y)) (hk : ∀ y, Re (V m c main_v9 y))
include hq
theorem re0 (t : Fin cfg0.N) (y : S1x2x4x64x512.Idx) : Re (iblk m c 0 t y) := hq (((cfg0.win 0).blk t).view.emb y)
theorem re1 (t : Fin cfg0.N) (y : S1x2x1x64x512.Idx) : Re (iblk m c 1 t y) := hq (((cfg0.win 1).blk t).view.emb y)
omit hq
include hk
theorem re2 (t : Fin cfg0.N) (y : S4096x128.Idx) : Re (iblk m c 2 t y) := hk (((cfg0.win 2).blk t).view.emb y)
theorem re3 (t : Fin cfg0.N) (y : S4096x128.Idx) : Re (iblk m c 3 t y) := hk (((cfg0.win 3).blk t).view.emb y)

end real

/-- The scores a point carries on are those of the next point's first query block. -/
theorem scoreN_next (s t : Fin cfg0.N) (hst : s.val + 1 = t.val) (v : Fin 2) (r : Fin 4096) (j : Fin 512) :
    scoreN (iblk m c 1 s) (iblk m c 3 s) v r j = scoreB (iblk m c 0 t) (iblk m c 2 t) v 0 r j :=
  Finset.sum_congr rfl fun d _ => congrArg₂ (fun a b : EReal => a * b) (read3 m c s t hst (ix2 r (col v d))) (read1 m c s t hst v d j)

/-- The scores a point leaves, head group 0. -/
theorem left_s0 (s : Fin cfg0.N) : (outsAt0 m c s.val s.isLt).2.1 = fun y => scoreN (iblk m c 1 s) (iblk m c 3 s) 0 (y 0) (y 1) := by
  by_cases h0 : s.val % 128 = 0
  · rw [outsAt0_A m c s h0]; dsimp only
    exact carryA_s0 c (grid0.coords s) (ms0_0 s) (hs0_0 s) (ms0_1 s) (hs0_1 s) (ms0_2 s) (hs0_2 s) (ms0_3 s) (hs0_3 s) (ms0_4 s) (hs0_4 s) (ms0_5 s) (hs0_5 s) (ms0_6 s) (hs0_6 s) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 s).mpr h0) (iblk m c 0 s) (iblk m c 1 s) (iblk m c 2 s) (iblk m c 3 s) (iblk m c 4 s) (iblk m c 5 s)
  · rw [outsAt0_B m c s h0]; dsimp only
    exact carryB_s0 c (grid0.coords s) (ms0_0 s) (hs0_0 s) (ms0_1 s) (hs0_1 s) (ms0_2 s) (hs0_2 s) (ms0_3 s) (hs0_3 s) (ms0_4 s) (hs0_4 s) (ms0_5 s) (hs0_5 s) (ms0_6 s) (hs0_6 s) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 s).mp h)) (iblk m c 0 s) (iblk m c 1 s) (iblk m c 2 s) (iblk m c 3 s) (iblk m c 4 s) (iblk m c 5 s) (outsAt0 m c (s.val - 1) (Nat.lt_of_le_of_lt (Nat.sub_le _ _) s.isLt)).2.1 (outsAt0 m c (s.val - 1) (Nat.lt_of_le_of_lt (Nat.sub_le _ _) s.isLt)).2.2.1 (outsAt0 m c (s.val - 1) (Nat.lt_of_le_of_lt (Nat.sub_le _ _) s.isLt)).2.2.2.1 (outsAt0 m c (s.val - 1) (Nat.lt_of_le_of_lt (Nat.sub_le _ _) s.isLt)).2.2.2.2

/-- What the point before carries into a point, head group 0. -/
theorem prev_s0 (s t : Fin cfg0.N) (hst : s.val + 1 = t.val) (r : Fin 4096) (j : Fin 512) :
    (outsAt0 m c s.val s.isLt).2.1 (ix2 r j) = scoreB (iblk m c 0 t) (iblk m c 2 t) 0 0 r j :=
  (congrFun (left_s0 m c s) (ix2 r j)).trans (scoreN_next m c s t hst 0 r j)

/-- The partial maxima a point carries on are real, head group 0. -/
theorem prev_m0 (hq : ∀ y, Re (V m c main_v7 y)) (hk : ∀ y, Re (V m c main_v9 y)) (s : Fin cfg0.N) (y : S8x512.Idx) :
    Re ((outsAt0 m c s.val s.isLt).2.2.2.1 y) := by
  by_cases h0 : s.val % 128 = 0
  · rw [outsAt0_A m c s h0]; dsimp only
    exact carryA_m0 c (grid0.coords s) (ms0_0 s) (hs0_0 s) (ms0_1 s) (hs0_1 s) (ms0_2 s) (hs0_2 s) (ms0_3 s) (hs0_3 s) (ms0_4 s) (hs0_4 s) (ms0_5 s) (hs0_5 s) (ms0_6 s) (hs0_6 s) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 s).mpr h0) (iblk m c 0 s) (iblk m c 1 s) (iblk m c 2 s) (iblk m c 3 s) (iblk m c 4 s) (iblk m c 5 s) (re1 m c hq s) (re3 m c hk s) y
  · rw [outsAt0_B m c s h0]; dsimp only
    exact carryB_m0 c (grid0.coords s) (ms0_0 s) (hs0_0 s) (ms0_1 s) (hs0_1 s) (ms0_2 s) (hs0_2 s) (ms0_3 s) (hs0_3 s) (ms0_4 s) (hs0_4 s) (ms0_5 s) (hs0_5 s) (ms0_6 s) (hs0_6 s) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 s).mp h)) (iblk m c 0 s) (iblk m c 1 s) (iblk m c 2 s) (iblk m c 3 s) (iblk m c 4 s) (iblk m c 5 s) (outsAt0 m c (s.val - 1) (Nat.lt_of_le_of_lt (Nat.sub_le _ _) s.isLt)).2.1 (outsAt0 m c (s.val - 1) (Nat.lt_of_le_of_lt (Nat.sub_le _ _) s.isLt)).2.2.1 (outsAt0 m c (s.val - 1) (Nat.lt_of_le_of_lt (Nat.sub_le _ _) s.isLt)).2.2.2.1 (outsAt0 m c (s.val - 1) (Nat.lt_of_le_of_lt (Nat.sub_le _ _) s.isLt)).2.2.2.2 (re1 m c hq s) (re3 m c hk s) y

/-- The scores a point leaves, head group 1. -/
theorem left_s1 (s : Fin cfg0.N) : (outsAt0 m c s.val s.isLt).2.2.1 = fun y => scoreN (iblk m c 1 s) (iblk m c 3 s) 1 (y 0) (y 1) := by
  by_cases h0 : s.val % 128 = 0
  · rw [outsAt0_A m c s h0]; dsimp only
    exact carryA_s1 c (grid0.coords s) (ms0_0 s) (hs0_0 s) (ms0_1 s) (hs0_1 s) (ms0_2 s) (hs0_2 s) (ms0_3 s) (hs0_3 s) (ms0_4 s) (hs0_4 s) (ms0_5 s) (hs0_5 s) (ms0_6 s) (hs0_6 s) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 s).mpr h0) (iblk m c 0 s) (iblk m c 1 s) (iblk m c 2 s) (iblk m c 3 s) (iblk m c 4 s) (iblk m c 5 s)
  · rw [outsAt0_B m c s h0]; dsimp only
    exact carryB_s1 c (grid0.coords s) (ms0_0 s) (hs0_0 s) (ms0_1 s) (hs0_1 s) (ms0_2 s) (hs0_2 s) (ms0_3 s) (hs0_3 s) (ms0_4 s) (hs0_4 s) (ms0_5 s) (hs0_5 s) (ms0_6 s) (hs0_6 s) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 s).mp h)) (iblk m c 0 s) (iblk m c 1 s) (iblk m c 2 s) (iblk m c 3 s) (iblk m c 4 s) (iblk m c 5 s) (outsAt0 m c (s.val - 1) (Nat.lt_of_le_of_lt (Nat.sub_le _ _) s.isLt)).2.1 (outsAt0 m c (s.val - 1) (Nat.lt_of_le_of_lt (Nat.sub_le _ _) s.isLt)).2.2.1 (outsAt0 m c (s.val - 1) (Nat.lt_of_le_of_lt (Nat.sub_le _ _) s.isLt)).2.2.2.1 (outsAt0 m c (s.val - 1) (Nat.lt_of_le_of_lt (Nat.sub_le _ _) s.isLt)).2.2.2.2

/-- What the point before carries into a point, head group 1. -/
theorem prev_s1 (s t : Fin cfg0.N) (hst : s.val + 1 = t.val) (r : Fin 4096) (j : Fin 512) :
    (outsAt0 m c s.val s.isLt).2.2.1 (ix2 r j) = scoreB (iblk m c 0 t) (iblk m c 2 t) 1 0 r j :=
  (congrFun (left_s1 m c s) (ix2 r j)).trans (scoreN_next m c s t hst 1 r j)

/-- The partial maxima a point carries on are real, head group 1. -/
theorem prev_m1 (hq : ∀ y, Re (V m c main_v7 y)) (hk : ∀ y, Re (V m c main_v9 y)) (s : Fin cfg0.N) (y : S8x512.Idx) :
    Re ((outsAt0 m c s.val s.isLt).2.2.2.2 y) := by
  by_cases h0 : s.val % 128 = 0
  · rw [outsAt0_A m c s h0]; dsimp only
    exact carryA_m1 c (grid0.coords s) (ms0_0 s) (hs0_0 s) (ms0_1 s) (hs0_1 s) (ms0_2 s) (hs0_2 s) (ms0_3 s) (hs0_3 s) (ms0_4 s) (hs0_4 s) (ms0_5 s) (hs0_5 s) (ms0_6 s) (hs0_6 s) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 s).mpr h0) (iblk m c 0 s) (iblk m c 1 s) (iblk m c 2 s) (iblk m c 3 s) (iblk m c 4 s) (iblk m c 5 s) (re1 m c hq s) (re3 m c hk s) y
  · rw [outsAt0_B m c s h0]; dsimp only
    exact carryB_m1 c (grid0.coords s) (ms0_0 s) (hs0_0 s) (ms0_1 s) (hs0_1 s) (ms0_2 s) (hs0_2 s) (ms0_3 s) (hs0_3 s) (ms0_4 s) (hs0_4 s) (ms0_5 s) (hs0_5 s) (ms0_6 s) (hs0_6 s) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 s).mp h)) (iblk m c 0 s) (iblk m c 1 s) (iblk m c 2 s) (iblk m c 3 s) (iblk m c 4 s) (iblk m c 5 s) (outsAt0 m c (s.val - 1) (Nat.lt_of_le_of_lt (Nat.sub_le _ _) s.isLt)).2.1 (outsAt0 m c (s.val - 1) (Nat.lt_of_le_of_lt (Nat.sub_le _ _) s.isLt)).2.2.1 (outsAt0 m c (s.val - 1) (Nat.lt_of_le_of_lt (Nat.sub_le _ _) s.isLt)).2.2.2.1 (outsAt0 m c (s.val - 1) (Nat.lt_of_le_of_lt (Nat.sub_le _ _) s.isLt)).2.2.2.2 (re1 m c hq s) (re3 m c hk s) y

/-- The output block of every point: the gated attention of its queries against all keys of its batch entry. -/
theorem out_eq (hq : ∀ y, Re (V m c main_v7 y)) (hk : ∀ y, Re (V m c main_v9 y))
    (h1 : ∀ b v r, V m c main_v14 (ix4 b v 64 r) = (1 : EReal)) (t : Fin cfg0.N) :
    (outsAt0 m c t.val t.isLt).1 = fun y => blk (scoreB (iblk m c 0 t) (iblk m c 2 t)) (iblk m c 4 t) (iblk m c 5 t) (y 0) (y 1) := by
  have ht := tlt t
  have h4 : ∀ v r, iblk m c 4 t (ix4 0 v 64 r) = (1 : EReal) := fun v r =>
    (read4 m c t _ (ix4 (⟨t.val / 8, by omega⟩ : Fin 16) v 64 r) rfl rfl rfl rfl).trans (h1 _ v r)
  by_cases h0 : t.val % 128 = 0
  · rw [outsAt0_A m c t h0]; dsimp only
    exact outA_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 t).mpr h0) (iblk m c 0 t) (iblk m c 1 t) (iblk m c 2 t) (iblk m c 3 t) (iblk m c 4 t) (iblk m c 5 t) (re0 m c hq t) (re2 m c hk t) h4
  · have hz : t.val - 1 + 1 = t.val := by omega
    rw [outsAt0_B m c t h0]; dsimp only
    have p := Nat.lt_of_le_of_lt (Nat.sub_le t.val 1) t.isLt
    exact outB_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 (re0 m c hq t) (re2 m c hk t) h4
      (prev_s0 m c ⟨t.val - 1, p⟩ t hz) (prev_s1 m c ⟨t.val - 1, p⟩ t hz) (prev_m0 m c hq hk ⟨t.val - 1, p⟩) (prev_m1 m c hq hk ⟨t.val - 1, p⟩)

end Cert.KernelIdeal.Att

end
-- ==== Proof.AttArray.lean ====
module

public import proofs.«01_k».proof.Proof.AttReads

@[expose] public section

set_option maxRecDepth 16384

noncomputable section

namespace Cert.KernelIdeal.Att

open Idealize.ShloMosaic Idealize.ShloMosaic.TcCoe Idealize.ShloMosaic.Tactic Idealize.SL.Sem
open Cert.KernelIdeal Cert.KernelIdeal.Gen Cert.SoftPure

/-- The row of the keys array, of the flattened batch and sequence, that holds key `r` of batch entry `b`. -/
def krow (b : Fin 16) (r : Fin 4096) : Fin 65536 := ⟨b.val * 4096 + r.val, by omega⟩

/-- Entry `(row, x)` of the gated attention over prepared queries, keys, values and gate: the query is row `row % 4096` of
    batch entry `row / 4096`, the head is `x / 64`, the value column is `x % 64`. -/
def att (Q : S16x2x32x64x512.Idx → EReal) (K : S65536x128.Idx → EReal) (W : S16x2x80x4096.Idx → EReal) (G : S65536x512.Idx → EReal)
    (row : Fin 65536) (x : Fin 512) : EReal :=
  uval (fun r => ∑ d : Fin 64, K (ix2 (krow ⟨row.val / 4096, by omega⟩ r) (col ⟨x.val / 256, by omega⟩ d))
      * Q (ix5 (⟨row.val / 4096, by omega⟩ : Fin 16) (⟨x.val / 256, by omega⟩ : Fin 2) (⟨row.val % 4096 / 128, by omega⟩ : Fin 32) d (qcol ⟨x.val % 256 / 64, by omega⟩ ⟨row.val % 128, by omega⟩)))
    (fun r => W (ix4 (⟨row.val / 4096, by omega⟩ : Fin 16) (⟨x.val / 256, by omega⟩ : Fin 2) (⟨x.val % 64, by omega⟩ : Fin 80) r)) * G (ix2 row x)

variable (m : (ℓ : Loc nD τ sig) → Buf (Elt Ideal) ℓ) (ρ : Dev nD → PrngReg) (c : Dev nD)

/-- A grid point's output block is its block of the array of `att`. -/
theorem blk_att (t : Fin cfg0.N) (n x : Fin 512) (row : Fin 65536) (hr : row.val = t.val * 512 + n.val) :
    blk (scoreB (iblk m c 0 t) (iblk m c 2 t)) (iblk m c 4 t) (iblk m c 5 t) n x
      = att (V m c main_v7) (V m c main_v9) (V m c main_v14) (V m c main_arg3) row x := by
  have ht := tlt t
  refine congrArg₂ (fun a b : EReal => a * b) (congrArg₂ uval (funext fun r => Finset.sum_congr rfl fun d _ => congrArg₂ (fun a b : EReal => a * b) ?_ ?_) (funext fun r => ?_)) ?_
  · exact read2 m c t _ _ (by show row.val / 4096 * 4096 + r.val = t.val / 8 * 4096 + r.val; omega) rfl
  · refine read0 m c t _ _ ?_ rfl ?_ rfl ?_
    · show row.val / 4096 = t.val / 8; omega
    · show row.val % 4096 / 128 = 4 * (t.val % 8) + n.val / 128; omega
    · show 128 * (x.val % 256 / 64) + row.val % 128 = 128 * (x.val % 256 / 64) + n.val % 128; omega
  · exact read4 m c t _ _ (by show row.val / 4096 = t.val / 8; omega) rfl rfl rfl
  · exact read5 m c t _ _ hr rfl

/-- The array the region leaves. -/
def G (c : Dev nD) : Buf (Elt Ideal) ((c : Thread nD τ).loc main_v15) := fun i : S65536x512.Idx =>
  att (V m c main_v7) (V m c main_v9) (V m c main_v14) (V m c main_arg3) (i 0) (i 1)

section arrays

variable (hq : ∀ y, Re (V m c main_v7 y)) (hk : ∀ y, Re (V m c main_v9 y))
  (h1 : ∀ b v r, V m c main_v14 (ix4 b v 64 r) = (1 : EReal))

include hq hk h1

/-- What a point writes back is its block of `G`. -/
theorem wrote (t : Fin cfg0.N) : (dats m 0 c).flushed 6 t = ((cfg0.win 6).blk t).view.read (Elt Ideal) (G m c) := by
  show (cfg0.win 6).cut (grid0.coords t) ((dats m 0 c).after 6 t) = _
  rw [after0_6, out_eq m c hq hk h1 t]
  have e := index6 t
  have e0 : win0_6.index t 0 = t.val := congrFun e 0
  have e1 : win0_6.index t 1 = 0 := congrFun e 1
  funext y
  have a0 : (((cfg0.win 6).blk t).view.emb y 0).val = t.val * 512 + (y 0).val := by
    show win0_6.index t 0 * 512 + 1 * (y 0).val = _; rw [e0]; omega
  have a1 : (((cfg0.win 6).blk t).view.emb y 1).val = (y 1).val := by
    show win0_6.index t 1 * 512 + 1 * (y 1).val = _; rw [e1]; omega
  have hx : (((cfg0.win 6).blk t).view.emb y 1 : Fin 512) = ((cfg0.win 6).xinj (grid0.coords t) y 1 : Fin 512) := Fin.ext a1
  show blk _ _ _ ((cfg0.win 6).xinj (grid0.coords t) y 0) ((cfg0.win 6).xinj (grid0.coords t) y 1) = att _ _ _ _ (((cfg0.win 6).blk t).view.emb y 0) (((cfg0.win 6).blk t).view.emb y 1)
  exact (blk_att m c t _ _ (((cfg0.win 6).blk t).view.emb y 0) a0).trans (congrArg _ hx.symm)

omit hq hk h1 in
/-- Every entry of the array is in the block of the point its row names. -/
theorem covered (i : S65536x512.Idx) : ∃ t : Fin cfg0.N, (cfg0.win 6).flush t = true ∧ i ∈ ((cfg0.win 6).blk t).view.set := by
  have b0 : (i 0).val < 65536 := (i 0).isLt
  have b1 : (i 1).val < 512 := (i 1).isLt
  refine ⟨⟨(i 0).val / 512, lt_of_lt_of_eq (by omega) N_0.symm⟩, flush6 _, ?_⟩
  change _ ∈ ((View.whole main_v15).slice (win0_6.rect (⟨(i 0).val / 512, lt_of_lt_of_eq (by omega) N_0.symm⟩ : Fin grid0.N))).set
  rw [View.set_slice_whole, Rect.mem_set_unit]
  intro a
  have e := index6 ⟨(i 0).val / 512, lt_of_lt_of_eq (by omega) N_0.symm⟩
  match a with
  | ⟨0, _⟩ =>
    have e' := congrFun e 0
    show win0_6.index _ 0 * 512 ≤ (i 0).val ∧ (i 0).val < win0_6.index _ 0 * 512 + 512
    rw [e']; show (i 0).val / 512 * 512 ≤ (i 0).val ∧ (i 0).val < (i 0).val / 512 * 512 + 512; omega
  | ⟨1, _⟩ =>
    have e' := congrFun e 1
    show win0_6.index _ 1 * 512 ≤ (i 1).val ∧ (i 1).val < win0_6.index _ 1 * 512 + 512
    rw [e']; show 0 * 512 ≤ (i 1).val ∧ (i 1).val < 0 * 512 + 512; omega

/-- The output array after the region. -/
theorem arr_eq : (dats m 0 c).arrAt 6 cfg0.N = G m c :=
  (dats m 0 c).arrAt_eq_of_cover 6 (G m c) (fun t _ => wrote m c hq hk h1 t) covered

end arrays

/-- From a memory whose prepared queries and keys are real and whose prepared values end in a row of ones, every run of
    the kernel leaves `G` in its result and its arguments as they were. -/
theorem run_att (hq : ∀ c y, Re (V m c main_v7 y)) (hk : ∀ c y, Re (V m c main_v9 y))
    (h1 : ∀ c b v r, V m c main_v14 (ix4 b v 64 r) = (1 : EReal)) :
    θ_run defs (onTc (τ := τ) (main (F := Ideal))) ⟨m, fun _ => 0, ρ⟩ fun r => ∀ c : Dev nD,
      r.2.mem ((c : Thread nD τ).loc main_v15) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨((h c).1 6).trans (arr_eq m c (hq c) (hk c) (h1 c)),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).1 5).trans (((dats m 0 c).arrAt_in 5 rfl _).trans ((A_eq m c 5).trans (V_main_arg3 m c)))⟩)
    (run_main m ρ)

end Cert.KernelIdeal.Att

end
-- ==== Proof.AttHost.lean ====
module

public import proofs.«01_k».proof.Proof.AttArray
public import Idealize.ShloMosaic.Lib.Claim

@[expose] public section

set_option maxRecDepth 16384

noncomputable section

namespace Cert.KernelIdeal.Att

open Idealize.ShloMosaic Idealize.ShloMosaic.TcCoe Idealize.ShloMosaic.Tactic Idealize.SL.Sem
open Cert.KernelIdeal Cert.KernelIdeal.Gen Cert.SoftPure

variable (m : (ℓ : Loc nD τ sig) → Buf (Elt Ideal) ℓ) (c : Dev nD)

/-- The factor on the queries. -/
def kap : EReal := Ideal.div (Ideal.ofBits .f32 0x3E000000#32) (Ideal.log (Ideal.ofBits .f32 0x40000000#32))

/-- The queries, keys, values and gate the kernel is given. -/
def q0 : S16x4096x8x64.Idx → EReal := m ((c : Thread nD τ).loc main_arg0)
def k0 : S16x4096x2x64.Idx → EReal := m ((c : Thread nD τ).loc main_arg1)
def w0 : S16x4096x2x64.Idx → EReal := m ((c : Thread nD τ).loc main_arg2)
def g0 : S65536x512.Idx → EReal := m ((c : Thread nD τ).loc main_arg3)

theorem v7_at (b : Fin 16) (v : Fin 2) (nb : Fin 32) (d : Fin 64) (g : Fin 4) (n : Fin 128) :
    V m c main_v7 (ix5 b v nb d (qcol g n))
      = q0 m c (ix4 b (⟨nb.val * 128 + n.val, by omega⟩ : Fin 4096) (⟨v.val * 4 + g.val, by omega⟩ : Fin 8) d) * kap := by
  entry_read
  pointwise [kap, qcol, q0]

theorem v9_at (b : Fin 16) (r : Fin 4096) (v : Fin 2) (d : Fin 64) :
    V m c main_v9 (ix2 (krow b r) (col v d)) = k0 m c (ix4 b r v d) := by
  entry_read
  pointwise [krow, col, k0]

/-- The prepared values: the values with the sequence last, a row of ones and rows of zeros below. -/
theorem v14_eq :
    V m c main_v14 = concatenate S16x2x80x4096 2 [⟨S16x2x64x4096, (transpose S16x2x64x4096 [0, 2, 3, 1] (truncf (F := Ideal) .bf16 (m ((c : Thread nD τ).loc main_arg2)) bitsLt_bf16_f32) transposes_S16x4096x2x64_S16x2x64x4096_0_2_3_1)⟩, ⟨S16x2x1x4096, broadcastInDim S16x2x1x4096 ![] bcast_S_S16x2x1x4096 (constant (F := Ideal) S_ .bf16 0x3F80#16)⟩, ⟨S16x2x15x4096, broadcastInDim S16x2x15x4096 ![] bcast_S_S16x2x15x4096 (constant (F := Ideal) S_ .bf16 0x0000#16)⟩] concatenates_S16x2x64x4096_S16x2x1x4096_S16x2x15x4096_S16x2x80x4096_d2 := by
  unfold V
  after_results
  rfl

/-- Rows 0 to 63 and row 64 of three arrays put below each other. -/
theorem cat_lo (X : S16x2x64x4096.Idx → EReal) (Y : S16x2x1x4096.Idx → EReal) (Z : S16x2x15x4096.Idx → EReal) (b : Fin 16) (v : Fin 2) (e : Fin 80) (he : e.val < 64) (r : Fin 4096) :
    concatenate (α := EReal) S16x2x80x4096 2 [⟨S16x2x64x4096, X⟩, ⟨S16x2x1x4096, Y⟩, ⟨S16x2x15x4096, Z⟩] concatenates_S16x2x64x4096_S16x2x1x4096_S16x2x15x4096_S16x2x80x4096_d2 (ix4 b v e r) = X (ix4 b v ⟨e.val, he⟩ r) := by
  pointwise
  rw [dif_pos he]

theorem cat_mid (X : S16x2x64x4096.Idx → EReal) (Y : S16x2x1x4096.Idx → EReal) (Z : S16x2x15x4096.Idx → EReal) (b : Fin 16) (v : Fin 2) (e : Fin 80) (he : e.val = 64) (r : Fin 4096) :
    concatenate (α := EReal) S16x2x80x4096 2 [⟨S16x2x64x4096, X⟩, ⟨S16x2x1x4096, Y⟩, ⟨S16x2x15x4096, Z⟩] concatenates_S16x2x64x4096_S16x2x1x4096_S16x2x15x4096_S16x2x80x4096_d2 (ix4 b v e r) = Y (ix4 b v 0 r) := by
  pointwise
  rw [dif_neg (by omega), dif_pos (by omega)]
  exact congrArg Y (by congr 1; exact Fin.ext (by show e.val - 64 = 0; omega))

/-- A prepared value is the value. -/
theorem v14_val (b : Fin 16) (v : Fin 2) (e : Fin 80) (he : e.val < 64) (r : Fin 4096) :
    V m c main_v14 (ix4 b v e r) = w0 m c (ix4 b r v ⟨e.val, he⟩) := by
  rw [v14_eq]
  refine (cat_lo _ _ _ b v e he r).trans ?_
  pointwise [w0]

/-- Row 64 of the prepared values is ones. -/
theorem v14_one (b : Fin 16) (v : Fin 2) (r : Fin 4096) : V m c main_v14 (ix4 b v (64 : Fin 80) r) = (1 : EReal) := by
  rw [v14_eq]
  refine (cat_mid _ _ _ b v 64 rfl r).trans ?_
  pointwise

/-- The factor on the queries is `0.125 / log 2`. -/
theorem kap_eq : kap = ((0.125 / Real.log 2 : ℝ) : EReal) := by
  have e1 : Ideal.ofBits .f32 0x3E000000#32 = ((0.125 : ℝ) : EReal) := by
    simp [Ideal.ofBits, Ideal.ieee, -EReal.coe_mul]; norm_num
  have e2 : Ideal.ofBits .f32 0x40000000#32 = ((2 : ℝ) : EReal) := by
    simp [Ideal.ofBits, Ideal.ieee, -EReal.coe_mul]; try norm_num
  have hl : Ideal.log ((2 : ℝ) : EReal) = ((Real.log 2 : ℝ) : EReal) := by
    show (if (2 : ℝ) ≤ 0 then (⊥ : EReal) else ((Real.log 2 : ℝ) : EReal)) = _
    rw [if_neg (by norm_num)]
  rw [kap, e1, e2, hl]
  rw [Ideal.div_coe (Real.log_pos (by norm_num)).ne', ← EReal.coe_mul]
  congr 1; ring

section real

variable (hq : ∀ y, Re (q0 m c y)) (hk : ∀ y, Re (k0 m c y))

include hq in
/-- The prepared queries are real when the queries are. -/
theorem v7_re (y : S16x2x32x64x512.Idx) : Re (V m c main_v7 y) := by
  have hj : (y 4).val < 512 := (y 4).isLt
  have e : (y : S16x2x32x64x512.Idx) = ix5 (y 0) (y 1) (y 2) (y 3) (qcol ⟨(y 4).val / 128, by omega⟩ ⟨(y 4).val % 128, by omega⟩) := by
    refine (eq_ix5 y).trans ?_
    congr 1
    exact Fin.ext (by show (y 4).val = 128 * ((y 4).val / 128) + (y 4).val % 128; omega)
  have h := v7_at m c (y 0) (y 1) (y 2) (y 3) ⟨(y 4).val / 128, by omega⟩ ⟨(y 4).val % 128, by omega⟩
  exact ((congrArg (V m c main_v7) e).trans h).symm ▸ (hq _).mul (kap_eq ▸ Re.coe _)

include hk in
/-- The prepared keys are real when the keys are. -/
theorem v9_re (y : S65536x128.Idx) : Re (V m c main_v9 y) := by
  have h0 : (y 0).val < 65536 := (y 0).isLt
  have h1 : (y 1).val < 128 := (y 1).isLt
  have e : (y : S65536x128.Idx) = ix2 (krow ⟨(y 0).val / 4096, by omega⟩ ⟨(y 0).val % 4096, by omega⟩) (col ⟨(y 1).val / 64, by omega⟩ ⟨(y 1).val % 64, by omega⟩) := by
    refine (eq_ix2 y).trans ?_
    congr 1
    · exact Fin.ext (by show (y 0).val = (y 0).val / 4096 * 4096 + (y 0).val % 4096; omega)
    · exact Fin.ext (by show (y 1).val = 64 * ((y 1).val / 64) + (y 1).val % 64; omega)
  exact ((congrArg (V m c main_v9) e).trans (v9_at m c _ _ _ _)).symm ▸ hk _

end real

end Cert.KernelIdeal.Att

end
-- ==== Proof.AttRef.lean ====
module

public import proofs.«01_k».proof.Proof.Gen.ReferenceIdeal.Run
public import proofs.«01_k».proof.Proof.AttPure
public import Idealize.ShloMosaic.Lib.Pointwise

@[expose] public section

set_option maxRecDepth 16384

noncomputable section

namespace Cert.ReferenceIdeal.Ref

open Idealize.ShloMosaic Idealize.ShloMosaic.TcCoe Idealize.SL.Sem
open Cert.ReferenceIdeal Cert.ReferenceIdeal.Gen Cert.SoftPure

variable (q : FVec Ideal S16x4096x8x64 .f32) (k v : FVec Ideal S16x4096x2x64 .f32) (g : FVec Ideal S65536x512 .f32)

/-- The scores, scaled. -/
def sc : FVec Ideal S16x2x4x4096x4096 .f32 :=
  mulf (transpose S16x2x4x4096x4096 [0, 1, 4, 3, 2] (Host.dotGeneral dot_S16x4096x2x64_S16x4096x2x4x64_S16x2x4096x4096x4_3_4_1_13_02_02 none k (shapeCast _ q shapeCasts_S16x4096x8x64_S16x4096x2x4x64)) transposes_S16x2x4096x4096x4_S16x2x4x4096x4096_0_1_4_3_2) (broadcastInDim S16x2x4x4096x4096 ![] bcast_S_S16x2x4x4096x4096 (constant S_ .f32 0x3E000000#32))

/-- The largest score of each query. -/
def mx (s : FVec Ideal S16x2x4x4096x4096 .f32) : FVec Ideal S16x2x4x4096 .f32 :=
  maximumf (broadcastInDim S16x2x4x4096 ![] bcast_S_S16x2x4x4096 (constant S_ .f32 0xFF800000#32)) (Host.reduce FloatOps.maximumf s (constant S_ .f32 0xFF800000#32) reducesTo_S16x2x4x4096x4096_S16x2x4x4096_d4 h_S_)

def spread (x : FVec Ideal S16x2x4x4096 .f32) : FVec Ideal S16x2x4x4096x4096 .f32 :=
  broadcastInDim S16x2x4x4096x4096 ![0, 1, 2, 3, 4] bcast_S16x2x4x4096x1_S16x2x4x4096x4096_0_1_2_3_4 (broadcastInDim S16x2x4x4096x1 ![0, 1, 2, 3] bcast_S16x2x4x4096_S16x2x4x4096x1_0_1_2_3 x)

/-- The exponentials. -/
def ex (s : FVec Ideal S16x2x4x4096x4096 .f32) (x : FVec Ideal S16x2x4x4096 .f32) : FVec Ideal S16x2x4x4096x4096 .f32 := Host.exp (subf s (spread x))

/-- The weights. -/
def wt (e : FVec Ideal S16x2x4x4096x4096 .f32) : FVec Ideal S16x2x4x4096x4096 .f32 :=
  Host.divf e (spread (Host.reduceAdd e (constant S_ .f32 0x00000000#32) reducesTo_S16x2x4x4096x4096_S16x2x4x4096_d4 h_S_))

/-- The result from the weights. -/
def fin (w : FVec Ideal S16x2x4x4096x4096 .f32) : FVec Ideal S65536x512 .bf16 :=
  truncf .bf16 (mulf (shapeCast _ (transpose S16x4096x2x4x64 [0, 4, 1, 3, 2] (Host.dotGeneral dot_S16x4096x2x64_S16x2x4x4096x4096_S16x2x64x4x4096_1_4_3_23_02_01 none v w) transposes_S16x2x64x4x4096_S16x4096x2x4x64_0_4_1_3_2) shapeCasts_S16x4096x2x4x64_S65536x512) g) bitsLt_bf16_f32

theorem sc_at (b : Fin 16) (h : Fin 2) (a : Fin 4) (n r : Fin 4096) :
    sc q k (ix5 b h a n r) = (∑ d : Fin 64, (k (ix4 b r h d) : EReal) * q (ix4 b n (⟨h.val * 4 + a.val, by omega⟩ : Fin 8) d)) * Ideal.ofBits .f32 0x3E000000#32 := by
  pointwise [sc]

/-- The maximum of real numbers along the last axis is real. -/
theorem red_re {n0 n1 n2 n3 n4 : ℕ} (hn : 0 < n4) {t u : Shape} (x : (⟨5, ![n0, n1, n2, n3, n4]⟩ : Shape).Idx → EReal) (init : u.Idx → EReal)
    (h : (⟨5, ![n0, n1, n2, n3, n4]⟩ : Shape).ReducesTo [4] t) (hu : 0 < u.numel) (hi : ∀ z, init z = ⊥) (hx : ∀ z, Re (x z)) (j : t.Idx) :
    Re (Host.reduce (FloatOps.maximumf (F := Ideal) (φ := .f32)) x init h hu j) := by
  haveI : Nonempty (Fin n4) := ⟨⟨0, hn⟩⟩
  rw [Host.reduce_eq_fold, h.fold_fiber_r5_a4, hi]
  exact Re.fold _ _ (fun z _ => hx _) Finset.univ_nonempty

/-- A real number is the larger of it and minus infinity. -/
theorem maxf_re {s : Shape} (x y : FVec Ideal s .f32) (j : s.Idx) (hx : x j = (⊥ : EReal)) (hy : Re (y j)) : Re (maximumf x y j) := by
  obtain ⟨r, hr⟩ := hy
  have e : maximumf x y j = (max (x j) (y j) : EReal) := rfl
  rw [e, hx, hr, max_bot_left]
  exact Re.coe r

theorem negInf : Ideal.ofBits .f32 0xFF800000#32 = ⊥ := by simp [Ideal.ofBits, Ideal.ieee]

theorem mx_re (s : FVec Ideal S16x2x4x4096x4096 .f32) (hs : ∀ z, Re (s z)) (j : S16x2x4x4096.Idx) : Re (mx s j) :=
  maxf_re _ _ j negInf (red_re (n0 := 16) (n1 := 2) (n2 := 4) (n3 := 4096) (n4 := 4096) (Nat.succ_pos _) s (constant (F := Ideal) S_ .f32 0xFF800000#32) reducesTo_S16x2x4x4096x4096_S16x2x4x4096_d4 h_S_ (fun _ => negInf) hs j)

theorem ex_at (s x) (b : Fin 16) (h : Fin 2) (a : Fin 4) (n r : Fin 4096) :
    ex s x (ix5 b h a n r) = Ideal.exp ((s (ix5 b h a n r) : EReal) - x (ix4 b h a n)) := by
  pointwise [ex, spread]

theorem wt_at (e) (b : Fin 16) (h : Fin 2) (a : Fin 4) (n r : Fin 4096) :
    wt e (ix5 b h a n r) = Ideal.div (e (ix5 b h a n r)) (∑ r' : Fin 4096, e (ix5 b h a n r')) := by
  pointwise [wt, spread]

theorem fin_at (w) (row : Fin 65536) (x : Fin 512) :
    fin v g w (ix2 row x) = (∑ r : Fin 4096, (v (ix4 (⟨row.val / 4096, by omega⟩ : Fin 16) r (⟨x.val / 256, by omega⟩ : Fin 2) (⟨x.val % 64, by omega⟩ : Fin 64)) : EReal) * w (ix5 (⟨row.val / 4096, by omega⟩ : Fin 16) (⟨x.val / 256, by omega⟩ : Fin 2) (⟨x.val % 256 / 64, by omega⟩ : Fin 4) (⟨row.val % 4096, by omega⟩ : Fin 4096) r)) * g (ix2 row x) := by
  pointwise [fin]
  have e : ∀ p, (⟨x.val / 64 % 4, p⟩ : Fin 4) = ⟨x.val % 256 / 64, by omega⟩ := fun p => Fin.ext (by show x.val / 64 % 4 = x.val % 256 / 64; omega)
  simp only [e]

/-- The reference's result, from its queries, keys, values and gate. -/
def res : FVec Ideal S65536x512 .bf16 := fin v g (wt (ex (sc q k) (mx (sc q k))))

end Cert.ReferenceIdeal.Ref

end
-- ==== Proof.AttTie.lean ====
module

public import proofs.«01_k».proof.Proof.AttHost
public import proofs.«01_k».proof.Proof.AttRef

@[expose] public section

set_option maxRecDepth 16384

noncomputable section

namespace Cert.KernelIdeal.Att

open Idealize.ShloMosaic Idealize.ShloMosaic.TcCoe Idealize.SL.Sem
open Cert.KernelIdeal Cert.KernelIdeal.Gen Cert.SoftPure

/-- A sum of products of reals is the real sum of products. -/
theorem dot_coe {n : ℕ} (a b : Fin n → EReal) (ha : ∀ d, Re (a d)) (hb : ∀ d, Re (b d)) :
    ∑ d, a d * b d = ((∑ d, (a d).toReal * (b d).toReal : ℝ) : EReal) := by
  rw [coe_sum]
  refine Finset.sum_congr rfl fun d _ => ?_
  rw [EReal.coe_mul, ← (ha d).eq, ← (hb d).eq]

/-- The reference's weighted sum over the keys, from scores `z / 8`, is the kernel's from scores in base two. -/
theorem head_eq {D : ℕ} (k q : Fin 4096 → Fin D → EReal) (hk : ∀ r d, Re (k r d)) (hq : ∀ r d, Re (q r d)) (v : Fin 4096 → EReal) (μ : EReal) (hμ : Re μ) (w : EReal) (hw : w = ((0.125 : ℝ) : EReal)) :
    uval (fun r => ∑ d, k r d * (q r d * kap)) v
      = ∑ r, v r * Ideal.div (Ideal.exp ((∑ d, k r d * q r d) * w - μ)) (∑ r', Ideal.exp ((∑ d, k r' d * q r' d) * w - μ)) := by
  obtain ⟨μ, rfl⟩ := hμ
  have hz : ∀ r, ∑ d, k r d * q r d = ((∑ d, (k r d).toReal * (q r d).toReal : ℝ) : EReal) := fun r => dot_coe _ _ (hk r) (hq r)
  have hs : ∀ r, ∑ d, k r d * (q r d * kap) = (((∑ d, (k r d).toReal * (q r d).toReal) * 0.125 / Real.log 2 : ℝ) : EReal) := by
    intro r
    have h0 : (0 : ℝ) ≤ 0.125 / Real.log 2 := div_nonneg (by norm_num) (Real.log_pos (by norm_num)).le
    have : ∑ d, k r d * (q r d * kap) = (∑ d, k r d * q r d) * kap := by
      rw [kap_eq, sum_mul_coe _ h0]
      exact Finset.sum_congr rfl fun d _ => (mul_assoc _ _ _).symm
    rw [this, hz, kap_eq, ← EReal.coe_mul, mul_div_assoc]
  have hg : ∀ r, (∑ d, k r d * q r d) * w = (((∑ d, (k r d).toReal * (q r d).toReal) * 0.125 : ℝ) : EReal) := by
    intro r
    rw [hz, hw, ← EReal.coe_mul]
  simp only [hg]
  rw [weights_eq (by norm_num) (fun r => (∑ d, (k r d).toReal * (q r d).toReal) * 0.125) μ v]
  unfold uval
  simp only [hs, EReal.toReal_coe]

theorem eighth : Ideal.ofBits .f32 0x3E000000#32 = ((0.125 : ℝ) : EReal) := by
  simp [Ideal.ofBits, Ideal.ieee, -EReal.coe_mul]; norm_num

variable (m : (ℓ : Loc nD τ sig) → Buf (Elt Ideal) ℓ) (c : Dev nD)

/-- The array the kernel leaves is the reference's result, for real queries and keys. -/
theorem G_eq (hq : ∀ y, Re (q0 m c y)) (hk : ∀ y, Re (k0 m c y)) :
    G m c = Cert.ReferenceIdeal.Ref.res (q0 m c) (k0 m c) (w0 m c) (g0 m c) := by
  funext i
  obtain ⟨row, x, rfl⟩ : ∃ (row : Fin 65536) (x : Fin 512), i = ix2 row x := ⟨i 0, i 1, eq_ix2 i⟩
  have hrow := row.isLt
  have hx := x.isLt
  set b : Fin 16 := ⟨row.val / 4096, by omega⟩ with hb
  set n : Fin 4096 := ⟨row.val % 4096, by omega⟩ with hn
  set h : Fin 2 := ⟨x.val / 256, by omega⟩ with hh
  set a : Fin 4 := ⟨x.val % 256 / 64, by omega⟩ with ha
  set e : Fin 64 := ⟨x.val % 64, by omega⟩ with he
  have hscre : ∀ z, Re (Cert.ReferenceIdeal.Ref.sc (q0 m c) (k0 m c) z) := by
    intro z
    have := Cert.ReferenceIdeal.Ref.sc_at (q0 m c) (k0 m c) (z 0) (z 1) (z 2) (z 3) (z 4)
    refine ((congrArg (Cert.ReferenceIdeal.Ref.sc (q0 m c) (k0 m c)) (eq_ix5 z)).trans this).symm ▸ ?_
    exact (Re.sum _ _ fun d _ => (hk _).mul (hq _)).mul (eighth ▸ Re.coe _)
  have hmx := Cert.ReferenceIdeal.Ref.mx_re (Cert.ReferenceIdeal.Ref.sc (q0 m c) (k0 m c)) hscre (ix4 b h a n)
  have hd := head_eq (fun r d => k0 m c (ix4 b r h d)) (fun _ d => q0 m c (ix4 b n (⟨h.val * 4 + a.val, by omega⟩ : Fin 8) d)) (fun _ _ => hk _) (fun _ _ => hq _)
    (fun r => w0 m c (ix4 b r h e)) _ hmx _ eighth
  have hl : G m c (ix2 row x) = (uval (fun r => ∑ d : Fin 64, k0 m c (ix4 b r h d) * (q0 m c (ix4 b n (⟨h.val * 4 + a.val, by omega⟩ : Fin 8) d) * kap)) (fun r => w0 m c (ix4 b r h e)) * g0 m c (ix2 row x) : EReal) := by
    refine congrArg₂ (fun u w : EReal => u * w) (congrArg₂ uval (funext fun r => Finset.sum_congr rfl fun d _ => congrArg₂ (fun u w : EReal => u * w) (v9_at m c b r h d) ?_) (funext fun r => ?_)) (congrFun (V_main_arg3 m c) _)
    · refine (v7_at m c b h _ d a _).trans ?_
      have e1 : (⟨row.val % 4096 / 128 * 128 + row.val % 128, by omega⟩ : Fin 4096) = n := Fin.ext (by show row.val % 4096 / 128 * 128 + row.val % 128 = row.val % 4096; omega)
      exact congrArg (fun z : Fin 4096 => q0 m c (ix4 b z (⟨h.val * 4 + a.val, by omega⟩ : Fin 8) d) * kap) e1
    · exact v14_val m c b h _ _ r
  have hr : Cert.ReferenceIdeal.Ref.res (q0 m c) (k0 m c) (w0 m c) (g0 m c) (ix2 row x) = _ :=
    Cert.ReferenceIdeal.Ref.fin_at (w0 m c) (g0 m c) _ row x
  rw [hl, hr, hd]
  refine congrArg (fun u : EReal => u * g0 m c (ix2 row x)) (Finset.sum_congr rfl fun r _ => congrArg (fun u : EReal => w0 m c (ix4 b r h e) * u) ?_)
  rw [Cert.ReferenceIdeal.Ref.wt_at]
  simp only [Cert.ReferenceIdeal.Ref.ex_at, Cert.ReferenceIdeal.Ref.sc_at]
  rfl

end Cert.KernelIdeal.Att

end
-- ==== Proof.OutPure.lean ====
module

public import proofs.«01_k».proof.Proof.AttPure

@[expose] public section

noncomputable section

namespace Cert.RowPure

open Idealize.ShloMosaic

/-- The factor of a row's norm: one over the root of the mean of its squares, of 1024 entries, and a small number. -/
def nrm (o : Fin 1024 → EReal) : EReal :=
  Ideal.rsqrt (Ideal.div (∑ j, o j * o j) (Ideal.ofBits .f32 0x44800000#32) + Ideal.ofBits .f32 0x358637BD#32)

/-- Two rows of 512 entries side by side. -/
def side (a b : Fin 512 → EReal) (k : Fin 1024) : EReal :=
  if h : k.val < 512 then a ⟨k.val, h⟩ else b ⟨k.val - 512, by omega⟩

/-- An entry of a row times a matrix. -/
def through (y : Fin 1024 → EReal) (W : Fin 1024 → Fin 1024 → EReal) (j : Fin 1024) : EReal := ∑ k, y k * W k j

/-- An entry of the next residual row: the old one plus the normed and scaled output row. -/
def nextRow (x : Fin 1024 → EReal) (y : Fin 1024 → EReal) (W : Fin 1024 → Fin 1024 → EReal) (g : Fin 1024 → EReal) (j : Fin 1024) : EReal :=
  x j + through y W j * nrm (through y W) * g j

end Cert.RowPure

end
-- ==== Proof.OutTile.lean ====
module

public import proofs.«01_k».proof.Proof.Gen.Kernel2Ideal.Frame
public import proofs.«01_k».proof.Proof.OutPure
public import Idealize.ShloMosaic.Lib.Pipeline.ReadBack

@[expose] public section

set_option maxRecDepth 16384

noncomputable section

namespace Cert.Kernel2Ideal.Out

open Idealize.ShloMosaic Idealize.ShloMosaic.TcCoe Idealize.SL.Sem
open Cert.Kernel2Ideal Cert.Kernel2Ideal.Gen Cert.RowPure

/-- Two blocks side by side, read at an entry. -/
theorem cat_at (a b : S512x512.Idx → EReal) (r : Fin 512) (k : Fin 1024) :
    concatenate (α := EReal) S512x1024 1 [⟨S512x512, a⟩, ⟨S512x512, b⟩] concatenates_S512x512_S512x512_S512x1024_d1 (ix2 r k)
      = side (fun k => a (ix2 r k)) (fun k => b (ix2 r k)) k := by
  pointwise [side]

/-- The upper half of a block's rows, read at an entry. -/
theorem low_at (x : S512x1024.Idx → EReal) (a b : S512x512.Idx → EReal) (w : S1024x1024.Idx → EReal) (g : S1x1024.Idx → EReal) (r : Fin 512) (j : Fin 1024) :
    (k0_pay2 (F := Ideal) x a b w g : S512x1024.Idx → EReal) (ix2 r j)
      = nextRow (fun j => x (ix2 r j)) (side (fun k => a (ix2 r k)) (fun k => b (ix2 r k))) (fun k j => w (ix2 k j)) (fun j => g (ix2 0 j)) j := by
  simp only [nextRow, through, nrm, ← cat_at]
  pointwise [k0_pay2]

/-- The lower half of a block's rows, read at an entry. -/
theorem high_at (x : S512x1024.Idx → EReal) (a b : S512x512.Idx → EReal) (w : S1024x1024.Idx → EReal) (g : S1x1024.Idx → EReal) (r : Fin 512) (j : Fin 1024) :
    (k0_pay1 (F := Ideal) (k0_pay3 (F := Ideal) x) (k0_pay4 (F := Ideal) a b) w g : S512x1024.Idx → EReal) (ix2 r j)
      = nextRow (fun j => x (ix2 r j)) (side (fun k => a (ix2 r k)) (fun k => b (ix2 r k))) (fun k j => w (ix2 k j)) (fun j => g (ix2 0 j)) j :=
  low_at x a b w g r j

/-- Stores that hold one array's entries and cover the buffer leave that array. -/
theorem canon_pieces {s : Shape} {e : EltTy} (A : s.Idx → Elt Ideal e) (L : List (View.Piece (Elt Ideal) s e))
    (h : View.PiecesOf A L) (hc : ∀ y, ∃ p ∈ L, y ∈ p.1.set) : View.canon L = A :=
  funext fun y => (congrFun (congrArg View.canon (List.append_nil L).symm) y).trans (View.canon_append_of_piecesOf A [] L h y (hc y))

theorem nextRow_congr {x x' : Fin 1024 → EReal} {a a' b b' : Fin 512 → EReal} {W W' : Fin 1024 → Fin 1024 → EReal} {g g' : Fin 1024 → EReal} {j j' : Fin 1024}
    (hx : ∀ j, x j = x' j) (ha : ∀ k, a k = a' k) (hb : ∀ k, b k = b' k) (hW : ∀ k j, W k j = W' k j) (hg : ∀ j, g j = g' j) (hj : j = j') :
    nextRow x (side a b) W g j = nextRow x' (side a' b') W' g' j' := by
  obtain rfl : x = x' := funext hx
  obtain rfl : a = a' := funext ha
  obtain rfl : b = b' := funext hb
  obtain rfl : W = W' := funext fun k => funext (hW k)
  obtain rfl : g = g' := funext hg
  rw [hj]

/-- The block a point leaves, from the blocks it reads. -/
theorem tile_eq (x0 : Vec Ideal S1024x1024 .f32) (x1 x2 : Vec Ideal S1024x512 .bf16) (x3 : Vec Ideal S1024x1024 .bf16) (x4 : Vec Ideal S1x1024 .f32) :
    out0_5 x0 x1 x2 x3 x4 = fun y : S1024x1024.Idx =>
      nextRow (fun j => x0 (ix2 (y 0) j)) (side (fun k => x1 (ix2 (y 0) k)) (fun k => x2 (ix2 (y 0) k))) (fun k j => x3 (ix2 k j)) (fun j => x4 (ix2 0 j)) (y 1) := by
  unfold out0_5
  refine canon_pieces _ _ ?_ (cover0_5 _ _)
  refine ⟨fun z => ?_, fun z => ?_, trivial⟩
  · obtain ⟨r, j, rfl⟩ : ∃ (r : Fin 512) (j : Fin 1024), z = ix2 r j := ⟨z 0, z 1, eq_ix2 z⟩
    refine (high_at _ _ _ _ _ r j).trans ?_
    exact nextRow_congr (fun j => congrArg x0 (funext fun a => match a with | ⟨0, _⟩ => rfl | ⟨1, _⟩ => Fin.ext (by show 0 + 1 * j.val = j.val; omega))) (fun k => congrArg x1 (funext fun a => match a with | ⟨0, _⟩ => rfl | ⟨1, _⟩ => Fin.ext (by show 0 + 1 * k.val = k.val; omega))) (fun k => congrArg x2 (funext fun a => match a with | ⟨0, _⟩ => rfl | ⟨1, _⟩ => Fin.ext (by show 0 + 1 * k.val = k.val; omega)))
      (fun k j => congrArg x3 (funext fun a => match a with | ⟨0, _⟩ => Fin.ext (by show 0 + 1 * k.val = k.val; omega) | ⟨1, _⟩ => Fin.ext (by show 0 + 1 * j.val = j.val; omega))) (fun j => congrArg x4 (funext fun a => match a with | ⟨0, _⟩ => rfl | ⟨1, _⟩ => Fin.ext (by show 0 + 1 * j.val = j.val; omega))) (Fin.ext (by show j.val = 0 + 1 * j.val; omega))
  · obtain ⟨r, j, rfl⟩ : ∃ (r : Fin 512) (j : Fin 1024), z = ix2 r j := ⟨z 0, z 1, eq_ix2 z⟩
    refine (low_at _ _ _ _ _ r j).trans ?_
    exact nextRow_congr (fun j => congrArg x0 (funext fun a => match a with | ⟨0, _⟩ => rfl | ⟨1, _⟩ => Fin.ext (by show 0 + 1 * j.val = j.val; omega))) (fun k => congrArg x1 (funext fun a => match a with | ⟨0, _⟩ => rfl | ⟨1, _⟩ => Fin.ext (by show 0 + 1 * k.val = k.val; omega))) (fun k => congrArg x2 (funext fun a => match a with | ⟨0, _⟩ => rfl | ⟨1, _⟩ => Fin.ext (by show 0 + 1 * k.val = k.val; omega)))
      (fun k j => congrArg x3 (funext fun a => match a with | ⟨0, _⟩ => Fin.ext (by show 0 + 1 * k.val = k.val; omega) | ⟨1, _⟩ => Fin.ext (by show 0 + 1 * j.val = j.val; omega))) (fun j => congrArg x4 (funext fun a => match a with | ⟨0, _⟩ => rfl | ⟨1, _⟩ => Fin.ext (by show 0 + 1 * j.val = j.val; omega))) (Fin.ext (by show j.val = 0 + 1 * j.val; omega))

end Cert.Kernel2Ideal.Out

end
-- ==== Proof.OutArray.lean ====
module

public import proofs.«01_k».proof.Proof.OutTile

@[expose] public section

set_option maxRecDepth 16384

noncomputable section

namespace Cert.Kernel2Ideal.Out

open Idealize.ShloMosaic Idealize.ShloMosaic.TcCoe Idealize.ShloMosaic.Tactic Idealize.SL.Sem
open Cert.Kernel2Ideal Cert.Kernel2Ideal.Gen Cert.RowPure

/-- The block each staged array takes at a grid point: the point's rows of the first three and of the output, the whole weight and gain. -/
theorem at0 : ∀ t : Fin grid0.N, win0_0.index t = ![t.val, 0] := by decide +kernel
theorem at1 : ∀ t : Fin grid0.N, win0_1.index t = ![t.val, 0] := by decide +kernel
theorem at2 : ∀ t : Fin grid0.N, win0_2.index t = ![t.val, 0] := by decide +kernel
theorem at3 : ∀ t : Fin grid0.N, win0_3.index t = ![0, 0] := by decide +kernel
theorem at4 : ∀ t : Fin grid0.N, win0_4.index t = ![0, 0] := by decide +kernel
theorem at5 : ∀ t : Fin grid0.N, win0_5.index t = ![t.val, 0] := by decide +kernel

variable (m : (ℓ : Loc nD τ sig) → Buf (Elt Ideal) ℓ) (ρ : Dev nD → PrngReg) (c : Dev nD)

theorem get0 (t : Fin cfg0.N) (r : Fin 1024) (j : Fin 1024) (R : Fin 65536) (h : R.val = t.val * 1024 + r.val) :
    iblk m c 0 t (ix2 r j) = V m c main_v0 (ix2 R j) := by
  show V m c main_v0 (((cfg0.win 0).blk t).view.emb (ix2 r j)) = _
  refine congrArg _ (funext fun a => Fin.ext ?_)
  have e := at0 t
  match a with
  | ⟨0, _⟩ => have e' : win0_0.index t 0 = t.val := congrFun e 0
              show win0_0.index t 0 * 1024 + 1 * r.val = R.val; omega
  | ⟨1, _⟩ => have e' : win0_0.index t 1 = 0 := congrFun e 1
              show win0_0.index t 1 * 1024 + 1 * j.val = j.val; omega

theorem get1 (t : Fin cfg0.N) (r : Fin 1024) (j : Fin 512) (R : Fin 65536) (h : R.val = t.val * 1024 + r.val) :
    iblk m c 1 t (ix2 r j) = V m c main_v2 (ix2 R j) := by
  show V m c main_v2 (((cfg0.win 1).blk t).view.emb (ix2 r j)) = _
  refine congrArg _ (funext fun a => Fin.ext ?_)
  have e := at1 t
  match a with
  | ⟨0, _⟩ => have e' : win0_1.index t 0 = t.val := congrFun e 0
              show win0_1.index t 0 * 1024 + 1 * r.val = R.val; omega
  | ⟨1, _⟩ => have e' : win0_1.index t 1 = 0 := congrFun e 1
              show win0_1.index t 1 * 512 + 1 * j.val = j.val; omega

theorem get2 (t : Fin cfg0.N) (r : Fin 1024) (j : Fin 512) (R : Fin 65536) (h : R.val = t.val * 1024 + r.val) :
    iblk m c 2 t (ix2 r j) = V m c main_v4 (ix2 R j) := by
  show V m c main_v4 (((cfg0.win 2).blk t).view.emb (ix2 r j)) = _
  refine congrArg _ (funext fun a => Fin.ext ?_)
  have e := at2 t
  match a with
  | ⟨0, _⟩ => have e' : win0_2.index t 0 = t.val := congrFun e 0
              show win0_2.index t 0 * 1024 + 1 * r.val = R.val; omega
  | ⟨1, _⟩ => have e' : win0_2.index t 1 = 0 := congrFun e 1
              show win0_2.index t 1 * 512 + 1 * j.val = j.val; omega

theorem get3 (t : Fin cfg0.N) (k j : Fin 1024) : iblk m c 3 t (ix2 k j) = V m c main_v5 (ix2 k j) := by
  show V m c main_v5 (((cfg0.win 3).blk t).view.emb (ix2 k j)) = _
  refine congrArg _ (funext fun a => Fin.ext ?_)
  have e := at3 t
  match a with
  | ⟨0, _⟩ => have e' : win0_3.index t 0 = 0 := congrFun e 0
              show win0_3.index t 0 * 1024 + 1 * k.val = k.val; omega
  | ⟨1, _⟩ => have e' : win0_3.index t 1 = 0 := congrFun e 1
              show win0_3.index t 1 * 1024 + 1 * j.val = j.val; omega

theorem get4 (t : Fin cfg0.N) (k : Fin 1) (j : Fin 1024) : iblk m c 4 t (ix2 k j) = V m c main_v6 (ix2 k j) := by
  show V m c main_v6 (((cfg0.win 4).blk t).view.emb (ix2 k j)) = _
  refine congrArg _ (funext fun a => Fin.ext ?_)
  have e := at4 t
  match a with
  | ⟨0, _⟩ => have e' : win0_4.index t 0 = 0 := congrFun e 0
              show win0_4.index t 0 * 1 + 1 * k.val = k.val; omega
  | ⟨1, _⟩ => have e' : win0_4.index t 1 = 0 := congrFun e 1
              show win0_4.index t 1 * 1024 + 1 * j.val = j.val; omega

/-- A row of the next residual, from the arrays the region stages. -/
def arrRow (R : Fin 65536) (j : Fin 1024) : EReal :=
  nextRow (fun j => V m c main_v0 (ix2 R j)) (side (fun k => V m c main_v2 (ix2 R k)) (fun k => V m c main_v4 (ix2 R k)))
    (fun k j => V m c main_v5 (ix2 k j)) (fun j => V m c main_v6 (ix2 0 j)) j

/-- The same row, from the blocks of a grid point. -/
def blkRow (x0 : Vec Ideal S1024x1024 .f32) (x1 x2 : Vec Ideal S1024x512 .bf16) (x3 : Vec Ideal S1024x1024 .bf16) (x4 : Vec Ideal S1x1024 .f32) (r j : Fin 1024) : EReal :=
  nextRow (fun j => x0 (ix2 r j)) (side (fun k => x1 (ix2 r k)) (fun k => x2 (ix2 r k))) (fun k j => x3 (ix2 k j)) (fun j => x4 (ix2 0 j)) j

theorem blkRow_eq (t : Fin cfg0.N) (r j : Fin 1024) (R : Fin 65536) (h : R.val = t.val * 1024 + r.val) :
    blkRow (iblk m c 0 t) (iblk m c 1 t) (iblk m c 2 t) (iblk m c 3 t) (iblk m c 4 t) r j = arrRow m c R j :=
  nextRow_congr (fun j => get0 m c t r j R h) (fun k => get1 m c t r k R h) (fun k => get2 m c t r k R h) (fun k j => get3 m c t k j) (fun j => get4 m c t 0 j) rfl

/-- The array the region leaves, from the arrays it stages. -/
def G (c : Dev nD) : Buf (Elt Ideal) ((c : Thread nD τ).loc main_v7) := fun i : S65536x1024.Idx => arrRow m c (i 0) (i 1)

/-- What a point writes back is its block of `G`. -/
theorem wrote (t : Fin cfg0.N) : (dats m 0 c).flushed 5 t = ((cfg0.win 5).blk t).view.read (Elt Ideal) (G m c) := by
  show (cfg0.win 5).cut (grid0.coords t) ((dats m 0 c).after 5 t) = _
  rw [after0_5, tile_eq]
  have e := at5 t
  have e0 : win0_5.index t 0 = t.val := congrFun e 0
  have e1 : win0_5.index t 1 = 0 := congrFun e 1
  funext y
  have a0 : (((cfg0.win 5).blk t).view.emb y 0).val = t.val * 1024 + (y 0).val := by
    show win0_5.index t 0 * 1024 + 1 * (y 0).val = _; rw [e0]; omega
  have a1 : (((cfg0.win 5).blk t).view.emb y 1).val = (y 1).val := by
    show win0_5.index t 1 * 1024 + 1 * (y 1).val = _; rw [e1]; omega
  have hx : (((cfg0.win 5).blk t).view.emb y 1 : Fin 1024) = ((cfg0.win 5).xinj (grid0.coords t) y 1 : Fin 1024) := Fin.ext a1
  show blkRow _ _ _ _ _ ((cfg0.win 5).xinj (grid0.coords t) y 0) ((cfg0.win 5).xinj (grid0.coords t) y 1) = arrRow m c (((cfg0.win 5).blk t).view.emb y 0) (((cfg0.win 5).blk t).view.emb y 1)
  exact (blkRow_eq m c t _ _ (((cfg0.win 5).blk t).view.emb y 0) a0).trans (congrArg _ hx.symm)

/-- Every entry of the array is in the block of the point its row names. -/
theorem covered (i : S65536x1024.Idx) : ∃ t : Fin cfg0.N, (cfg0.win 5).flush t = true ∧ i ∈ ((cfg0.win 5).blk t).view.set := by
  have b0 : (i 0).val < 65536 := (i 0).isLt
  have b1 : (i 1).val < 1024 := (i 1).isLt
  refine ⟨⟨(i 0).val / 1024, lt_of_lt_of_eq (by omega) N_0.symm⟩, flush0_5 _, ?_⟩
  change _ ∈ ((View.whole main_v7).slice (win0_5.rect (⟨(i 0).val / 1024, lt_of_lt_of_eq (by omega) N_0.symm⟩ : Fin grid0.N))).set
  rw [View.set_slice_whole, Rect.mem_set_unit]
  intro a
  have e := at5 ⟨(i 0).val / 1024, lt_of_lt_of_eq (by omega) N_0.symm⟩
  match a with
  | ⟨0, _⟩ =>
    have e' := congrFun e 0
    show win0_5.index _ 0 * 1024 ≤ (i 0).val ∧ (i 0).val < win0_5.index _ 0 * 1024 + 1024
    rw [e']; show (i 0).val / 1024 * 1024 ≤ (i 0).val ∧ (i 0).val < (i 0).val / 1024 * 1024 + 1024; omega
  | ⟨1, _⟩ =>
    have e' := congrFun e 1
    show win0_5.index _ 1 * 1024 ≤ (i 1).val ∧ (i 1).val < win0_5.index _ 1 * 1024 + 1024
    rw [e']; show 0 * 1024 ≤ (i 1).val ∧ (i 1).val < 0 * 1024 + 1024; omega

/-- The output array after the region. -/
theorem arr_eq : (dats m 0 c).arrAt 5 cfg0.N = G m c :=
  (dats m 0 c).arrAt_eq_of_cover 5 (G m c) (fun t _ => wrote m c t) covered

/-- Every run of the kernel leaves `G` in its result and its arguments as they were. -/
theorem run_out :
    θ_run defs (onTc (τ := τ) (main (F := Ideal))) ⟨m, fun _ => 0, ρ⟩ fun r => ∀ c : Dev nD,
      r.2.mem ((c : Thread nD τ).loc main_v7) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨((h c).1 5).trans (arr_eq m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩)
    (run_main m ρ)

end Cert.Kernel2Ideal.Out

end
-- ==== Proof.OutRef.lean ====
module

public import proofs.«01_k».proof.Proof.Gen.Reference2Ideal.Run
public import proofs.«01_k».proof.Proof.OutPure

@[expose] public section

set_option maxRecDepth 16384

noncomputable section

namespace Cert.Reference2Ideal.Ref

open Idealize.ShloMosaic Idealize.ShloMosaic.TcCoe Idealize.SL.Sem
open Cert.Reference2Ideal Cert.Reference2Ideal.Gen Cert.RowPure

variable (x : FVec Ideal S16x4096x1024 .f32) (a b : FVec Ideal S16x4096x512 .f32) (w : FVec Ideal S1024x1024 .f32) (g : FVec Ideal S1024 .f32)

/-- The two mixers' outputs side by side. -/
def mix : FVec Ideal S16x4096x1024 .f32 :=
  concatenate S16x4096x1024 2 [⟨S16x4096x512, a⟩, ⟨S16x4096x512, b⟩] concatenates_S16x4096x512_S16x4096x512_S16x4096x1024_d2

/-- The output projection. -/
def proj (y : FVec Ideal S16x4096x1024 .f32) : FVec Ideal S16x4096x1024 .f32 :=
  Host.dotGeneral dot_S16x4096x1024_S1024x1024_S16x4096x1024_2_0_01_1_n_n none y w

/-- The norm of the rows, the gain and the residual. -/
def add (o : FVec Ideal S16x4096x1024 .f32) : FVec Ideal S65536x1024 .f32 :=
  shapeCast _ (addf x (mulf (mulf o (broadcastInDim S16x4096x1024 ![0, 1, 2] bcast_S16x4096x1_S16x4096x1024_0_1_2 (Host.rsqrt (addf (Host.divf (broadcastInDim S16x4096x1 ![0, 1] bcast_S16x4096_S16x4096x1_0_1 (Host.reduceAdd (mulf o o) (constant S_ .f32 0x00000000#32) reducesTo_S16x4096x1024_S16x4096_d2 h_S_)) (broadcastInDim S16x4096x1 ![] bcast_S_S16x4096x1 (constant S_ .f32 0x44800000#32))) (broadcastInDim S16x4096x1 ![] bcast_S_S16x4096x1 (constant S_ .f32 0x358637BD#32)))))) (broadcastInDim S16x4096x1024 ![0, 1, 2] bcast_S1x1x1024_S16x4096x1024_0_1_2 (broadcastInDim S1x1x1024 ![2] bcast_S1024_S1x1x1024_2 g)))) shapeCasts_S16x4096x1024_S65536x1024

theorem mix_at (B : Fin 16) (n : Fin 4096) (k : Fin 1024) :
    mix a b (ix3 B n k) = side (fun k => a (ix3 B n k)) (fun k => b (ix3 B n k)) k := by
  pointwise [mix, side]

theorem proj_at (y : FVec Ideal S16x4096x1024 .f32) (B : Fin 16) (n : Fin 4096) (j : Fin 1024) :
    proj w y (ix3 B n j) = through (fun k => y (ix3 B n k)) (fun k j => w (ix2 k j)) j := by
  pointwise [proj, through]

theorem add_at (o : FVec Ideal S16x4096x1024 .f32) (R : Fin 65536) (j : Fin 1024) :
    add x g o (ix2 R j) = (x (ix3 (⟨R.val / 4096, by omega⟩ : Fin 16) (⟨R.val % 4096, by omega⟩ : Fin 4096) j) : EReal)
      + o (ix3 (⟨R.val / 4096, by omega⟩ : Fin 16) (⟨R.val % 4096, by omega⟩ : Fin 4096) j) * nrm (fun j => o (ix3 (⟨R.val / 4096, by omega⟩ : Fin 16) (⟨R.val % 4096, by omega⟩ : Fin 4096) j)) * g (ix1 j) := by
  pointwise [add, nrm]

/-- The reference's result. -/
def res : FVec Ideal S65536x1024 .f32 := add x g (proj w (mix a b))

theorem res_at (R : Fin 65536) (j : Fin 1024) :
    res x a b w g (ix2 R j) = nextRow (fun j => x (ix3 (⟨R.val / 4096, by omega⟩ : Fin 16) (⟨R.val % 4096, by omega⟩ : Fin 4096) j))
      (side (fun k => a (ix3 (⟨R.val / 4096, by omega⟩ : Fin 16) (⟨R.val % 4096, by omega⟩ : Fin 4096) k)) (fun k => b (ix3 (⟨R.val / 4096, by omega⟩ : Fin 16) (⟨R.val % 4096, by omega⟩ : Fin 4096) k)))
      (fun k j => w (ix2 k j)) (fun j => g (ix1 j)) j := by
  rw [res, add_at]
  simp only [proj_at, mix_at]
  rfl

end Cert.Reference2Ideal.Ref

end
-- ==== Proof.OutTie.lean ====
module

public import proofs.«01_k».proof.Proof.OutArray
public import proofs.«01_k».proof.Proof.OutRef
public import Idealize.ShloMosaic.Lib.Claim

@[expose] public section

set_option maxRecDepth 16384

noncomputable section

namespace Cert.Kernel2Ideal.Out

open Idealize.ShloMosaic Idealize.ShloMosaic.TcCoe Idealize.ShloMosaic.Tactic Idealize.SL.Sem
open Cert.Kernel2Ideal Cert.Kernel2Ideal.Gen Cert.RowPure

variable (m : (ℓ : Loc nD τ sig) → Buf (Elt Ideal) ℓ) (c : Dev nD)

/-- The residual, the two mixers' outputs, the weight and the gain the kernel is given. -/
def x0 : S16x4096x1024.Idx → EReal := m ((c : Thread nD τ).loc main_arg0)
def a0 : S16x4096x512.Idx → EReal := m ((c : Thread nD τ).loc main_arg1)
def b0 : S16x4096x512.Idx → EReal := m ((c : Thread nD τ).loc main_arg2)
def w0 : S1024x1024.Idx → EReal := m ((c : Thread nD τ).loc main_arg3)
def g0 : S1024.Idx → EReal := m ((c : Thread nD τ).loc main_arg4)

theorem v0_at (R : Fin 65536) (j : Fin 1024) :
    V m c main_v0 (ix2 R j) = x0 m c (ix3 (⟨R.val / 4096, by omega⟩ : Fin 16) (⟨R.val % 4096, by omega⟩ : Fin 4096) j) := by
  entry_read
  pointwise [x0]

theorem v2_at (R : Fin 65536) (k : Fin 512) :
    V m c main_v2 (ix2 R k) = a0 m c (ix3 (⟨R.val / 4096, by omega⟩ : Fin 16) (⟨R.val % 4096, by omega⟩ : Fin 4096) k) := by
  entry_read
  pointwise [a0]

theorem v4_at (R : Fin 65536) (k : Fin 512) :
    V m c main_v4 (ix2 R k) = b0 m c (ix3 (⟨R.val / 4096, by omega⟩ : Fin 16) (⟨R.val % 4096, by omega⟩ : Fin 4096) k) := by
  entry_read
  pointwise [b0]

theorem v5_at (k j : Fin 1024) : V m c main_v5 (ix2 k j) = w0 m c (ix2 k j) := by
  entry_read
  pointwise [w0]

theorem v6_at (j : Fin 1024) : V m c main_v6 (ix2 (0 : Fin 1) j) = g0 m c (ix1 j) := by
  entry_read
  pointwise [g0]

/-- The array the kernel leaves is the reference's result. -/
theorem G_eq : G m c = Cert.Reference2Ideal.Ref.res (x0 m c) (a0 m c) (b0 m c) (w0 m c) (g0 m c) := by
  funext i
  obtain ⟨R, j, rfl⟩ : ∃ (R : Fin 65536) (j : Fin 1024), i = ix2 R j := ⟨i 0, i 1, eq_ix2 i⟩
  refine Eq.trans ?_ (Cert.Reference2Ideal.Ref.res_at (x0 m c) (a0 m c) (b0 m c) (w0 m c) (g0 m c) R j).symm
  show arrRow m c R j = _
  exact nextRow_congr (fun j => v0_at m c R j) (fun k => v2_at m c R k) (fun k => v4_at m c R k) (fun k j => v5_at m c k j) (fun j => v6_at m c j) rfl

end Cert.Kernel2Ideal.Out

end
-- ==== Proof.InPure.lean ====
module

public import proofs.«01_k».proof.Proof.OutPure

@[expose] public section

noncomputable section

namespace Cert.InPure

open Idealize.ShloMosaic Cert.RowPure

/-- A row over its norm, times the gain. -/
def hrow (x g : Fin 1024 → EReal) (k : Fin 1024) : EReal := x k * nrm x * g k

/-- A normed row times a column of the input projection. -/
def prj (h : Fin 1024 → EReal) (W : Fin 1024 → EReal) : EReal := ∑ k, h k * W k

/-- The mean of 512 entries. -/
def avg (v : Fin 512 → EReal) : EReal := Ideal.div (∑ e, v e) (Ideal.ofBits .f32 0x44000000#32)

/-- A row of 512 entries, less its mean and over its deviation, times the gain, plus the bias. -/
def lnorm (v a b : Fin 512 → EReal) (e : Fin 512) : EReal :=
  (v e - avg v) * Ideal.rsqrt (avg (fun e => (v e - avg v) * (v e - avg v)) + Ideal.ofBits .f32 0x358637BD#32) * a e + b e

/-- The gate as the kernel takes it: half of `t` plus that half times its hyperbolic tangent. -/
def gateT (t : EReal) : EReal :=
  Ideal.ofBits .f32 0x3F000000#32 * t + Ideal.ofBits .f32 0x3F000000#32 * t * Ideal.tanh (Ideal.ofBits .f32 0x3F000000#32 * t)

/-- The gate as the reference takes it: `t` over one plus the exponential of minus `t`. -/
def gateE (t : EReal) : EReal :=
  t * Ideal.div (Ideal.ofBits .f32 0x3F800000#32) (Ideal.ofBits .f32 0x3F800000#32 + Ideal.exp (-t))

/-- An entry of the spatially gated mixer's output before its last factor: the first column times the mix, over a chunk of 128 rows, of the second. -/
def mixed (u : EReal) (v : Fin 128 → Fin 512 → EReal) (a b : Fin 512 → EReal) (w : Fin 128 → EReal) (s : EReal) (e : Fin 512) : EReal :=
  u * (∑ j, w j * lnorm (v j) a b e + s)

/-- A head's row over its norm, times the gain. -/
def hnorm (t g : Fin 64 → EReal) (d : Fin 64) : EReal :=
  t d * Ideal.rsqrt (Ideal.div (∑ d, t d * t d) (Ideal.ofBits .f32 0x42800000#32) + Ideal.ofBits .f32 0x358637BD#32) * g d

/-- A head's row turned, its first two quarters by the first sixteen angles and its last two by the other sixteen. -/
def turned (t : Fin 64 → EReal) (c s : Fin 32 → EReal) (d : Fin 64) : EReal :=
  if h : d.val < 16 then t d * c ⟨d.val, by omega⟩ - t ⟨16 + d.val, by omega⟩ * s ⟨d.val, by omega⟩
  else if h : d.val < 32 then t d * c ⟨d.val - 16, by omega⟩ + t ⟨d.val - 16, by omega⟩ * s ⟨d.val - 16, by omega⟩
  else if h : d.val < 48 then t d * c ⟨d.val - 16, by omega⟩ - t ⟨16 + d.val, by omega⟩ * s ⟨d.val - 16, by omega⟩
  else t d * c ⟨d.val - 32, by omega⟩ + t ⟨d.val - 16, by omega⟩ * s ⟨d.val - 32, by omega⟩

end Cert.InPure

end
-- ==== Proof.InTile.lean ====
module

public import proofs.«01_k».proof.Proof.Gen.Kernel3Ideal.Frame
public import proofs.«01_k».proof.Proof.InPure
public import Idealize.ShloMosaic.Lib.Pipeline.ReadBack

@[expose] public section

set_option maxRecDepth 16384

noncomputable section

namespace Cert.Kernel3Ideal.In

open Idealize.ShloMosaic Idealize.ShloMosaic.TcCoe Idealize.SL.Sem
open Cert.Kernel3Ideal Cert.Kernel3Ideal.Gen Cert.RowPure Cert.InPure

/-- The upper half's normed rows, read at an entry. -/
theorem h_at (x : S512x1024.Idx → EReal) (g : S1x1024.Idx → EReal) (r : Fin 512) (k : Fin 1024) :
    (k0_pay2 (F := Ideal) x g : S512x1024.Idx → EReal) (ix2 r k) = hrow (fun k => x (ix2 r k)) (fun k => g (ix2 0 k)) k := by
  pointwise [k0_pay2, hrow, nrm]

/-- A product of the rows with the columns kept in their order, read at an entry. -/
theorem p_at (h : S512x1024.Idx → EReal) (w : S1024x2048.Idx → EReal) (r : Fin 512) (j : Fin 2048) :
    (k0_pay35 (F := Ideal) h w : S512x2048.Idx → EReal) (ix2 r j) = prj (fun k => h (ix2 r k)) (fun k => w (ix2 k j)) := by
  pointwise [k0_pay35, prj]

/-- The gate of the last 512 columns, read at an entry. -/
theorem sgb_at (h : S512x1024.Idx → EReal) (w : S1024x2048.Idx → EReal) (r e : Fin 512) :
    (k0_pay38 (F := Ideal) h w : S512x512.Idx → EReal) (ix2 r e) = gateT (prj (fun k => h (ix2 r k)) (fun k => w (ix2 k (⟨1536 + e.val, by omega⟩ : Fin 2048)))) := by
  rw [← p_at]
  pointwise [k0_pay38, gateT]

theorem h_high (x : S512x1024.Idx → EReal) (g : S1x1024.Idx → EReal) : k0_pay67 (F := Ideal) x g = k0_pay2 (F := Ideal) x g := rfl

theorem p_high (h : S512x1024.Idx → EReal) (w : S1024x2048.Idx → EReal) : k0_pay93 (F := Ideal) h w = k0_pay35 (F := Ideal) h w := rfl

theorem sgb_high (h : S512x1024.Idx → EReal) (w : S1024x2048.Idx → EReal) : k0_pay96 (F := Ideal) h w = k0_pay38 (F := Ideal) h w := rfl

/-- The first 512 columns, read at an entry. -/
theorem u_at (h : S512x1024.Idx → EReal) (w : S1024x2048.Idx → EReal) (r e : Fin 512) :
    (k0_pay36 (F := Ideal) h w : S512x512.Idx → EReal) (ix2 r e) = prj (fun k => h (ix2 r k)) (fun k => w (ix2 k (⟨e.val, by omega⟩ : Fin 2048))) := by
  rw [← p_at]
  pointwise [k0_pay36]

/-- The third 512 columns, read at an entry. -/
theorem ga_at (h : S512x1024.Idx → EReal) (w : S1024x2048.Idx → EReal) (r e : Fin 512) :
    (k0_pay37 (F := Ideal) h w : S512x512.Idx → EReal) (ix2 r e) = prj (fun k => h (ix2 r k)) (fun k => w (ix2 k (⟨1024 + e.val, by omega⟩ : Fin 2048))) := by
  rw [← p_at]
  pointwise [k0_pay37]

theorem u_high (h : S512x1024.Idx → EReal) (w : S1024x2048.Idx → EReal) : k0_pay94 (F := Ideal) h w = k0_pay36 (F := Ideal) h w := rfl

theorem ga_high (h : S512x1024.Idx → EReal) (w : S1024x2048.Idx → EReal) : k0_pay95 (F := Ideal) h w = k0_pay37 (F := Ideal) h w := rfl

/-- The second 512 columns, normed along a row, read at an entry. -/
theorem vn_at (h : S512x1024.Idx → EReal) (w : S1024x2048.Idx → EReal) (a b : S1x512.Idx → EReal) (r e : Fin 512) :
    (k0_pay40 (F := Ideal) (k0_pay39 (F := Ideal) h w a) b : S512x512.Idx → EReal) (ix2 r e)
      = lnorm (fun e => prj (fun k => h (ix2 r k)) (fun k => w (ix2 k (⟨512 + e.val, by omega⟩ : Fin 2048)))) (fun e => a (ix2 0 e)) (fun e => b (ix2 0 e)) e := by
  simp only [← p_at]
  pointwise [k0_pay39, k0_pay40, lnorm, avg]

theorem vn_high (h : S512x1024.Idx → EReal) (w : S1024x2048.Idx → EReal) (a b : S1x512.Idx → EReal) :
    k0_pay99 (F := Ideal) (k0_pay97 (F := Ideal) h w) (k0_pay98 (F := Ideal) h w) a b = k0_pay40 (F := Ideal) (k0_pay39 (F := Ideal) h w a) b := rfl

end Cert.Kernel3Ideal.In

end
-- ==== Proof.InMix.lean ====
module

public import proofs.«01_k».proof.Proof.InTile

@[expose] public section

set_option maxRecDepth 16384

noncomputable section

namespace Cert.Kernel3Ideal.In

open Idealize.ShloMosaic Idealize.ShloMosaic.TcCoe Idealize.SL.Sem
open Cert.Kernel3Ideal Cert.Kernel3Ideal.Gen Cert.RowPure Cert.InPure

/-- Where the weights of a lane's group begin: the first half of the row for the first 64 lanes, the second for the others. -/
def grp (col : Fin 128) (j : Fin 128) : Fin 256 := if col.val < 64 then ⟨j.val, by omega⟩ else ⟨128 + j.val, by omega⟩

theorem lane : ∀ col : Fin 128, (BitVec.ofNat 32 col.val).slt 64#32 = decide (col.val < 64) := by decide +kernel

/-- A block under itself, the first group's lanes kept above and the second group's below. -/
def half (b : S128x128.Idx → EReal) : S256x128.Idx → EReal :=
  concatenate (α := EReal) S256x128 0 [⟨S128x128, select k0_pay41 b (k0_pay42 (F := Ideal))⟩, ⟨S128x128, select k0_pay41 (k0_pay42 (F := Ideal)) b⟩] concatenates_S128x128_S128x128_S256x128_d0

theorem mask_at (j col : Fin 128) : k0_pay41 (ix2 j col) = if col.val < 64 then 1#1 else 0#1 := by
  have h := lane col
  pointwise [k0_pay41]
  show BitVec.ofBool ((BitVec.ofNat 32 col.val).slt 64#32) = _
  rw [h]
  by_cases c : col.val < 64 <;> simp [c]

theorem half_at (b : S128x128.Idx → EReal) (k : Fin 256) (col : Fin 128) :
    half b (ix2 k col) = if h : k.val < 128 then (if col.val < 64 then b (ix2 (⟨k.val, h⟩ : Fin 128) col) else 0) else (if col.val < 64 then 0 else b (ix2 (⟨k.val - 128, by omega⟩ : Fin 128) col)) := by
  pointwise [half, k0_pay42]
  simp only [mask_at]
  by_cases c : col.val < 64 <;> simp [c, Scalar.select]

/-- Two blocks, each doubled and side by side, under a row of both groups' weights. -/
def both (b0 b1 : S128x128.Idx → EReal) (w : S1x128x256.Idx → EReal) : S128x256.Idx → EReal :=
  matmul (F := Ideal) (φ₁ := .bf16) (φ₂ := .bf16) dot_S128x256_S256x256_S128x256_1_0_0_1_n_n none (shapeCast S128x256 w shapeCasts_S1x128x256_S128x256)
    (concatenate (α := EReal) S256x256 1 [⟨S256x128, half b0⟩, ⟨S256x128, half b1⟩] concatenates_S256x128_S256x128_S256x256_d1) (constant (F := Ideal) S128x256 .f32 0x00000000#32)

theorem dot_half (w : Fin 256 → EReal) (b : S128x128.Idx → EReal) (col : Fin 128) :
    ∑ k, w k * half b (ix2 k col) = ∑ j : Fin 128, w (grp col j) * b (ix2 j col) := by
  have s : ∑ k : Fin 256, w k * half b (ix2 k col)
      = ∑ j : Fin 128, w ⟨j.val, by omega⟩ * half b (ix2 (⟨j.val, by omega⟩ : Fin 256) col) + ∑ j : Fin 128, w ⟨128 + j.val, by omega⟩ * half b (ix2 (⟨128 + j.val, by omega⟩ : Fin 256) col) :=
    Fin.sum_univ_add (a := 128) (b := 128) fun k : Fin 256 => w k * half b (ix2 k col)
  rw [s]
  simp only [half_at]
  by_cases c : col.val < 64
  · rw [show ∑ j : Fin 128, w ⟨128 + j.val, by omega⟩ * _ = (0 : EReal) from Finset.sum_eq_zero fun j _ => by simp [c]]
    rw [add_zero]
    exact Finset.sum_congr rfl fun j _ => by simp [c, grp]
  · rw [show ∑ j : Fin 128, w ⟨j.val, by omega⟩ * _ = (0 : EReal) from Finset.sum_eq_zero fun j _ => by simp [c]]
    rw [zero_add]
    exact Finset.sum_congr rfl fun j _ => by simp [c, grp]

/-- The first block's share of the product, and the second's. -/
def left (b0 b1 : S128x128.Idx → EReal) (w : S1x128x256.Idx → EReal) : S128x128.Idx → EReal := extractStridedSlice S128x128 ![0, 0] (both b0 b1 w) slices_S128x256_o0_0_S128x128
def right (b0 b1 : S128x128.Idx → EReal) (w : S1x128x256.Idx → EReal) : S128x128.Idx → EReal := extractStridedSlice S128x128 ![0, 128] (both b0 b1 w) slices_S128x256_o0_128_S128x128

theorem left_at (b0 b1 : S128x128.Idx → EReal) (w : S1x128x256.Idx → EReal) (i col : Fin 128) :
    left b0 b1 w (ix2 i col) = ∑ j : Fin 128, w (ix3 0 i (grp col j)) * b0 (ix2 j col) := by
  rw [← dot_half (fun k => w (ix3 0 i k)) b0 col]
  pointwise [left, both]

theorem right_at (b0 b1 : S128x128.Idx → EReal) (w : S1x128x256.Idx → EReal) (i col : Fin 128) :
    right b0 b1 w (ix2 i col) = ∑ j : Fin 128, w (ix3 0 i (grp col j)) * b1 (ix2 j col) := by
  rw [← dot_half (fun k => w (ix3 0 i k)) b1 col]
  pointwise [right, both]

/-- Four blocks side by side with the bias added. -/
def band (z0 z1 z2 z3 : S128x128.Idx → EReal) (s : S128x512.Idx → EReal) : S128x512.Idx → EReal :=
  addf (F := Ideal) (φ := .f32) (concatenate (α := EReal) S128x512 1 [⟨S128x128, z0⟩, ⟨S128x128, z1⟩, ⟨S128x128, z2⟩, ⟨S128x128, z3⟩] concatenates_S128x128_S128x128_S128x128_S128x128_S128x512_d1) (shapeCast S128x512 s shapeCasts_S128x512_S128x512)

theorem band_at (z0 z1 z2 z3 : S128x128.Idx → EReal) (s : S128x512.Idx → EReal) (f : Fin 128 → Fin 512 → EReal)
    (h0 : ∀ i col : Fin 128, z0 (ix2 i col) = f i ⟨col.val, by omega⟩) (h1 : ∀ i col : Fin 128, z1 (ix2 i col) = f i ⟨128 + col.val, by omega⟩)
    (h2 : ∀ i col : Fin 128, z2 (ix2 i col) = f i ⟨256 + col.val, by omega⟩) (h3 : ∀ i col : Fin 128, z3 (ix2 i col) = f i ⟨384 + col.val, by omega⟩)
    (i : Fin 128) (e : Fin 512) : band z0 z1 z2 z3 s (ix2 i e) = f i e + s (ix2 i e) := by
  pointwise [band]
  refine congrArg (· + s (ix2 i e)) ?_
  split
  · exact h0 _ _
  · split
    · exact (h1 _ _).trans (congrArg (f i) (Fin.ext (by show 128 + (e.val - 128) = e.val; omega)))
    · split
      · exact (h2 _ _).trans (congrArg (f i) (Fin.ext (by show 256 + (e.val - 128 - 128) = e.val; omega)))
      · exact (h3 _ _).trans (congrArg (f i) (Fin.ext (by show 384 + (e.val - 128 - 128 - 128) = e.val; omega)))

/-- Four bands one under another. -/
def pile (z0 z1 z2 z3 : S128x512.Idx → EReal) : S512x512.Idx → EReal :=
  concatenate (α := EReal) S512x512 0 [⟨S128x512, z0⟩, ⟨S128x512, z1⟩, ⟨S128x512, z2⟩, ⟨S128x512, z3⟩] concatenates_S128x512_S128x512_S128x512_S128x512_S512x512_d0

theorem pile_at (z0 z1 z2 z3 : S128x512.Idx → EReal) (f : Fin 512 → Fin 512 → EReal)
    (h0 : ∀ (i : Fin 128) (e : Fin 512), z0 (ix2 i e) = f ⟨i.val, by omega⟩ e) (h1 : ∀ (i : Fin 128) (e : Fin 512), z1 (ix2 i e) = f ⟨128 + i.val, by omega⟩ e)
    (h2 : ∀ (i : Fin 128) (e : Fin 512), z2 (ix2 i e) = f ⟨256 + i.val, by omega⟩ e) (h3 : ∀ (i : Fin 128) (e : Fin 512), z3 (ix2 i e) = f ⟨384 + i.val, by omega⟩ e)
    (r e : Fin 512) : pile z0 z1 z2 z3 (ix2 r e) = f r e := by
  pointwise [pile]
  split
  · exact h0 _ _
  · split
    · exact (h1 _ _).trans (congrArg (f · e) (Fin.ext (by show 128 + (r.val - 128) = r.val; omega)))
    · split
      · exact (h2 _ _).trans (congrArg (f · e) (Fin.ext (by show 256 + (r.val - 128 - 128) = r.val; omega)))
      · exact (h3 _ _).trans (congrArg (f · e) (Fin.ext (by show 384 + (r.val - 128 - 128 - 128) = r.val; omega)))

/-- The sixteen blocks of 128 rows and 128 columns. -/
def b00 (vn : S512x512.Idx → EReal) : S128x128.Idx → EReal := extractStridedSlice S128x128 ![0, 0] vn slices_S512x512_o0_0_S128x128
def b01 (vn : S512x512.Idx → EReal) : S128x128.Idx → EReal := extractStridedSlice S128x128 ![0, 128] vn slices_S512x512_o0_128_S128x128
def b02 (vn : S512x512.Idx → EReal) : S128x128.Idx → EReal := extractStridedSlice S128x128 ![0, 256] vn slices_S512x512_o0_256_S128x128
def b03 (vn : S512x512.Idx → EReal) : S128x128.Idx → EReal := extractStridedSlice S128x128 ![0, 384] vn slices_S512x512_o0_384_S128x128
def b10 (vn : S512x512.Idx → EReal) : S128x128.Idx → EReal := extractStridedSlice S128x128 ![128, 0] vn slices_S512x512_o128_0_S128x128
def b11 (vn : S512x512.Idx → EReal) : S128x128.Idx → EReal := extractStridedSlice S128x128 ![128, 128] vn slices_S512x512_o128_128_S128x128
def b12 (vn : S512x512.Idx → EReal) : S128x128.Idx → EReal := extractStridedSlice S128x128 ![128, 256] vn slices_S512x512_o128_256_S128x128
def b13 (vn : S512x512.Idx → EReal) : S128x128.Idx → EReal := extractStridedSlice S128x128 ![128, 384] vn slices_S512x512_o128_384_S128x128
def b20 (vn : S512x512.Idx → EReal) : S128x128.Idx → EReal := extractStridedSlice S128x128 ![256, 0] vn slices_S512x512_o256_0_S128x128
def b21 (vn : S512x512.Idx → EReal) : S128x128.Idx → EReal := extractStridedSlice S128x128 ![256, 128] vn slices_S512x512_o256_128_S128x128
def b22 (vn : S512x512.Idx → EReal) : S128x128.Idx → EReal := extractStridedSlice S128x128 ![256, 256] vn slices_S512x512_o256_256_S128x128
def b23 (vn : S512x512.Idx → EReal) : S128x128.Idx → EReal := extractStridedSlice S128x128 ![256, 384] vn slices_S512x512_o256_384_S128x128
def b30 (vn : S512x512.Idx → EReal) : S128x128.Idx → EReal := extractStridedSlice S128x128 ![384, 0] vn slices_S512x512_o384_0_S128x128
def b31 (vn : S512x512.Idx → EReal) : S128x128.Idx → EReal := extractStridedSlice S128x128 ![384, 128] vn slices_S512x512_o384_128_S128x128
def b32 (vn : S512x512.Idx → EReal) : S128x128.Idx → EReal := extractStridedSlice S128x128 ![384, 256] vn slices_S512x512_o384_256_S128x128
def b33 (vn : S512x512.Idx → EReal) : S128x128.Idx → EReal := extractStridedSlice S128x128 ![384, 384] vn slices_S512x512_o384_384_S128x128

theorem b00_at (vn : S512x512.Idx → EReal) (j col : Fin 128) : b00 vn (ix2 j col) = vn (ix2 (⟨j.val, by omega⟩ : Fin 512) (⟨col.val, by omega⟩ : Fin 512)) := by
  pointwise [b00]
theorem b01_at (vn : S512x512.Idx → EReal) (j col : Fin 128) : b01 vn (ix2 j col) = vn (ix2 (⟨j.val, by omega⟩ : Fin 512) (⟨128 + col.val, by omega⟩ : Fin 512)) := by
  pointwise [b01]
theorem b02_at (vn : S512x512.Idx → EReal) (j col : Fin 128) : b02 vn (ix2 j col) = vn (ix2 (⟨j.val, by omega⟩ : Fin 512) (⟨256 + col.val, by omega⟩ : Fin 512)) := by
  pointwise [b02]
theorem b03_at (vn : S512x512.Idx → EReal) (j col : Fin 128) : b03 vn (ix2 j col) = vn (ix2 (⟨j.val, by omega⟩ : Fin 512) (⟨384 + col.val, by omega⟩ : Fin 512)) := by
  pointwise [b03]
theorem b10_at (vn : S512x512.Idx → EReal) (j col : Fin 128) : b10 vn (ix2 j col) = vn (ix2 (⟨128 + j.val, by omega⟩ : Fin 512) (⟨col.val, by omega⟩ : Fin 512)) := by
  pointwise [b10]
theorem b11_at (vn : S512x512.Idx → EReal) (j col : Fin 128) : b11 vn (ix2 j col) = vn (ix2 (⟨128 + j.val, by omega⟩ : Fin 512) (⟨128 + col.val, by omega⟩ : Fin 512)) := by
  pointwise [b11]
theorem b12_at (vn : S512x512.Idx → EReal) (j col : Fin 128) : b12 vn (ix2 j col) = vn (ix2 (⟨128 + j.val, by omega⟩ : Fin 512) (⟨256 + col.val, by omega⟩ : Fin 512)) := by
  pointwise [b12]
theorem b13_at (vn : S512x512.Idx → EReal) (j col : Fin 128) : b13 vn (ix2 j col) = vn (ix2 (⟨128 + j.val, by omega⟩ : Fin 512) (⟨384 + col.val, by omega⟩ : Fin 512)) := by
  pointwise [b13]
theorem b20_at (vn : S512x512.Idx → EReal) (j col : Fin 128) : b20 vn (ix2 j col) = vn (ix2 (⟨256 + j.val, by omega⟩ : Fin 512) (⟨col.val, by omega⟩ : Fin 512)) := by
  pointwise [b20]
theorem b21_at (vn : S512x512.Idx → EReal) (j col : Fin 128) : b21 vn (ix2 j col) = vn (ix2 (⟨256 + j.val, by omega⟩ : Fin 512) (⟨128 + col.val, by omega⟩ : Fin 512)) := by
  pointwise [b21]
theorem b22_at (vn : S512x512.Idx → EReal) (j col : Fin 128) : b22 vn (ix2 j col) = vn (ix2 (⟨256 + j.val, by omega⟩ : Fin 512) (⟨256 + col.val, by omega⟩ : Fin 512)) := by
  pointwise [b22]
theorem b23_at (vn : S512x512.Idx → EReal) (j col : Fin 128) : b23 vn (ix2 j col) = vn (ix2 (⟨256 + j.val, by omega⟩ : Fin 512) (⟨384 + col.val, by omega⟩ : Fin 512)) := by
  pointwise [b23]
theorem b30_at (vn : S512x512.Idx → EReal) (j col : Fin 128) : b30 vn (ix2 j col) = vn (ix2 (⟨384 + j.val, by omega⟩ : Fin 512) (⟨col.val, by omega⟩ : Fin 512)) := by
  pointwise [b30]
theorem b31_at (vn : S512x512.Idx → EReal) (j col : Fin 128) : b31 vn (ix2 j col) = vn (ix2 (⟨384 + j.val, by omega⟩ : Fin 512) (⟨128 + col.val, by omega⟩ : Fin 512)) := by
  pointwise [b31]
theorem b32_at (vn : S512x512.Idx → EReal) (j col : Fin 128) : b32 vn (ix2 j col) = vn (ix2 (⟨384 + j.val, by omega⟩ : Fin 512) (⟨256 + col.val, by omega⟩ : Fin 512)) := by
  pointwise [b32]
theorem b33_at (vn : S512x512.Idx → EReal) (j col : Fin 128) : b33 vn (ix2 j col) = vn (ix2 (⟨384 + j.val, by omega⟩ : Fin 512) (⟨384 + col.val, by omega⟩ : Fin 512)) := by
  pointwise [b33]

/-- The mix of the normed rows over their chunks of 128, of 512 rows. -/
def mix (vn : S512x512.Idx → EReal) (w0 w1 w2 w3 : S1x128x256.Idx → EReal) (s : S128x512.Idx → EReal) : S512x512.Idx → EReal :=
  pile
    (band (left (b00 vn) (b10 vn) w0) (left (b01 vn) (b11 vn) w1) (left (b02 vn) (b12 vn) w2) (left (b03 vn) (b13 vn) w3) s)
    (band (right (b00 vn) (b10 vn) w0) (right (b01 vn) (b11 vn) w1) (right (b02 vn) (b12 vn) w2) (right (b03 vn) (b13 vn) w3) s)
    (band (left (b20 vn) (b30 vn) w0) (left (b21 vn) (b31 vn) w1) (left (b22 vn) (b32 vn) w2) (left (b23 vn) (b33 vn) w3) s)
    (band (right (b20 vn) (b30 vn) w0) (right (b21 vn) (b31 vn) w1) (right (b22 vn) (b32 vn) w2) (right (b23 vn) (b33 vn) w3) s)

/-- The mix of column `e` over the `c`-th chunk, at the chunk's row `i`. -/
def mixOf (W : Fin 4 → Fin 128 → Fin 256 → EReal) (vn : S512x512.Idx → EReal) (c : Fin 4) (i : Fin 128) (e : Fin 512) : EReal :=
  ∑ j : Fin 128, W ⟨e.val / 128, by omega⟩ i (grp ⟨e.val % 128, by omega⟩ j) * vn (ix2 (⟨128 * c.val + j.val, by omega⟩ : Fin 512) e)

theorem mixOf_eq (W : Fin 4 → Fin 128 → Fin 256 → EReal) (vn : S512x512.Idx → EReal) (c : Fin 4) (i : Fin 128) (e : Fin 512) (p : Fin 4) (col : Fin 128) (he : e.val = 128 * p.val + col.val)
    (w : S1x128x256.Idx → EReal) (hw : ∀ i k, w (ix3 0 i k) = W p i k) (b : S128x128.Idx → EReal) (hb : ∀ j, b (ix2 j col) = vn (ix2 (⟨128 * c.val + j.val, by omega⟩ : Fin 512) e)) :
    ∑ j : Fin 128, w (ix3 0 i (grp col j)) * b (ix2 j col) = mixOf W vn c i e := by
  have q : (⟨e.val / 128, by omega⟩ : Fin 4) = p := Fin.ext (by show e.val / 128 = p.val; omega)
  have q' : (⟨e.val % 128, by omega⟩ : Fin 128) = col := Fin.ext (by show e.val % 128 = col.val; omega)
  rw [mixOf, q, q']
  exact Finset.sum_congr rfl fun j _ => by rw [hw, hb]

/-- The mix, read at an entry. -/
theorem mix_at (vn : S512x512.Idx → EReal) (w0 w1 w2 w3 : S1x128x256.Idx → EReal) (s : S128x512.Idx → EReal) (W : Fin 4 → Fin 128 → Fin 256 → EReal)
    (g0 : ∀ i k, w0 (ix3 0 i k) = W 0 i k) (g1 : ∀ i k, w1 (ix3 0 i k) = W 1 i k) (g2 : ∀ i k, w2 (ix3 0 i k) = W 2 i k) (g3 : ∀ i k, w3 (ix3 0 i k) = W 3 i k) (r e : Fin 512) :
    mix vn w0 w1 w2 w3 s (ix2 r e) = mixOf W vn ⟨r.val / 128, by omega⟩ ⟨r.val % 128, by omega⟩ e + s (ix2 (⟨r.val % 128, by omega⟩ : Fin 128) e) := by
  refine pile_at _ _ _ _ (fun r e => mixOf W vn ⟨r.val / 128, by omega⟩ ⟨r.val % 128, by omega⟩ e + s (ix2 (⟨r.val % 128, by omega⟩ : Fin 128) e)) ?_ ?_ ?_ ?_ r e
  · intro i e
    refine (band_at _ _ _ _ s (mixOf W vn 0) ?_ ?_ ?_ ?_ i e).trans ?_
    · exact fun i col => (left_at _ _ _ i col).trans (mixOf_eq W vn 0 i _ 0 col (by show col.val = 128 * 0 + col.val; omega) w0 g0 _ fun j => (b00_at vn j col).trans (congrArg (fun t : Fin 512 => vn (ix2 t _)) (Fin.ext (by show j.val = 128 * 0 + j.val; omega))))
    · exact fun i col => (left_at _ _ _ i col).trans (mixOf_eq W vn 0 i _ 1 col (by show 128 + col.val = 128 * 1 + col.val; omega) w1 g1 _ fun j => (b01_at vn j col).trans (congrArg (fun t : Fin 512 => vn (ix2 t _)) (Fin.ext (by show j.val = 128 * 0 + j.val; omega))))
    · exact fun i col => (left_at _ _ _ i col).trans (mixOf_eq W vn 0 i _ 2 col (by show 256 + col.val = 128 * 2 + col.val; omega) w2 g2 _ fun j => (b02_at vn j col).trans (congrArg (fun t : Fin 512 => vn (ix2 t _)) (Fin.ext (by show j.val = 128 * 0 + j.val; omega))))
    · exact fun i col => (left_at _ _ _ i col).trans (mixOf_eq W vn 0 i _ 3 col (by show 384 + col.val = 128 * 3 + col.val; omega) w3 g3 _ fun j => (b03_at vn j col).trans (congrArg (fun t : Fin 512 => vn (ix2 t _)) (Fin.ext (by show j.val = 128 * 0 + j.val; omega))))
    · have q : (⟨i.val / 128, by omega⟩ : Fin 4) = 0 := Fin.ext (by show i.val / 128 = 0; omega)
      have q' : (⟨i.val % 128, by omega⟩ : Fin 128) = i := Fin.ext (by show i.val % 128 = i.val; omega)
      show _ = mixOf W vn ⟨i.val / 128, by omega⟩ ⟨i.val % 128, by omega⟩ e + s (ix2 (⟨i.val % 128, by omega⟩ : Fin 128) e)
      rw [q, q']
  · intro i e
    refine (band_at _ _ _ _ s (mixOf W vn 1) ?_ ?_ ?_ ?_ i e).trans ?_
    · exact fun i col => (right_at _ _ _ i col).trans (mixOf_eq W vn 1 i _ 0 col (by show col.val = 128 * 0 + col.val; omega) w0 g0 _ fun j => (b10_at vn j col).trans (congrArg (fun t : Fin 512 => vn (ix2 t _)) (Fin.ext (by show 128 + j.val = 128 * 1 + j.val; omega))))
    · exact fun i col => (right_at _ _ _ i col).trans (mixOf_eq W vn 1 i _ 1 col (by show 128 + col.val = 128 * 1 + col.val; omega) w1 g1 _ fun j => (b11_at vn j col).trans (congrArg (fun t : Fin 512 => vn (ix2 t _)) (Fin.ext (by show 128 + j.val = 128 * 1 + j.val; omega))))
    · exact fun i col => (right_at _ _ _ i col).trans (mixOf_eq W vn 1 i _ 2 col (by show 256 + col.val = 128 * 2 + col.val; omega) w2 g2 _ fun j => (b12_at vn j col).trans (congrArg (fun t : Fin 512 => vn (ix2 t _)) (Fin.ext (by show 128 + j.val = 128 * 1 + j.val; omega))))
    · exact fun i col => (right_at _ _ _ i col).trans (mixOf_eq W vn 1 i _ 3 col (by show 384 + col.val = 128 * 3 + col.val; omega) w3 g3 _ fun j => (b13_at vn j col).trans (congrArg (fun t : Fin 512 => vn (ix2 t _)) (Fin.ext (by show 128 + j.val = 128 * 1 + j.val; omega))))
    · have q : (⟨(128 + i.val) / 128, by omega⟩ : Fin 4) = 1 := Fin.ext (by show (128 + i.val) / 128 = 1; omega)
      have q' : (⟨(128 + i.val) % 128, by omega⟩ : Fin 128) = i := Fin.ext (by show (128 + i.val) % 128 = i.val; omega)
      show _ = mixOf W vn ⟨(128 + i.val) / 128, by omega⟩ ⟨(128 + i.val) % 128, by omega⟩ e + s (ix2 (⟨(128 + i.val) % 128, by omega⟩ : Fin 128) e)
      rw [q, q']
  · intro i e
    refine (band_at _ _ _ _ s (mixOf W vn 2) ?_ ?_ ?_ ?_ i e).trans ?_
    · exact fun i col => (left_at _ _ _ i col).trans (mixOf_eq W vn 2 i _ 0 col (by show col.val = 128 * 0 + col.val; omega) w0 g0 _ fun j => (b20_at vn j col).trans (congrArg (fun t : Fin 512 => vn (ix2 t _)) (Fin.ext (by show 256 + j.val = 128 * 2 + j.val; omega))))
    · exact fun i col => (left_at _ _ _ i col).trans (mixOf_eq W vn 2 i _ 1 col (by show 128 + col.val = 128 * 1 + col.val; omega) w1 g1 _ fun j => (b21_at vn j col).trans (congrArg (fun t : Fin 512 => vn (ix2 t _)) (Fin.ext (by show 256 + j.val = 128 * 2 + j.val; omega))))
    · exact fun i col => (left_at _ _ _ i col).trans (mixOf_eq W vn 2 i _ 2 col (by show 256 + col.val = 128 * 2 + col.val; omega) w2 g2 _ fun j => (b22_at vn j col).trans (congrArg (fun t : Fin 512 => vn (ix2 t _)) (Fin.ext (by show 256 + j.val = 128 * 2 + j.val; omega))))
    · exact fun i col => (left_at _ _ _ i col).trans (mixOf_eq W vn 2 i _ 3 col (by show 384 + col.val = 128 * 3 + col.val; omega) w3 g3 _ fun j => (b23_at vn j col).trans (congrArg (fun t : Fin 512 => vn (ix2 t _)) (Fin.ext (by show 256 + j.val = 128 * 2 + j.val; omega))))
    · have q : (⟨(256 + i.val) / 128, by omega⟩ : Fin 4) = 2 := Fin.ext (by show (256 + i.val) / 128 = 2; omega)
      have q' : (⟨(256 + i.val) % 128, by omega⟩ : Fin 128) = i := Fin.ext (by show (256 + i.val) % 128 = i.val; omega)
      show _ = mixOf W vn ⟨(256 + i.val) / 128, by omega⟩ ⟨(256 + i.val) % 128, by omega⟩ e + s (ix2 (⟨(256 + i.val) % 128, by omega⟩ : Fin 128) e)
      rw [q, q']
  · intro i e
    refine (band_at _ _ _ _ s (mixOf W vn 3) ?_ ?_ ?_ ?_ i e).trans ?_
    · exact fun i col => (right_at _ _ _ i col).trans (mixOf_eq W vn 3 i _ 0 col (by show col.val = 128 * 0 + col.val; omega) w0 g0 _ fun j => (b30_at vn j col).trans (congrArg (fun t : Fin 512 => vn (ix2 t _)) (Fin.ext (by show 384 + j.val = 128 * 3 + j.val; omega))))
    · exact fun i col => (right_at _ _ _ i col).trans (mixOf_eq W vn 3 i _ 1 col (by show 128 + col.val = 128 * 1 + col.val; omega) w1 g1 _ fun j => (b31_at vn j col).trans (congrArg (fun t : Fin 512 => vn (ix2 t _)) (Fin.ext (by show 384 + j.val = 128 * 3 + j.val; omega))))
    · exact fun i col => (right_at _ _ _ i col).trans (mixOf_eq W vn 3 i _ 2 col (by show 256 + col.val = 128 * 2 + col.val; omega) w2 g2 _ fun j => (b32_at vn j col).trans (congrArg (fun t : Fin 512 => vn (ix2 t _)) (Fin.ext (by show 384 + j.val = 128 * 3 + j.val; omega))))
    · exact fun i col => (right_at _ _ _ i col).trans (mixOf_eq W vn 3 i _ 3 col (by show 384 + col.val = 128 * 3 + col.val; omega) w3 g3 _ fun j => (b33_at vn j col).trans (congrArg (fun t : Fin 512 => vn (ix2 t _)) (Fin.ext (by show 384 + j.val = 128 * 3 + j.val; omega))))
    · have q : (⟨(384 + i.val) / 128, by omega⟩ : Fin 4) = 3 := Fin.ext (by show (384 + i.val) / 128 = 3; omega)
      have q' : (⟨(384 + i.val) % 128, by omega⟩ : Fin 128) = i := Fin.ext (by show (384 + i.val) % 128 = i.val; omega)
      show _ = mixOf W vn ⟨(384 + i.val) / 128, by omega⟩ ⟨(384 + i.val) % 128, by omega⟩ e + s (ix2 (⟨(384 + i.val) % 128, by omega⟩ : Fin 128) e)
      rw [q, q']

end Cert.Kernel3Ideal.In

end
-- ==== Proof.InYa.lean ====
module

public import proofs.«01_k».proof.Proof.InMix

@[expose] public section

set_option maxRecDepth 16384

noncomputable section

namespace Cert.Kernel3Ideal.In

open Idealize.ShloMosaic Idealize.ShloMosaic.TcCoe Idealize.SL.Sem
open Cert.Kernel3Ideal Cert.Kernel3Ideal.Gen Cert.RowPure Cert.InPure

/-- The gated mixer's 512 rows, from the rows, the gain and the weights. -/
def ya (x : S512x1024.Idx → EReal) (g : S1x1024.Idx → EReal) (w : S1024x2048.Idx → EReal) (a b : S1x512.Idx → EReal) (w0 w1 w2 w3 : S1x128x256.Idx → EReal) (s : S128x512.Idx → EReal) : S512x512.Idx → EReal :=
  k0_pay66 (F := Ideal) (k0_pay37 (F := Ideal) (k0_pay2 (F := Ideal) x g) w)
    (mulf (F := Ideal) (φ := .f32) (k0_pay36 (F := Ideal) (k0_pay2 (F := Ideal) x g) w) (mix (k0_pay40 (F := Ideal) (k0_pay39 (F := Ideal) (k0_pay2 (F := Ideal) x g) w a) b) w0 w1 w2 w3 s))

theorem ya_at (x : S512x1024.Idx → EReal) (g : S1x1024.Idx → EReal) (w : S1024x2048.Idx → EReal) (a b : S1x512.Idx → EReal) (w0 w1 w2 w3 : S1x128x256.Idx → EReal) (s : S128x512.Idx → EReal)
    (W : Fin 4 → Fin 128 → Fin 256 → EReal) (g0 : ∀ i k, w0 (ix3 0 i k) = W 0 i k) (g1 : ∀ i k, w1 (ix3 0 i k) = W 1 i k) (g2 : ∀ i k, w2 (ix3 0 i k) = W 2 i k) (g3 : ∀ i k, w3 (ix3 0 i k) = W 3 i k) (r e : Fin 512) :
    ya x g w a b w0 w1 w2 w3 s (ix2 r e)
      = mixed (prj (hrow (fun k => x (ix2 r k)) (fun k => g (ix2 0 k))) (fun k => w (ix2 k (⟨e.val, by omega⟩ : Fin 2048))))
          (fun j e => prj (hrow (fun k => x (ix2 (⟨128 * (r.val / 128) + j.val, by omega⟩ : Fin 512) k)) (fun k => g (ix2 0 k))) (fun k => w (ix2 k (⟨512 + e.val, by omega⟩ : Fin 2048))))
          (fun e => a (ix2 0 e)) (fun e => b (ix2 0 e)) (fun j => W ⟨e.val / 128, by omega⟩ ⟨r.val % 128, by omega⟩ (grp ⟨e.val % 128, by omega⟩ j)) (s (ix2 (⟨r.val % 128, by omega⟩ : Fin 128) e)) e
        * gateT (prj (hrow (fun k => x (ix2 r k)) (fun k => g (ix2 0 k))) (fun k => w (ix2 k (⟨1024 + e.val, by omega⟩ : Fin 2048)))) := by
  have e1 : ya x g w a b w0 w1 w2 w3 s (ix2 r e) = k0_pay36 (F := Ideal) (k0_pay2 (F := Ideal) x g) w (ix2 r e) * mix (k0_pay40 (F := Ideal) (k0_pay39 (F := Ideal) (k0_pay2 (F := Ideal) x g) w a) b) w0 w1 w2 w3 s (ix2 r e)
      * gateT (k0_pay37 (F := Ideal) (k0_pay2 (F := Ideal) x g) w (ix2 r e)) := rfl
  rw [e1, u_at, ga_at, mix_at _ w0 w1 w2 w3 s W g0 g1 g2 g3]
  simp only [mixOf, vn_at, h_at]
  rfl

theorem ya_low (x0 : Vec Ideal S1024x1024 .f32) (x1 : Vec Ideal S1x1024 .f32) (x2 : Vec Ideal S1024x2048 .bf16) (x3 : Vec Ideal S768x1024 .bf16) (x4 : Vec Ideal S1x512 .f32) (x5 : Vec Ideal S1x512 .f32) (x6 : Vec Ideal S4x128x256 .bf16) (x7 : Vec Ideal S128x512 .f32) (x8 : Vec Ideal S64x128 .f32) (x9 : Vec Ideal S64x128 .f32) (x10 : Vec Ideal S32x1024 .f32) (x11 : Vec Ideal S32x1024 .f32) :
    ((k0_pay66 (k0_pay37 (k0_pay131 x0 x1 x2 x3 x4 x5 x6 x7 x8 x9 x10 x11) (View.ld x2 r0_16)) (k0_pay65 (k0_pay36 (k0_pay131 x0 x1 x2 x3 x4 x5 x6 x7 x8 x9 x10 x11) (View.ld x2 r0_16)) (k0_pay142 x0 x1 x2 x3 x4 x5 x6 x7 x8 x9 x10 x11) (k0_pay143 x0 x1 x2 x3 x4 x5 x6 x7 x8 x9 x10 x11) (k0_pay144 x0 x1 x2 x3 x4 x5 x6 x7 x8 x9 x10 x11) (k0_pay44 (k0_pay141 x0 x1 x2 x3 x4 x5 x6 x7 x8 x9 x10 x11) (View.ld x5 r0_18) (View.ld x6 r0_19)) (k0_pay45 (k0_pay141 x0 x1 x2 x3 x4 x5 x6 x7 x8 x9 x10 x11) (View.ld x5 r0_18) (View.ld x6 r0_19)) (k0_pay47 (k0_pay141 x0 x1 x2 x3 x4 x5 x6 x7 x8 x9 x10 x11) (View.ld x5 r0_18) (View.ld x6 r0_20)) (k0_pay48 (k0_pay141 x0 x1 x2 x3 x4 x5 x6 x7 x8 x9 x10 x11) (View.ld x5 r0_18) (View.ld x6 r0_20)) (k0_pay52 (k0_pay145 x0 x1 x2 x3 x4 x5 x6 x7 x8 x9 x10 x11) (k0_pay146 x0 x1 x2 x3 x4 x5 x6 x7 x8 x9 x10 x11)) (k0_pay53 (k0_pay145 x0 x1 x2 x3 x4 x5 x6 x7 x8 x9 x10 x11) (k0_pay146 x0 x1 x2 x3 x4 x5 x6 x7 x8 x9 x10 x11)) (k0_pay55 (k0_pay142 x0 x1 x2 x3 x4 x5 x6 x7 x8 x9 x10 x11) (k0_pay143 x0 x1 x2 x3 x4 x5 x6 x7 x8 x9 x10 x11) (k0_pay144 x0 x1 x2 x3 x4 x5 x6 x7 x8 x9 x10 x11) (View.ld x6 r0_22)) (k0_pay56 (k0_pay142 x0 x1 x2 x3 x4 x5 x6 x7 x8 x9 x10 x11) (k0_pay143 x0 x1 x2 x3 x4 x5 x6 x7 x8 x9 x10 x11) (k0_pay144 x0 x1 x2 x3 x4 x5 x6 x7 x8 x9 x10 x11) (View.ld x6 r0_22)) (k0_pay58 (k0_pay142 x0 x1 x2 x3 x4 x5 x6 x7 x8 x9 x10 x11) (k0_pay143 x0 x1 x2 x3 x4 x5 x6 x7 x8 x9 x10 x11) (k0_pay144 x0 x1 x2 x3 x4 x5 x6 x7 x8 x9 x10 x11) (View.ld x6 r0_19)) (k0_pay59 (k0_pay142 x0 x1 x2 x3 x4 x5 x6 x7 x8 x9 x10 x11) (k0_pay143 x0 x1 x2 x3 x4 x5 x6 x7 x8 x9 x10 x11) (k0_pay144 x0 x1 x2 x3 x4 x5 x6 x7 x8 x9 x10 x11) (View.ld x6 r0_19)) (k0_pay61 (k0_pay142 x0 x1 x2 x3 x4 x5 x6 x7 x8 x9 x10 x11) (k0_pay143 x0 x1 x2 x3 x4 x5 x6 x7 x8 x9 x10 x11) (k0_pay144 x0 x1 x2 x3 x4 x5 x6 x7 x8 x9 x10 x11) (View.ld x6 r0_20)) (k0_pay62 (k0_pay142 x0 x1 x2 x3 x4 x5 x6 x7 x8 x9 x10 x11) (k0_pay143 x0 x1 x2 x3 x4 x5 x6 x7 x8 x9 x10 x11) (k0_pay144 x0 x1 x2 x3 x4 x5 x6 x7 x8 x9 x10 x11) (View.ld x6 r0_20)) (k0_pay63 (k0_pay142 x0 x1 x2 x3 x4 x5 x6 x7 x8 x9 x10 x11)) (k0_pay64 (k0_pay142 x0 x1 x2 x3 x4 x5 x6 x7 x8 x9 x10 x11) (k0_pay143 x0 x1 x2 x3 x4 x5 x6 x7 x8 x9 x10 x11) (k0_pay144 x0 x1 x2 x3 x4 x5 x6 x7 x8 x9 x10 x11)) (View.ld x6 r0_21) (View.ld x6 r0_22) (View.ld x7 r0_23) (View.ld x7 r0_23) (View.ld x7 r0_23) (View.ld x7 r0_23))) : FVec Ideal S512x512 .bf16) = ya (View.ld x0 r0_0) (View.ld x1 r0_1) (View.ld x2 r0_16) (View.ld x4 r0_18) (View.ld x5 r0_18) (View.ld x6 r0_19) (View.ld x6 r0_20) (View.ld x6 r0_21) (View.ld x6 r0_22) (View.ld x7 r0_23) := rfl

theorem ya_high (x0 : Vec Ideal S1024x1024 .f32) (x1 : Vec Ideal S1x1024 .f32) (x2 : Vec Ideal S1024x2048 .bf16) (x3 : Vec Ideal S768x1024 .bf16) (x4 : Vec Ideal S1x512 .f32) (x5 : Vec Ideal S1x512 .f32) (x6 : Vec Ideal S4x128x256 .bf16) (x7 : Vec Ideal S128x512 .f32) (x8 : Vec Ideal S64x128 .f32) (x9 : Vec Ideal S64x128 .f32) (x10 : Vec Ideal S32x1024 .f32) (x11 : Vec Ideal S32x1024 .f32) :
    ((k0_pay1 (k0_pay94 (k0_pay147 x0 x1 x2 x3 x4 x5 x6 x7 x8 x9 x10 x11) (View.ld x2 r0_16)) (k0_pay95 (k0_pay147 x0 x1 x2 x3 x4 x5 x6 x7 x8 x9 x10 x11) (View.ld x2 r0_16)) (k0_pay119 (k0_pay157 x0 x1 x2 x3 x4 x5 x6 x7 x8 x9 x10 x11) (k0_pay158 x0 x1 x2 x3 x4 x5 x6 x7 x8 x9 x10 x11) (k0_pay159 x0 x1 x2 x3 x4 x5 x6 x7 x8 x9 x10 x11) (View.ld x6 r0_19)) (k0_pay123 (k0_pay162 x0 x1 x2 x3 x4 x5 x6 x7 x8 x9 x10 x11) (k0_pay163 x0 x1 x2 x3 x4 x5 x6 x7 x8 x9 x10 x11) (View.ld x6 r0_20)) (k0_pay125 (k0_pay157 x0 x1 x2 x3 x4 x5 x6 x7 x8 x9 x10 x11) (k0_pay158 x0 x1 x2 x3 x4 x5 x6 x7 x8 x9 x10 x11) (k0_pay159 x0 x1 x2 x3 x4 x5 x6 x7 x8 x9 x10 x11) (View.ld x6 r0_21)) (k0_pay127 (k0_pay157 x0 x1 x2 x3 x4 x5 x6 x7 x8 x9 x10 x11) (k0_pay158 x0 x1 x2 x3 x4 x5 x6 x7 x8 x9 x10 x11) (k0_pay159 x0 x1 x2 x3 x4 x5 x6 x7 x8 x9 x10 x11) (View.ld x6 r0_22)) (k0_pay128 (k0_pay103 (k0_pay155 x0 x1 x2 x3 x4 x5 x6 x7 x8 x9 x10 x11) (k0_pay156 x0 x1 x2 x3 x4 x5 x6 x7 x8 x9 x10 x11) (View.ld x4 r0_18) (View.ld x5 r0_18) (View.ld x6 r0_19)) (k0_pay106 (k0_pay155 x0 x1 x2 x3 x4 x5 x6 x7 x8 x9 x10 x11) (k0_pay156 x0 x1 x2 x3 x4 x5 x6 x7 x8 x9 x10 x11) (View.ld x4 r0_18) (View.ld x5 r0_18) (View.ld x6 r0_20)) (k0_pay112 (k0_pay157 x0 x1 x2 x3 x4 x5 x6 x7 x8 x9 x10 x11) (k0_pay158 x0 x1 x2 x3 x4 x5 x6 x7 x8 x9 x10 x11) (k0_pay159 x0 x1 x2 x3 x4 x5 x6 x7 x8 x9 x10 x11) (k0_pay160 x0 x1 x2 x3 x4 x5 x6 x7 x8 x9 x10 x11) (k0_pay161 x0 x1 x2 x3 x4 x5 x6 x7 x8 x9 x10 x11) (View.ld x6 r0_21)) (k0_pay115 (k0_pay157 x0 x1 x2 x3 x4 x5 x6 x7 x8 x9 x10 x11) (k0_pay158 x0 x1 x2 x3 x4 x5 x6 x7 x8 x9 x10 x11) (k0_pay159 x0 x1 x2 x3 x4 x5 x6 x7 x8 x9 x10 x11) (View.ld x6 r0_22)) (View.ld x7 r0_23)) (k0_pay129 (k0_pay104 (k0_pay155 x0 x1 x2 x3 x4 x5 x6 x7 x8 x9 x10 x11) (k0_pay156 x0 x1 x2 x3 x4 x5 x6 x7 x8 x9 x10 x11) (View.ld x4 r0_18) (View.ld x5 r0_18) (View.ld x6 r0_19)) (k0_pay107 (k0_pay155 x0 x1 x2 x3 x4 x5 x6 x7 x8 x9 x10 x11) (k0_pay156 x0 x1 x2 x3 x4 x5 x6 x7 x8 x9 x10 x11) (View.ld x4 r0_18) (View.ld x5 r0_18) (View.ld x6 r0_20)) (k0_pay113 (k0_pay157 x0 x1 x2 x3 x4 x5 x6 x7 x8 x9 x10 x11) (k0_pay158 x0 x1 x2 x3 x4 x5 x6 x7 x8 x9 x10 x11) (k0_pay159 x0 x1 x2 x3 x4 x5 x6 x7 x8 x9 x10 x11) (k0_pay160 x0 x1 x2 x3 x4 x5 x6 x7 x8 x9 x10 x11) (k0_pay161 x0 x1 x2 x3 x4 x5 x6 x7 x8 x9 x10 x11) (View.ld x6 r0_21)) (k0_pay116 (k0_pay157 x0 x1 x2 x3 x4 x5 x6 x7 x8 x9 x10 x11) (k0_pay158 x0 x1 x2 x3 x4 x5 x6 x7 x8 x9 x10 x11) (k0_pay159 x0 x1 x2 x3 x4 x5 x6 x7 x8 x9 x10 x11) (View.ld x6 r0_22)) (View.ld x7 r0_23)) (k0_pay130 (k0_pay157 x0 x1 x2 x3 x4 x5 x6 x7 x8 x9 x10 x11) (k0_pay158 x0 x1 x2 x3 x4 x5 x6 x7 x8 x9 x10 x11) (k0_pay159 x0 x1 x2 x3 x4 x5 x6 x7 x8 x9 x10 x11) (k0_pay118 (k0_pay157 x0 x1 x2 x3 x4 x5 x6 x7 x8 x9 x10 x11) (k0_pay158 x0 x1 x2 x3 x4 x5 x6 x7 x8 x9 x10 x11) (k0_pay159 x0 x1 x2 x3 x4 x5 x6 x7 x8 x9 x10 x11) (View.ld x6 r0_19)) (k0_pay162 x0 x1 x2 x3 x4 x5 x6 x7 x8 x9 x10 x11) (k0_pay163 x0 x1 x2 x3 x4 x5 x6 x7 x8 x9 x10 x11) (View.ld x6 r0_20) (View.ld x6 r0_21) (View.ld x6 r0_22)) (View.ld x7 r0_23) (View.ld x7 r0_23)) : FVec Ideal S512x512 .bf16) = ya (View.ld x0 r0_24) (View.ld x1 r0_1) (View.ld x2 r0_16) (View.ld x4 r0_18) (View.ld x5 r0_18) (View.ld x6 r0_19) (View.ld x6 r0_20) (View.ld x6 r0_21) (View.ld x6 r0_22) (View.ld x7 r0_23) := rfl

end Cert.Kernel3Ideal.In

end
-- ==== Proof.InKey.lean ====
module

public import proofs.«01_k».proof.Proof.InTile

@[expose] public section

set_option maxRecDepth 16384

noncomputable section

namespace Cert.Kernel3Ideal.In

open Idealize.ShloMosaic Idealize.ShloMosaic.TcCoe Idealize.SL.Sem
open Cert.Kernel3Ideal Cert.Kernel3Ideal.Gen Cert.RowPure Cert.InPure

/-- A product of the rows with the columns kept transposed, read at an entry. -/
theorem t_at (x : S512x1024.Idx → EReal) (g : S1x1024.Idx → EReal) (w : S768x1024.Idx → EReal) (j : Fin 768) (r : Fin 512) :
    (k0_pay3 (F := Ideal) x g w : S768x512.Idx → EReal) (ix2 j r) = prj (hrow (fun k => x (ix2 r k)) (fun k => g (ix2 0 k))) (fun k => w (ix2 j k)) := by
  have e : (k0_pay3 (F := Ideal) x g w : S768x512.Idx → EReal) (ix2 j r) = ∑ k, w (ix2 j k) * k0_pay2 (F := Ideal) x g (ix2 r k) := by
    pointwise [k0_pay3]
  rw [e]
  exact Finset.sum_congr rfl fun k _ => by rw [h_at, mul_comm]

/-- Four copies of 128 entries side by side, read at an entry. -/
theorem fold4 (f : Fin 128 → EReal) (r : Fin 512) :
    (if h : r.val < 128 then f ⟨r.val, h⟩ else if h : r.val - 128 < 128 then f ⟨r.val - 128, h⟩ else if h : r.val - 128 - 128 < 128 then f ⟨r.val - 128 - 128, h⟩ else f ⟨r.val - 128 - 128 - 128, by omega⟩)
      = f ⟨r.val % 128, by omega⟩ := by
  split
  · exact congrArg f (Fin.ext (by show r.val = r.val % 128; omega))
  · split
    · exact congrArg f (Fin.ext (by show r.val - 128 = r.val % 128; omega))
    · split
      · exact congrArg f (Fin.ext (by show r.val - 128 - 128 = r.val % 128; omega))
      · exact congrArg f (Fin.ext (by show r.val - 128 - 128 - 128 = r.val % 128; omega))

/-- The four quarters of a turned row side by side, read at an entry. -/
theorem chain4 (t : Fin 64 → EReal) (c s : Fin 32 → EReal) (d : Fin 64) :
    (if h : d.val < 16 then t ⟨d.val, by omega⟩ * c ⟨d.val, by omega⟩ - t ⟨16 + d.val, by omega⟩ * s ⟨d.val, by omega⟩
      else if h : d.val - 16 < 16 then t ⟨16 + (d.val - 16), by omega⟩ * c ⟨d.val - 16, by omega⟩ + t ⟨d.val - 16, by omega⟩ * s ⟨d.val - 16, by omega⟩
      else if h : d.val - 16 - 16 < 16 then t ⟨32 + (d.val - 16 - 16), by omega⟩ * c ⟨16 + (d.val - 16 - 16), by omega⟩ - t ⟨48 + (d.val - 16 - 16), by omega⟩ * s ⟨16 + (d.val - 16 - 16), by omega⟩
      else t ⟨48 + (d.val - 16 - 16 - 16), by omega⟩ * c ⟨16 + (d.val - 16 - 16 - 16), by omega⟩ + t ⟨32 + (d.val - 16 - 16 - 16), by omega⟩ * s ⟨16 + (d.val - 16 - 16 - 16), by omega⟩)
      = turned t c s d := by
  unfold turned
  have b := d.isLt
  by_cases q : d.val < 16
  · simp only [q, dite_true]
  · have q' : (d.val - 16 < 16) ↔ d.val < 32 := by omega
    have q'' : (d.val - 16 - 16 < 16) ↔ d.val < 48 := by omega
    simp only [q, dite_false, q', q'']
    by_cases q1 : d.val < 32
    · have o : 16 + (d.val - 16) = d.val := by omega
      simp only [q1, dite_true, o]
    · simp only [q1, dite_false]
      by_cases q2 : d.val < 48
      · have o1 : 32 + (d.val - 16 - 16) = d.val := by omega
        have o2 : 48 + (d.val - 16 - 16) = 16 + d.val := by omega
        have o3 : 16 + (d.val - 16 - 16) = d.val - 16 := by omega
        simp only [q2, dite_true, o1, o2, o3]
      · have o1 : 48 + (d.val - 16 - 16 - 16) = d.val := by omega
        have o2 : 32 + (d.val - 16 - 16 - 16) = d.val - 16 := by omega
        have o3 : 16 + (d.val - 16 - 16 - 16) = d.val - 32 := by omega
        simp only [q2, dite_false, o1, o2, o3]

/-- A key head's column normed, read at an entry. -/
theorem kn_at (p : S768x512.Idx → EReal) (g : S64x128.Idx → EReal) (hd : Fin 2) (d : Fin 64) (r : Fin 512) :
    (k0_pay27 (F := Ideal) p (k0_pay7 (F := Ideal) g) : S2x64x512.Idx → EReal) (ix3 hd d r)
      = hnorm (fun d => p (ix2 (⟨512 + (hd.val * 64 + d.val), by omega⟩ : Fin 768) r)) (fun d => g (ix2 d (⟨r.val % 128, by omega⟩ : Fin 128))) d := by
  pointwise [k0_pay27, k0_pay7, hnorm]
  exact congrArg₂ (fun a b : EReal => a * b) rfl (fold4 (fun t => g (ix2 d t)) r)

/-- The turned keys of 512 rows, from the normed ones and the tables. -/
def keyOf (t : S2x64x512.Idx → EReal) (c s : S32x512.Idx → EReal) : S512x128.Idx → EReal :=
  k0_pay30 (F := Ideal) c s t (extractStridedSlice S2x16x512 ![0, 0, 0] t slices_S2x64x512_o0_0_0_S2x16x512) (extractStridedSlice S2x16x512 ![0, 16, 0] t slices_S2x64x512_o0_16_0_S2x16x512)

theorem key_at (t : S2x64x512.Idx → EReal) (c s : S32x512.Idx → EReal) (r : Fin 512) (e : Fin 128) :
    keyOf t c s (ix2 r e) = turned (fun d => t (ix3 (⟨e.val / 64, by omega⟩ : Fin 2) d r)) (fun o => c (ix2 o r)) (fun o => s (ix2 o r)) ⟨e.val % 64, by omega⟩ := by
  pointwise [keyOf, k0_pay30, turned]
  exact chain4 (fun d => t (ix3 (⟨e.val / 64, by omega⟩ : Fin 2) d r)) (fun o => c (ix2 o r)) (fun o => s (ix2 o r)) ⟨e.val % 64, by omega⟩

/-- The keys of 512 rows, from the rows, the gain, the weights and the tables. -/
def ky (x : S512x1024.Idx → EReal) (g : S1x1024.Idx → EReal) (w : S768x1024.Idx → EReal) (kg : S64x128.Idx → EReal) (c s : S32x512.Idx → EReal) : S512x128.Idx → EReal :=
  keyOf (k0_pay27 (F := Ideal) (k0_pay3 (F := Ideal) x g w) (k0_pay7 (F := Ideal) kg)) (k0_pay4 (F := Ideal) c) (k0_pay5 (F := Ideal) s)

theorem ky_at (x : S512x1024.Idx → EReal) (g : S1x1024.Idx → EReal) (w : S768x1024.Idx → EReal) (kg : S64x128.Idx → EReal) (c s : S32x512.Idx → EReal) (r : Fin 512) (e : Fin 128) :
    ky x g w kg c s (ix2 r e)
      = turned (hnorm (fun d => prj (hrow (fun k => x (ix2 r k)) (fun k => g (ix2 0 k))) (fun k => w (ix2 (⟨512 + (e.val / 64 * 64 + d.val), by omega⟩ : Fin 768) k))) (fun d => kg (ix2 d (⟨r.val % 128, by omega⟩ : Fin 128))))
          (fun o => c (ix2 o r)) (fun o => s (ix2 o r)) ⟨e.val % 64, by omega⟩ := by
  have c4 : ∀ o r, k0_pay4 (F := Ideal) c (ix2 o r) = c (ix2 o r) := by intro o r; pointwise [k0_pay4]
  have c5 : ∀ o r, k0_pay5 (F := Ideal) s (ix2 o r) = s (ix2 o r) := by intro o r; pointwise [k0_pay5]
  rw [ky, key_at]
  simp only [c4, c5, kn_at, t_at]

theorem ky_low (x0 : Vec Ideal S1024x1024 .f32) (x1 : Vec Ideal S1x1024 .f32) (x2 : Vec Ideal S1024x2048 .bf16) (x3 : Vec Ideal S768x1024 .bf16) (x4 : Vec Ideal S1x512 .f32) (x5 : Vec Ideal S1x512 .f32) (x6 : Vec Ideal S4x128x256 .bf16) (x7 : Vec Ideal S128x512 .f32) (x8 : Vec Ideal S64x128 .f32) (x9 : Vec Ideal S64x128 .f32) (x10 : Vec Ideal S32x1024 .f32) (x11 : Vec Ideal S32x1024 .f32) :
    ((k0_pay30 (k0_pay133 x0 x1 x2 x3 x4 x5 x6 x7 x8 x9 x10 x11) (k0_pay134 x0 x1 x2 x3 x4 x5 x6 x7 x8 x9 x10 x11) (k0_pay27 (k0_pay132 x0 x1 x2 x3 x4 x5 x6 x7 x8 x9 x10 x11) (k0_pay136 x0 x1 x2 x3 x4 x5 x6 x7 x8 x9 x10 x11)) (k0_pay28 (k0_pay132 x0 x1 x2 x3 x4 x5 x6 x7 x8 x9 x10 x11) (k0_pay136 x0 x1 x2 x3 x4 x5 x6 x7 x8 x9 x10 x11)) (k0_pay29 (k0_pay132 x0 x1 x2 x3 x4 x5 x6 x7 x8 x9 x10 x11) (k0_pay136 x0 x1 x2 x3 x4 x5 x6 x7 x8 x9 x10 x11))) : FVec Ideal S512x128 .bf16) = ky (View.ld x0 r0_0) (View.ld x1 r0_1) (View.ld x3 r0_2) (View.ld x9 r0_4) (View.ld x10 r0_3) (View.ld x11 r0_3) := rfl

theorem ky_high (x0 : Vec Ideal S1024x1024 .f32) (x1 : Vec Ideal S1x1024 .f32) (x2 : Vec Ideal S1024x2048 .bf16) (x3 : Vec Ideal S768x1024 .bf16) (x4 : Vec Ideal S1x512 .f32) (x5 : Vec Ideal S1x512 .f32) (x6 : Vec Ideal S4x128x256 .bf16) (x7 : Vec Ideal S128x512 .f32) (x8 : Vec Ideal S64x128 .f32) (x9 : Vec Ideal S64x128 .f32) (x10 : Vec Ideal S32x1024 .f32) (x11 : Vec Ideal S32x1024 .f32) :
    ((k0_pay87 (k0_pay149 x0 x1 x2 x3 x4 x5 x6 x7 x8 x9 x10 x11) (k0_pay150 x0 x1 x2 x3 x4 x5 x6 x7 x8 x9 x10 x11) (k0_pay72 (View.ld x9 r0_4)) (k0_pay85 (k0_pay148 x0 x1 x2 x3 x4 x5 x6 x7 x8 x9 x10 x11)) (k0_pay86 (k0_pay148 x0 x1 x2 x3 x4 x5 x6 x7 x8 x9 x10 x11))) : FVec Ideal S512x128 .bf16) = ky (View.ld x0 r0_24) (View.ld x1 r0_1) (View.ld x3 r0_2) (View.ld x9 r0_4) (View.ld x10 r0_25) (View.ld x11 r0_25) := rfl

end Cert.Kernel3Ideal.In

end
-- ==== Proof.InBlock.lean ====
module

public import proofs.«01_k».proof.Proof.InYa
public import proofs.«01_k».proof.Proof.InKey

@[expose] public section

set_option maxRecDepth 16384

noncomputable section

namespace Cert.Kernel3Ideal.In

open Idealize.ShloMosaic Idealize.ShloMosaic.TcCoe Idealize.SL.Sem
open Cert.Kernel3Ideal Cert.Kernel3Ideal.Gen Cert.RowPure Cert.InPure

/-- Stores that hold one array's entries and cover the buffer leave that array. -/
theorem canon_whole {s : Shape} {e : EltTy} (A : s.Idx → Elt Ideal e) (L : List (View.Piece (Elt Ideal) s e))
    (h : View.PiecesOf A L) (hc : ∀ y, ∃ p ∈ L, y ∈ p.1.set) : View.canon L = A :=
  funext fun y => (congrFun (congrArg View.canon (List.append_nil L).symm) y).trans (View.canon_append_of_piecesOf A [] L h y (hc y))

/-- What each load reads. -/
theorem ld0 (x : Vec Ideal S1024x1024 .f32) (r : Fin 512) (k : Fin 1024) : View.ld x r0_0 (ix2 r k) = x (ix2 (⟨r.val, by omega⟩ : Fin 1024) k) :=
  congrArg x (funext fun a => match a with | ⟨0, _⟩ => Fin.ext (by show 0 + 1 * r.val = r.val; omega) | ⟨1, _⟩ => Fin.ext (by show 0 + 1 * k.val = k.val; omega))
theorem ld24 (x : Vec Ideal S1024x1024 .f32) (r : Fin 512) (k : Fin 1024) : View.ld x r0_24 (ix2 r k) = x (ix2 (⟨512 + r.val, by omega⟩ : Fin 1024) k) :=
  congrArg x (funext fun a => match a with | ⟨0, _⟩ => Fin.ext (by show 512 + 1 * r.val = 512 + r.val; omega) | ⟨1, _⟩ => Fin.ext (by show 0 + 1 * k.val = k.val; omega))
theorem ld1 (x : Vec Ideal S1x1024 .f32) (r : Fin 1) (k : Fin 1024) : View.ld x r0_1 (ix2 r k) = x (ix2 r k) :=
  congrArg x (funext fun a => match a with | ⟨0, _⟩ => Fin.ext (by show 0 + 1 * r.val = r.val; omega) | ⟨1, _⟩ => Fin.ext (by show 0 + 1 * k.val = k.val; omega))
theorem ld16 (x : Vec Ideal S1024x2048 .bf16) (r : Fin 1024) (k : Fin 2048) : View.ld x r0_16 (ix2 r k) = x (ix2 r k) :=
  congrArg x (funext fun a => match a with | ⟨0, _⟩ => Fin.ext (by show 0 + 1 * r.val = r.val; omega) | ⟨1, _⟩ => Fin.ext (by show 0 + 1 * k.val = k.val; omega))
theorem ld2 (x : Vec Ideal S768x1024 .bf16) (r : Fin 768) (k : Fin 1024) : View.ld x r0_2 (ix2 r k) = x (ix2 r k) :=
  congrArg x (funext fun a => match a with | ⟨0, _⟩ => Fin.ext (by show 0 + 1 * r.val = r.val; omega) | ⟨1, _⟩ => Fin.ext (by show 0 + 1 * k.val = k.val; omega))
theorem ld18 (x : Vec Ideal S1x512 .f32) (r : Fin 1) (k : Fin 512) : View.ld x r0_18 (ix2 r k) = x (ix2 r k) :=
  congrArg x (funext fun a => match a with | ⟨0, _⟩ => Fin.ext (by show 0 + 1 * r.val = r.val; omega) | ⟨1, _⟩ => Fin.ext (by show 0 + 1 * k.val = k.val; omega))
theorem ld19 (x : Vec Ideal S4x128x256 .bf16) (i : Fin 128) (k : Fin 256) : View.ld x r0_19 (ix3 0 i k) = x (ix3 0 i k) :=
  congrArg x (funext fun a => match a with | ⟨0, _⟩ => rfl | ⟨1, _⟩ => Fin.ext (by show 0 + 1 * i.val = i.val; omega) | ⟨2, _⟩ => Fin.ext (by show 0 + 1 * k.val = k.val; omega))
theorem ld20 (x : Vec Ideal S4x128x256 .bf16) (i : Fin 128) (k : Fin 256) : View.ld x r0_20 (ix3 0 i k) = x (ix3 1 i k) :=
  congrArg x (funext fun a => match a with | ⟨0, _⟩ => rfl | ⟨1, _⟩ => Fin.ext (by show 0 + 1 * i.val = i.val; omega) | ⟨2, _⟩ => Fin.ext (by show 0 + 1 * k.val = k.val; omega))
theorem ld21 (x : Vec Ideal S4x128x256 .bf16) (i : Fin 128) (k : Fin 256) : View.ld x r0_21 (ix3 0 i k) = x (ix3 2 i k) :=
  congrArg x (funext fun a => match a with | ⟨0, _⟩ => rfl | ⟨1, _⟩ => Fin.ext (by show 0 + 1 * i.val = i.val; omega) | ⟨2, _⟩ => Fin.ext (by show 0 + 1 * k.val = k.val; omega))
theorem ld22 (x : Vec Ideal S4x128x256 .bf16) (i : Fin 128) (k : Fin 256) : View.ld x r0_22 (ix3 0 i k) = x (ix3 3 i k) :=
  congrArg x (funext fun a => match a with | ⟨0, _⟩ => rfl | ⟨1, _⟩ => Fin.ext (by show 0 + 1 * i.val = i.val; omega) | ⟨2, _⟩ => Fin.ext (by show 0 + 1 * k.val = k.val; omega))
theorem ld23 (x : Vec Ideal S128x512 .f32) (r : Fin 128) (k : Fin 512) : View.ld x r0_23 (ix2 r k) = x (ix2 r k) :=
  congrArg x (funext fun a => match a with | ⟨0, _⟩ => Fin.ext (by show 0 + 1 * r.val = r.val; omega) | ⟨1, _⟩ => Fin.ext (by show 0 + 1 * k.val = k.val; omega))
theorem ld4 (x : Vec Ideal S64x128 .f32) (r : Fin 64) (k : Fin 128) : View.ld x r0_4 (ix2 r k) = x (ix2 r k) :=
  congrArg x (funext fun a => match a with | ⟨0, _⟩ => Fin.ext (by show 0 + 1 * r.val = r.val; omega) | ⟨1, _⟩ => Fin.ext (by show 0 + 1 * k.val = k.val; omega))
theorem ld3 (x : Vec Ideal S32x1024 .f32) (r : Fin 32) (k : Fin 512) : View.ld x r0_3 (ix2 r k) = x (ix2 r (⟨k.val, by omega⟩ : Fin 1024)) :=
  congrArg x (funext fun a => match a with | ⟨0, _⟩ => Fin.ext (by show 0 + 1 * r.val = r.val; omega) | ⟨1, _⟩ => Fin.ext (by show 0 + 1 * k.val = k.val; omega))
theorem ld25 (x : Vec Ideal S32x1024 .f32) (r : Fin 32) (k : Fin 512) : View.ld x r0_25 (ix2 r k) = x (ix2 r (⟨512 + k.val, by omega⟩ : Fin 1024)) :=
  congrArg x (funext fun a => match a with | ⟨0, _⟩ => Fin.ext (by show 0 + 1 * r.val = r.val; omega) | ⟨1, _⟩ => Fin.ext (by show 512 + 1 * k.val = 512 + k.val; omega))

theorem gate_of (x : S512x1024.Idx → EReal) (g : S1x1024.Idx → EReal) (w : S1024x2048.Idx → EReal) (X : Fin 512 → Fin 1024 → EReal) (G : Fin 1024 → EReal) (V : Fin 1024 → Fin 2048 → EReal)
    (hx : ∀ r k, x (ix2 r k) = X r k) (hg : ∀ k, g (ix2 0 k) = G k) (hw : ∀ k j, w (ix2 k j) = V k j) (r e : Fin 512) :
    (k0_pay38 (F := Ideal) (k0_pay2 (F := Ideal) x g) w : S512x512.Idx → EReal) (ix2 r e) = gateT (prj (hrow (X r) G) (fun k => V k (⟨1536 + e.val, by omega⟩ : Fin 2048))) := by
  rw [sgb_at]
  simp only [h_at, hx, hg, hw]

theorem ya_of (x : S512x1024.Idx → EReal) (g : S1x1024.Idx → EReal) (w : S1024x2048.Idx → EReal) (a b : S1x512.Idx → EReal) (w0 w1 w2 w3 : S1x128x256.Idx → EReal) (s : S128x512.Idx → EReal)
    (X : Fin 512 → Fin 1024 → EReal) (G : Fin 1024 → EReal) (V : Fin 1024 → Fin 2048 → EReal) (A B : Fin 512 → EReal) (W : Fin 4 → Fin 128 → Fin 256 → EReal) (S : Fin 128 → Fin 512 → EReal)
    (hx : ∀ r k, x (ix2 r k) = X r k) (hg : ∀ k, g (ix2 0 k) = G k) (hw : ∀ k j, w (ix2 k j) = V k j) (ha : ∀ e, a (ix2 0 e) = A e) (hb : ∀ e, b (ix2 0 e) = B e)
    (g0 : ∀ i k, w0 (ix3 0 i k) = W 0 i k) (g1 : ∀ i k, w1 (ix3 0 i k) = W 1 i k) (g2 : ∀ i k, w2 (ix3 0 i k) = W 2 i k) (g3 : ∀ i k, w3 (ix3 0 i k) = W 3 i k) (hs : ∀ i e, s (ix2 i e) = S i e) (r e : Fin 512) :
    ya x g w a b w0 w1 w2 w3 s (ix2 r e)
      = mixed (prj (hrow (X r) G) (fun k => V k (⟨e.val, by omega⟩ : Fin 2048)))
          (fun j e => prj (hrow (X ⟨128 * (r.val / 128) + j.val, by omega⟩) G) (fun k => V k (⟨512 + e.val, by omega⟩ : Fin 2048)))
          A B (fun j => W ⟨e.val / 128, by omega⟩ ⟨r.val % 128, by omega⟩ (grp ⟨e.val % 128, by omega⟩ j)) (S ⟨r.val % 128, by omega⟩ e) e
        * gateT (prj (hrow (X r) G) (fun k => V k (⟨1024 + e.val, by omega⟩ : Fin 2048))) := by
  rw [ya_at _ _ _ _ _ _ _ _ _ _ W g0 g1 g2 g3]
  simp only [hx, hg, hw, ha, hb, hs]

theorem ky_of (x : S512x1024.Idx → EReal) (g : S1x1024.Idx → EReal) (w : S768x1024.Idx → EReal) (kg : S64x128.Idx → EReal) (c s : S32x512.Idx → EReal)
    (X : Fin 512 → Fin 1024 → EReal) (G : Fin 1024 → EReal) (V : Fin 768 → Fin 1024 → EReal) (K : Fin 64 → Fin 128 → EReal) (C S : Fin 32 → Fin 512 → EReal)
    (hx : ∀ r k, x (ix2 r k) = X r k) (hg : ∀ k, g (ix2 0 k) = G k) (hw : ∀ j k, w (ix2 j k) = V j k) (hk : ∀ d j, kg (ix2 d j) = K d j) (hc : ∀ o r, c (ix2 o r) = C o r) (hs : ∀ o r, s (ix2 o r) = S o r) (r : Fin 512) (e : Fin 128) :
    ky x g w kg c s (ix2 r e)
      = turned (hnorm (fun d => prj (hrow (X r) G) (V ⟨512 + (e.val / 64 * 64 + d.val), by omega⟩)) (fun d => K d ⟨r.val % 128, by omega⟩)) (fun o => C o r) (fun o => S o r) ⟨e.val % 64, by omega⟩ := by
  rw [ky_at]
  simp only [hx, hg, hw, hk, hc, hs]

/-- A normed row of a point's rows. -/
def blkH (x0 : Vec Ideal S1024x1024 .f32) (x1 : Vec Ideal S1x1024 .f32) (R : Fin 1024) (k : Fin 1024) : EReal := hrow (fun k => x0 (ix2 R k)) (fun k => x1 (ix2 0 k)) k

/-- An entry of the gate's block. -/
def blkG (x0 : Vec Ideal S1024x1024 .f32) (x1 : Vec Ideal S1x1024 .f32) (x2 : Vec Ideal S1024x2048 .bf16) (R : Fin 1024) (e : Fin 512) : EReal :=
  gateT (prj (blkH x0 x1 R) (fun k => x2 (ix2 k (⟨1536 + e.val, by omega⟩ : Fin 2048))))

/-- An entry of the gated mixer's block. -/
def blkY (x0 : Vec Ideal S1024x1024 .f32) (x1 : Vec Ideal S1x1024 .f32) (x2 : Vec Ideal S1024x2048 .bf16) (x4 x5 : Vec Ideal S1x512 .f32) (x6 : Vec Ideal S4x128x256 .bf16) (x7 : Vec Ideal S128x512 .f32) (R : Fin 1024) (e : Fin 512) : EReal :=
  mixed (prj (blkH x0 x1 R) (fun k => x2 (ix2 k (⟨e.val, by omega⟩ : Fin 2048))))
      (fun j e => prj (blkH x0 x1 ⟨128 * (R.val / 128) + j.val, by omega⟩) (fun k => x2 (ix2 k (⟨512 + e.val, by omega⟩ : Fin 2048))))
      (fun e => x4 (ix2 0 e)) (fun e => x5 (ix2 0 e)) (fun j => x6 (ix3 (⟨e.val / 128, by omega⟩ : Fin 4) (⟨R.val % 128, by omega⟩ : Fin 128) (grp ⟨e.val % 128, by omega⟩ j))) (x7 (ix2 (⟨R.val % 128, by omega⟩ : Fin 128) e)) e
    * gateT (prj (blkH x0 x1 R) (fun k => x2 (ix2 k (⟨1024 + e.val, by omega⟩ : Fin 2048))))

/-- An entry of the keys' block. -/
def blkK (x0 : Vec Ideal S1024x1024 .f32) (x1 : Vec Ideal S1x1024 .f32) (x3 : Vec Ideal S768x1024 .bf16) (x9 : Vec Ideal S64x128 .f32) (x10 x11 : Vec Ideal S32x1024 .f32) (R : Fin 1024) (e : Fin 128) : EReal :=
  turned (hnorm (fun d => prj (blkH x0 x1 R) (fun k => x3 (ix2 (⟨512 + (e.val / 64 * 64 + d.val), by omega⟩ : Fin 768) k))) (fun d => x9 (ix2 d (⟨R.val % 128, by omega⟩ : Fin 128))))
    (fun o => x10 (ix2 o R)) (fun o => x11 (ix2 o R)) ⟨e.val % 64, by omega⟩

theorem blkG_lo (x0 : Vec Ideal S1024x1024 .f32) (x1 : Vec Ideal S1x1024 .f32) (x2 : Vec Ideal S1024x2048 .bf16) (r e : Fin 512) :
    (k0_pay38 (F := Ideal) (k0_pay2 (F := Ideal) (View.ld x0 r0_0) (View.ld x1 r0_1)) (View.ld x2 r0_16) : S512x512.Idx → EReal) (ix2 r e) = blkG x0 x1 x2 (⟨r.val, by omega⟩ : Fin 1024) e := by
  exact gate_of _ _ _ (fun r k => x0 (ix2 (⟨r.val, by omega⟩ : Fin 1024) k)) (fun k => x1 (ix2 0 k)) (fun k j => x2 (ix2 k j)) (ld0 x0) (ld1 x1 0) (ld16 x2) r e

theorem blkY_lo (x0 : Vec Ideal S1024x1024 .f32) (x1 : Vec Ideal S1x1024 .f32) (x2 : Vec Ideal S1024x2048 .bf16) (x4 x5 : Vec Ideal S1x512 .f32) (x6 : Vec Ideal S4x128x256 .bf16) (x7 : Vec Ideal S128x512 .f32) (r e : Fin 512) :
    ya (View.ld x0 r0_0) (View.ld x1 r0_1) (View.ld x2 r0_16) (View.ld x4 r0_18) (View.ld x5 r0_18) (View.ld x6 r0_19) (View.ld x6 r0_20) (View.ld x6 r0_21) (View.ld x6 r0_22) (View.ld x7 r0_23) (ix2 r e) = blkY x0 x1 x2 x4 x5 x6 x7 (⟨r.val, by omega⟩ : Fin 1024) e := by
  refine (ya_of _ _ _ _ _ _ _ _ _ _ (fun r k => x0 (ix2 (⟨r.val, by omega⟩ : Fin 1024) k)) (fun k => x1 (ix2 0 k)) (fun k j => x2 (ix2 k j)) (fun e => x4 (ix2 0 e)) (fun e => x5 (ix2 0 e)) (fun p i k => x6 (ix3 p i k)) (fun i e => x7 (ix2 i e)) (ld0 x0) (ld1 x1 0) (ld16 x2) (ld18 x4 0) (ld18 x5 0) (ld19 x6) (ld20 x6) (ld21 x6) (ld22 x6) (ld23 x7) r e).trans ?_
  rfl

theorem blkK_lo (x0 : Vec Ideal S1024x1024 .f32) (x1 : Vec Ideal S1x1024 .f32) (x3 : Vec Ideal S768x1024 .bf16) (x9 : Vec Ideal S64x128 .f32) (x10 x11 : Vec Ideal S32x1024 .f32) (r : Fin 512) (e : Fin 128) :
    ky (View.ld x0 r0_0) (View.ld x1 r0_1) (View.ld x3 r0_2) (View.ld x9 r0_4) (View.ld x10 r0_3) (View.ld x11 r0_3) (ix2 r e) = blkK x0 x1 x3 x9 x10 x11 (⟨r.val, by omega⟩ : Fin 1024) e := by
  refine (ky_of _ _ _ _ _ _ (fun r k => x0 (ix2 (⟨r.val, by omega⟩ : Fin 1024) k)) (fun k => x1 (ix2 0 k)) (fun j k => x3 (ix2 j k)) (fun d j => x9 (ix2 d j)) (fun o r => x10 (ix2 o (⟨r.val, by omega⟩ : Fin 1024))) (fun o r => x11 (ix2 o (⟨r.val, by omega⟩ : Fin 1024))) (ld0 x0) (ld1 x1 0) (ld2 x3) (ld4 x9) (ld3 x10) (ld3 x11) r e).trans ?_
  rfl

theorem blkG_hi (x0 : Vec Ideal S1024x1024 .f32) (x1 : Vec Ideal S1x1024 .f32) (x2 : Vec Ideal S1024x2048 .bf16) (r e : Fin 512) :
    (k0_pay96 (F := Ideal) (k0_pay67 (F := Ideal) (View.ld x0 r0_24) (View.ld x1 r0_1)) (View.ld x2 r0_16) : S512x512.Idx → EReal) (ix2 r e) = blkG x0 x1 x2 (⟨512 + r.val, by omega⟩ : Fin 1024) e := by
  exact gate_of _ _ _ (fun r k => x0 (ix2 (⟨512 + r.val, by omega⟩ : Fin 1024) k)) (fun k => x1 (ix2 0 k)) (fun k j => x2 (ix2 k j)) (ld24 x0) (ld1 x1 0) (ld16 x2) r e

theorem blkY_hi (x0 : Vec Ideal S1024x1024 .f32) (x1 : Vec Ideal S1x1024 .f32) (x2 : Vec Ideal S1024x2048 .bf16) (x4 x5 : Vec Ideal S1x512 .f32) (x6 : Vec Ideal S4x128x256 .bf16) (x7 : Vec Ideal S128x512 .f32) (r e : Fin 512) :
    ya (View.ld x0 r0_24) (View.ld x1 r0_1) (View.ld x2 r0_16) (View.ld x4 r0_18) (View.ld x5 r0_18) (View.ld x6 r0_19) (View.ld x6 r0_20) (View.ld x6 r0_21) (View.ld x6 r0_22) (View.ld x7 r0_23) (ix2 r e) = blkY x0 x1 x2 x4 x5 x6 x7 (⟨512 + r.val, by omega⟩ : Fin 1024) e := by
  refine (ya_of _ _ _ _ _ _ _ _ _ _ (fun r k => x0 (ix2 (⟨512 + r.val, by omega⟩ : Fin 1024) k)) (fun k => x1 (ix2 0 k)) (fun k j => x2 (ix2 k j)) (fun e => x4 (ix2 0 e)) (fun e => x5 (ix2 0 e)) (fun p i k => x6 (ix3 p i k)) (fun i e => x7 (ix2 i e)) (ld24 x0) (ld1 x1 0) (ld16 x2) (ld18 x4 0) (ld18 x5 0) (ld19 x6) (ld20 x6) (ld21 x6) (ld22 x6) (ld23 x7) r e).trans ?_
  have q : (512 + r.val) % 128 = r.val % 128 := by omega
  have q' : ∀ j : Fin 128, 128 * ((512 + r.val) / 128) + j.val = 512 + (128 * (r.val / 128) + j.val) := by intro j; omega
  simp only [blkY, blkH, q, q']
  rfl

theorem blkK_hi (x0 : Vec Ideal S1024x1024 .f32) (x1 : Vec Ideal S1x1024 .f32) (x3 : Vec Ideal S768x1024 .bf16) (x9 : Vec Ideal S64x128 .f32) (x10 x11 : Vec Ideal S32x1024 .f32) (r : Fin 512) (e : Fin 128) :
    ky (View.ld x0 r0_24) (View.ld x1 r0_1) (View.ld x3 r0_2) (View.ld x9 r0_4) (View.ld x10 r0_25) (View.ld x11 r0_25) (ix2 r e) = blkK x0 x1 x3 x9 x10 x11 (⟨512 + r.val, by omega⟩ : Fin 1024) e := by
  refine (ky_of _ _ _ _ _ _ (fun r k => x0 (ix2 (⟨512 + r.val, by omega⟩ : Fin 1024) k)) (fun k => x1 (ix2 0 k)) (fun j k => x3 (ix2 j k)) (fun d j => x9 (ix2 d j)) (fun o r => x10 (ix2 o (⟨512 + r.val, by omega⟩ : Fin 1024))) (fun o r => x11 (ix2 o (⟨512 + r.val, by omega⟩ : Fin 1024))) (ld24 x0) (ld1 x1 0) (ld2 x3) (ld4 x9) (ld25 x10) (ld25 x11) r e).trans ?_
  have q : (512 + r.val) % 128 = r.val % 128 := by omega
  simp only [blkK, blkH, q]
  rfl

theorem tile13 (x0 : Vec Ideal S1024x1024 .f32) (x1 : Vec Ideal S1x1024 .f32) (x2 : Vec Ideal S1024x2048 .bf16) (x3 : Vec Ideal S768x1024 .bf16) (x4 : Vec Ideal S1x512 .f32) (x5 : Vec Ideal S1x512 .f32) (x6 : Vec Ideal S4x128x256 .bf16) (x7 : Vec Ideal S128x512 .f32) (x8 : Vec Ideal S64x128 .f32) (x9 : Vec Ideal S64x128 .f32) (x10 : Vec Ideal S32x1024 .f32) (x11 : Vec Ideal S32x1024 .f32) :
    out0_13 x0 x1 x2 x3 x4 x5 x6 x7 x8 x9 x10 x11 = fun y : S1024x512.Idx => blkG x0 x1 x2 (y 0) (y 1) := by
  unfold out0_13
  refine canon_whole _ _ ?_ (cover0_13 _ _)
  refine ⟨fun z => ?_, fun z => ?_, trivial⟩
  · obtain ⟨r, e, rfl⟩ : ∃ (r : Fin 512) (e : Fin 512), z = ix2 r e := ⟨z 0, z 1, eq_ix2 z⟩
    exact (blkG_hi x0 x1 x2 r e).trans (congrArg₂ (blkG x0 x1 x2) (Fin.ext (by show 512 + r.val = 512 + 1 * r.val; omega)) (Fin.ext (by show e.val = 0 + 1 * e.val; omega)))
  · obtain ⟨r, e, rfl⟩ : ∃ (r : Fin 512) (e : Fin 512), z = ix2 r e := ⟨z 0, z 1, eq_ix2 z⟩
    exact (blkG_lo x0 x1 x2 r e).trans (congrArg₂ (blkG x0 x1 x2) (Fin.ext (by show r.val = 0 + 1 * r.val; omega)) (Fin.ext (by show e.val = 0 + 1 * e.val; omega)))

theorem tile12 (x0 : Vec Ideal S1024x1024 .f32) (x1 : Vec Ideal S1x1024 .f32) (x2 : Vec Ideal S1024x2048 .bf16) (x3 : Vec Ideal S768x1024 .bf16) (x4 : Vec Ideal S1x512 .f32) (x5 : Vec Ideal S1x512 .f32) (x6 : Vec Ideal S4x128x256 .bf16) (x7 : Vec Ideal S128x512 .f32) (x8 : Vec Ideal S64x128 .f32) (x9 : Vec Ideal S64x128 .f32) (x10 : Vec Ideal S32x1024 .f32) (x11 : Vec Ideal S32x1024 .f32) :
    out0_12 x0 x1 x2 x3 x4 x5 x6 x7 x8 x9 x10 x11 = fun y : S1024x512.Idx => blkY x0 x1 x2 x4 x5 x6 x7 (y 0) (y 1) := by
  unfold out0_12
  refine canon_whole _ _ ?_ (cover0_12 _ _)
  refine ⟨fun z => ?_, fun z => ?_, trivial⟩
  · obtain ⟨r, e, rfl⟩ : ∃ (r : Fin 512) (e : Fin 512), z = ix2 r e := ⟨z 0, z 1, eq_ix2 z⟩
    exact ((congrFun (ya_high x0 x1 x2 x3 x4 x5 x6 x7 x8 x9 x10 x11) (ix2 r e)).trans (blkY_hi x0 x1 x2 x4 x5 x6 x7 r e)).trans (congrArg₂ (blkY x0 x1 x2 x4 x5 x6 x7) (Fin.ext (by show 512 + r.val = 512 + 1 * r.val; omega)) (Fin.ext (by show e.val = 0 + 1 * e.val; omega)))
  · obtain ⟨r, e, rfl⟩ : ∃ (r : Fin 512) (e : Fin 512), z = ix2 r e := ⟨z 0, z 1, eq_ix2 z⟩
    exact ((congrFun (ya_low x0 x1 x2 x3 x4 x5 x6 x7 x8 x9 x10 x11) (ix2 r e)).trans (blkY_lo x0 x1 x2 x4 x5 x6 x7 r e)).trans (congrArg₂ (blkY x0 x1 x2 x4 x5 x6 x7) (Fin.ext (by show r.val = 0 + 1 * r.val; omega)) (Fin.ext (by show e.val = 0 + 1 * e.val; omega)))

theorem tile15 (x0 : Vec Ideal S1024x1024 .f32) (x1 : Vec Ideal S1x1024 .f32) (x2 : Vec Ideal S1024x2048 .bf16) (x3 : Vec Ideal S768x1024 .bf16) (x4 : Vec Ideal S1x512 .f32) (x5 : Vec Ideal S1x512 .f32) (x6 : Vec Ideal S4x128x256 .bf16) (x7 : Vec Ideal S128x512 .f32) (x8 : Vec Ideal S64x128 .f32) (x9 : Vec Ideal S64x128 .f32) (x10 : Vec Ideal S32x1024 .f32) (x11 : Vec Ideal S32x1024 .f32) :
    out0_15 x0 x1 x2 x3 x4 x5 x6 x7 x8 x9 x10 x11 = fun y : S1024x128.Idx => blkK x0 x1 x3 x9 x10 x11 (y 0) (y 1) := by
  unfold out0_15
  refine canon_whole _ _ ?_ (cover0_15 _ _)
  refine ⟨fun z => ?_, fun z => ?_, trivial⟩
  · obtain ⟨r, e, rfl⟩ : ∃ (r : Fin 512) (e : Fin 128), z = ix2 r e := ⟨z 0, z 1, eq_ix2 z⟩
    exact ((congrFun (ky_high x0 x1 x2 x3 x4 x5 x6 x7 x8 x9 x10 x11) (ix2 r e)).trans (blkK_hi x0 x1 x3 x9 x10 x11 r e)).trans (congrArg₂ (blkK x0 x1 x3 x9 x10 x11) (Fin.ext (by show 512 + r.val = 512 + 1 * r.val; omega)) (Fin.ext (by show e.val = 0 + 1 * e.val; omega)))
  · obtain ⟨r, e, rfl⟩ : ∃ (r : Fin 512) (e : Fin 128), z = ix2 r e := ⟨z 0, z 1, eq_ix2 z⟩
    exact ((congrFun (ky_low x0 x1 x2 x3 x4 x5 x6 x7 x8 x9 x10 x11) (ix2 r e)).trans (blkK_lo x0 x1 x3 x9 x10 x11 r e)).trans (congrArg₂ (blkK x0 x1 x3 x9 x10 x11) (Fin.ext (by show r.val = 0 + 1 * r.val; omega)) (Fin.ext (by show e.val = 0 + 1 * e.val; omega)))

end Cert.Kernel3Ideal.In

end
-- ==== Proof.InArray.lean ====
module

public import proofs.«01_k».proof.Proof.InBlock

@[expose] public section

set_option maxRecDepth 16384

noncomputable section

namespace Cert.Kernel3Ideal.In

open Idealize.ShloMosaic Idealize.ShloMosaic.TcCoe Idealize.ShloMosaic.Tactic Idealize.SL.Sem
open Cert.Kernel3Ideal Cert.Kernel3Ideal.Gen Cert.RowPure Cert.InPure

/-- The block each staged array takes at a grid point: the point's rows of the first and of the outputs, a sequence's columns of the tables, the whole of the others. -/
theorem at0 : ∀ t : Fin grid0.N, win0_0.index t = ![t.val, 0] := by decide +kernel
theorem at1 : ∀ t : Fin grid0.N, win0_1.index t = ![0, 0] := by decide +kernel
theorem at2 : ∀ t : Fin grid0.N, win0_2.index t = ![0, 0] := by decide +kernel
theorem at3 : ∀ t : Fin grid0.N, win0_3.index t = ![0, 0] := by decide +kernel
theorem at4 : ∀ t : Fin grid0.N, win0_4.index t = ![0, 0] := by decide +kernel
theorem at5 : ∀ t : Fin grid0.N, win0_5.index t = ![0, 0] := by decide +kernel
theorem at6 : ∀ t : Fin grid0.N, win0_6.index t = ![0, 0, 0] := by decide +kernel
theorem at7 : ∀ t : Fin grid0.N, win0_7.index t = ![0, 0] := by decide +kernel
theorem at9 : ∀ t : Fin grid0.N, win0_9.index t = ![0, 0] := by decide +kernel
theorem at10 : ∀ t : Fin grid0.N, win0_10.index t = ![0, t.val % 4] := by decide +kernel
theorem at11 : ∀ t : Fin grid0.N, win0_11.index t = ![0, t.val % 4] := by decide +kernel
theorem at12 : ∀ t : Fin grid0.N, win0_12.index t = ![t.val, 0] := by decide +kernel
theorem at13 : ∀ t : Fin grid0.N, win0_13.index t = ![t.val, 0] := by decide +kernel
theorem at15 : ∀ t : Fin grid0.N, win0_15.index t = ![t.val, 0] := by decide +kernel

variable (m : (ℓ : Loc nD τ sig) → Buf (Elt Ideal) ℓ) (ρ : Dev nD → PrngReg) (c : Dev nD)

theorem get0 (t : Fin cfg0.N) (r : Fin 1024) (j : Fin 1024) (R : Fin 65536) (h : R.val = t.val * 1024 + r.val) : iblk m c 0 t (ix2 r j) = V m c main_v28 (ix2 R j) := by
  show V m c main_v28 (((cfg0.win 0).blk t).view.emb (ix2 r j)) = _
  refine congrArg _ (funext fun a => Fin.ext ?_)
  have e := at0 t
  match a with
  | ⟨0, _⟩ => have e' : win0_0.index t 0 = t.val := congrFun e 0
              show win0_0.index t 0 * 1024 + 1 * r.val = R.val; omega
  | ⟨1, _⟩ => have e' : win0_0.index t 1 = 0 := congrFun e 1
              show win0_0.index t 1 * 1024 + 1 * j.val = j.val; omega

theorem get1 (t : Fin cfg0.N) (r : Fin 1) (j : Fin 1024) : iblk m c 1 t (ix2 r j) = V m c main_v58 (ix2 r j) := by
  show V m c main_v58 (((cfg0.win 1).blk t).view.emb (ix2 r j)) = _
  refine congrArg _ (funext fun a => Fin.ext ?_)
  have e := at1 t
  match a with
  | ⟨0, _⟩ => have e' : win0_1.index t 0 = 0 := congrFun e 0
              show win0_1.index t 0 * 1 + 1 * r.val = r.val; omega
  | ⟨1, _⟩ => have e' : win0_1.index t 1 = 0 := congrFun e 1
              show win0_1.index t 1 * 1024 + 1 * j.val = j.val; omega

theorem get2 (t : Fin cfg0.N) (r : Fin 1024) (j : Fin 2048) : iblk m c 2 t (ix2 r j) = V m c main_v59 (ix2 r j) := by
  show V m c main_v59 (((cfg0.win 2).blk t).view.emb (ix2 r j)) = _
  refine congrArg _ (funext fun a => Fin.ext ?_)
  have e := at2 t
  match a with
  | ⟨0, _⟩ => have e' : win0_2.index t 0 = 0 := congrFun e 0
              show win0_2.index t 0 * 1024 + 1 * r.val = r.val; omega
  | ⟨1, _⟩ => have e' : win0_2.index t 1 = 0 := congrFun e 1
              show win0_2.index t 1 * 2048 + 1 * j.val = j.val; omega

theorem get3 (t : Fin cfg0.N) (r : Fin 768) (j : Fin 1024) : iblk m c 3 t (ix2 r j) = V m c main_v60 (ix2 r j) := by
  show V m c main_v60 (((cfg0.win 3).blk t).view.emb (ix2 r j)) = _
  refine congrArg _ (funext fun a => Fin.ext ?_)
  have e := at3 t
  match a with
  | ⟨0, _⟩ => have e' : win0_3.index t 0 = 0 := congrFun e 0
              show win0_3.index t 0 * 768 + 1 * r.val = r.val; omega
  | ⟨1, _⟩ => have e' : win0_3.index t 1 = 0 := congrFun e 1
              show win0_3.index t 1 * 1024 + 1 * j.val = j.val; omega

theorem get4 (t : Fin cfg0.N) (r : Fin 1) (j : Fin 512) : iblk m c 4 t (ix2 r j) = V m c main_v61 (ix2 r j) := by
  show V m c main_v61 (((cfg0.win 4).blk t).view.emb (ix2 r j)) = _
  refine congrArg _ (funext fun a => Fin.ext ?_)
  have e := at4 t
  match a with
  | ⟨0, _⟩ => have e' : win0_4.index t 0 = 0 := congrFun e 0
              show win0_4.index t 0 * 1 + 1 * r.val = r.val; omega
  | ⟨1, _⟩ => have e' : win0_4.index t 1 = 0 := congrFun e 1
              show win0_4.index t 1 * 512 + 1 * j.val = j.val; omega

theorem get5 (t : Fin cfg0.N) (r : Fin 1) (j : Fin 512) : iblk m c 5 t (ix2 r j) = V m c main_v62 (ix2 r j) := by
  show V m c main_v62 (((cfg0.win 5).blk t).view.emb (ix2 r j)) = _
  refine congrArg _ (funext fun a => Fin.ext ?_)
  have e := at5 t
  match a with
  | ⟨0, _⟩ => have e' : win0_5.index t 0 = 0 := congrFun e 0
              show win0_5.index t 0 * 1 + 1 * r.val = r.val; omega
  | ⟨1, _⟩ => have e' : win0_5.index t 1 = 0 := congrFun e 1
              show win0_5.index t 1 * 512 + 1 * j.val = j.val; omega

theorem get6 (t : Fin cfg0.N) (r : Fin 4) (j : Fin 128) (k : Fin 256) : iblk m c 6 t (ix3 r j k) = V m c main_v63 (ix3 r j k) := by
  show V m c main_v63 (((cfg0.win 6).blk t).view.emb (ix3 r j k)) = _
  refine congrArg _ (funext fun a => Fin.ext ?_)
  have e := at6 t
  match a with
  | ⟨0, _⟩ => have e' : win0_6.index t 0 = 0 := congrFun e 0
              show win0_6.index t 0 * 4 + 1 * r.val = r.val; omega
  | ⟨1, _⟩ => have e' : win0_6.index t 1 = 0 := congrFun e 1
              show win0_6.index t 1 * 128 + 1 * j.val = j.val; omega
  | ⟨2, _⟩ => have e' : win0_6.index t 2 = 0 := congrFun e 2
              show win0_6.index t 2 * 256 + 1 * k.val = k.val; omega

theorem get7 (t : Fin cfg0.N) (r : Fin 128) (j : Fin 512) : iblk m c 7 t (ix2 r j) = V m c main_v64 (ix2 r j) := by
  show V m c main_v64 (((cfg0.win 7).blk t).view.emb (ix2 r j)) = _
  refine congrArg _ (funext fun a => Fin.ext ?_)
  have e := at7 t
  match a with
  | ⟨0, _⟩ => have e' : win0_7.index t 0 = 0 := congrFun e 0
              show win0_7.index t 0 * 128 + 1 * r.val = r.val; omega
  | ⟨1, _⟩ => have e' : win0_7.index t 1 = 0 := congrFun e 1
              show win0_7.index t 1 * 512 + 1 * j.val = j.val; omega

theorem get9 (t : Fin cfg0.N) (r : Fin 64) (j : Fin 128) : iblk m c 9 t (ix2 r j) = V m c main_v66 (ix2 r j) := by
  show V m c main_v66 (((cfg0.win 9).blk t).view.emb (ix2 r j)) = _
  refine congrArg _ (funext fun a => Fin.ext ?_)
  have e := at9 t
  match a with
  | ⟨0, _⟩ => have e' : win0_9.index t 0 = 0 := congrFun e 0
              show win0_9.index t 0 * 64 + 1 * r.val = r.val; omega
  | ⟨1, _⟩ => have e' : win0_9.index t 1 = 0 := congrFun e 1
              show win0_9.index t 1 * 128 + 1 * j.val = j.val; omega

theorem get10 (t : Fin cfg0.N) (r : Fin 32) (j : Fin 1024) (R : Fin 4096) (h : R.val = t.val % 4 * 1024 + j.val) : iblk m c 10 t (ix2 r j) = V m c main_v26 (ix2 r R) := by
  show V m c main_v26 (((cfg0.win 10).blk t).view.emb (ix2 r j)) = _
  refine congrArg _ (funext fun a => Fin.ext ?_)
  have e := at10 t
  match a with
  | ⟨0, _⟩ => have e' : win0_10.index t 0 = 0 := congrFun e 0
              show win0_10.index t 0 * 32 + 1 * r.val = r.val; omega
  | ⟨1, _⟩ => have e' : win0_10.index t 1 = t.val % 4 := congrFun e 1
              show win0_10.index t 1 * 1024 + 1 * j.val = R.val; omega

theorem get11 (t : Fin cfg0.N) (r : Fin 32) (j : Fin 1024) (R : Fin 4096) (h : R.val = t.val % 4 * 1024 + j.val) : iblk m c 11 t (ix2 r j) = V m c main_v27 (ix2 r R) := by
  show V m c main_v27 (((cfg0.win 11).blk t).view.emb (ix2 r j)) = _
  refine congrArg _ (funext fun a => Fin.ext ?_)
  have e := at11 t
  match a with
  | ⟨0, _⟩ => have e' : win0_11.index t 0 = 0 := congrFun e 0
              show win0_11.index t 0 * 32 + 1 * r.val = r.val; omega
  | ⟨1, _⟩ => have e' : win0_11.index t 1 = t.val % 4 := congrFun e 1
              show win0_11.index t 1 * 1024 + 1 * j.val = R.val; omega

/-- A normed row, from the arrays the region stages. -/
def arrH (R : Fin 65536) (k : Fin 1024) : EReal := hrow (fun k => V m c main_v28 (ix2 R k)) (fun k => V m c main_v58 (ix2 0 k)) k

/-- An entry of the gate. -/
def arrG (R : Fin 65536) (e : Fin 512) : EReal := gateT (prj (arrH m c R) (fun k => V m c main_v59 (ix2 k (⟨1536 + e.val, by omega⟩ : Fin 2048))))

/-- An entry of the gated mixer's output. -/
def arrY (R : Fin 65536) (e : Fin 512) : EReal :=
  mixed (prj (arrH m c R) (fun k => V m c main_v59 (ix2 k (⟨e.val, by omega⟩ : Fin 2048))))
      (fun j e => prj (arrH m c ⟨128 * (R.val / 128) + j.val, by omega⟩) (fun k => V m c main_v59 (ix2 k (⟨512 + e.val, by omega⟩ : Fin 2048))))
      (fun e => V m c main_v61 (ix2 0 e)) (fun e => V m c main_v62 (ix2 0 e)) (fun j => V m c main_v63 (ix3 (⟨e.val / 128, by omega⟩ : Fin 4) (⟨R.val % 128, by omega⟩ : Fin 128) (grp ⟨e.val % 128, by omega⟩ j))) (V m c main_v64 (ix2 (⟨R.val % 128, by omega⟩ : Fin 128) e)) e
    * gateT (prj (arrH m c R) (fun k => V m c main_v59 (ix2 k (⟨1024 + e.val, by omega⟩ : Fin 2048))))

/-- An entry of the keys. -/
def arrK (R : Fin 65536) (e : Fin 128) : EReal :=
  turned (hnorm (fun d => prj (arrH m c R) (fun k => V m c main_v60 (ix2 (⟨512 + (e.val / 64 * 64 + d.val), by omega⟩ : Fin 768) k))) (fun d => V m c main_v66 (ix2 d (⟨R.val % 128, by omega⟩ : Fin 128))))
    (fun o => V m c main_v26 (ix2 o (⟨R.val % 4096, by omega⟩ : Fin 4096))) (fun o => V m c main_v27 (ix2 o (⟨R.val % 4096, by omega⟩ : Fin 4096))) ⟨e.val % 64, by omega⟩

theorem row_eq (t : Fin cfg0.N) (r : Fin 1024) (R : Fin 65536) (h : R.val = t.val * 1024 + r.val) : blkH (iblk m c 0 t) (iblk m c 1 t) r = arrH m c R :=
  funext fun k => congrArg₂ (fun x g => hrow x g k) (funext fun k => get0 m c t r k R h) (funext fun k => get1 m c t 0 k)

theorem gate_eq (t : Fin cfg0.N) (r : Fin 1024) (e : Fin 512) (R : Fin 65536) (h : R.val = t.val * 1024 + r.val) :
    blkG (iblk m c 0 t) (iblk m c 1 t) (iblk m c 2 t) r e = arrG m c R e :=
  congrArg gateT (congrArg₂ prj (row_eq m c t r R h) (funext fun k => get2 m c t k _))

theorem mixed_congr {u u' : EReal} {v v' : Fin 128 → Fin 512 → EReal} {a a' b b' : Fin 512 → EReal} {w w' : Fin 128 → EReal} {s s' : EReal} (e : Fin 512)
    (hu : u = u') (hv : ∀ j e, v j e = v' j e) (ha : ∀ e, a e = a' e) (hb : ∀ e, b e = b' e) (hw : ∀ j, w j = w' j) (hs : s = s') : mixed u v a b w s e = mixed u' v' a' b' w' s' e := by
  obtain rfl : v = v' := funext fun j => funext (hv j)
  obtain rfl : a = a' := funext ha
  obtain rfl : b = b' := funext hb
  obtain rfl : w = w' := funext hw
  rw [hu, hs]

theorem mixer_eq (t : Fin cfg0.N) (r : Fin 1024) (e : Fin 512) (R : Fin 65536) (h : R.val = t.val * 1024 + r.val) :
    blkY (iblk m c 0 t) (iblk m c 1 t) (iblk m c 2 t) (iblk m c 4 t) (iblk m c 5 t) (iblk m c 6 t) (iblk m c 7 t) r e = arrY m c R e := by
  have q : (⟨r.val % 128, by omega⟩ : Fin 128) = ⟨R.val % 128, by omega⟩ := Fin.ext (by show r.val % 128 = R.val % 128; omega)
  unfold blkY arrY
  rw [q]
  refine congrArg₂ (fun a b : EReal => a * b) (mixed_congr e ?_ (fun j e => ?_) (fun e => get4 m c t 0 e) (fun e => get5 m c t 0 e) (fun j => get6 m c t _ _ _) (get7 m c t _ e)) ?_
  · exact congrArg₂ prj (row_eq m c t r R h) (funext fun k => get2 m c t k _)
  · exact congrArg₂ prj (row_eq m c t _ _ (by show 128 * (R.val / 128) + j.val = t.val * 1024 + (128 * (r.val / 128) + j.val); omega)) (funext fun k => get2 m c t k _)
  · exact congrArg gateT (congrArg₂ prj (row_eq m c t r R h) (funext fun k => get2 m c t k _))

theorem turned_congr {t t' g g' : Fin 64 → EReal} {c c' s s' : Fin 32 → EReal} (d : Fin 64) (ht : ∀ d, t d = t' d) (hg : ∀ d, g d = g' d) (hc : ∀ o, c o = c' o) (hs : ∀ o, s o = s' o) :
    turned (hnorm t g) c s d = turned (hnorm t' g') c' s' d := by
  rw [funext ht, funext hg, funext hc, funext hs]

theorem key_eq (t : Fin cfg0.N) (r : Fin 1024) (e : Fin 128) (R : Fin 65536) (h : R.val = t.val * 1024 + r.val) :
    blkK (iblk m c 0 t) (iblk m c 1 t) (iblk m c 3 t) (iblk m c 9 t) (iblk m c 10 t) (iblk m c 11 t) r e = arrK m c R e := by
  have q : (⟨r.val % 128, by omega⟩ : Fin 128) = ⟨R.val % 128, by omega⟩ := Fin.ext (by show r.val % 128 = R.val % 128; omega)
  have z : R.val % 4096 = t.val % 4 * 1024 + r.val := by omega
  unfold blkK arrK
  rw [q]
  exact turned_congr _ (fun d => congrArg₂ prj (row_eq m c t r R h) (funext fun k => get3 m c t _ k)) (fun d => get9 m c t d _) (fun o => get10 m c t o r _ z) (fun o => get11 m c t o r _ z)

/-- The array of the gated mixer the region leaves. -/
def GY (c : Dev nD) : Buf (Elt Ideal) ((c : Thread nD τ).loc main_v67_0) := fun i : S65536x512.Idx => arrY m c (i 0) (i 1)

/-- What a point writes back is its block of `GY`. -/
theorem wrote12 (t : Fin cfg0.N) : (dats m 0 c).flushed 12 t = ((cfg0.win 12).blk t).view.read (Elt Ideal) (GY m c) := by
  show (cfg0.win 12).cut (grid0.coords t) ((dats m 0 c).after 12 t) = _
  rw [after0_12, tile12]
  have e := at12 t
  have e0 : win0_12.index t 0 = t.val := congrFun e 0
  have e1 : win0_12.index t 1 = 0 := congrFun e 1
  funext y
  have a0 : (((cfg0.win 12).blk t).view.emb y 0).val = t.val * 1024 + (y 0).val := by
    show win0_12.index t 0 * 1024 + 1 * (y 0).val = _; rw [e0]; omega
  have a1 : (((cfg0.win 12).blk t).view.emb y 1).val = (y 1).val := by
    show win0_12.index t 1 * 512 + 1 * (y 1).val = _; rw [e1]; omega
  have hx : (((cfg0.win 12).blk t).view.emb y 1 : Fin 512) = ((cfg0.win 12).xinj (grid0.coords t) y 1 : Fin 512) := Fin.ext a1
  show blkY _ _ _ _ _ _ _ ((cfg0.win 12).xinj (grid0.coords t) y 0) ((cfg0.win 12).xinj (grid0.coords t) y 1) = arrY m c (((cfg0.win 12).blk t).view.emb y 0) (((cfg0.win 12).blk t).view.emb y 1)
  exact (mixer_eq m c t _ _ (((cfg0.win 12).blk t).view.emb y 0) a0).trans (congrArg _ hx.symm)

/-- Every entry of the array is in the block of the point its row names. -/
theorem covered12 (i : S65536x512.Idx) : ∃ t : Fin cfg0.N, (cfg0.win 12).flush t = true ∧ i ∈ ((cfg0.win 12).blk t).view.set := by
  have b0 : (i 0).val < 65536 := (i 0).isLt
  have b1 : (i 1).val < 512 := (i 1).isLt
  refine ⟨⟨(i 0).val / 1024, lt_of_lt_of_eq (by omega) N_0.symm⟩, flush0_12 _, ?_⟩
  change _ ∈ ((View.whole main_v67_0).slice (win0_12.rect (⟨(i 0).val / 1024, lt_of_lt_of_eq (by omega) N_0.symm⟩ : Fin grid0.N))).set
  rw [View.set_slice_whole, Rect.mem_set_unit]
  intro a
  have e := at12 ⟨(i 0).val / 1024, lt_of_lt_of_eq (by omega) N_0.symm⟩
  match a with
  | ⟨0, _⟩ =>
    have e' := congrFun e 0
    show win0_12.index _ 0 * 1024 ≤ (i 0).val ∧ (i 0).val < win0_12.index _ 0 * 1024 + 1024
    rw [e']; show (i 0).val / 1024 * 1024 ≤ (i 0).val ∧ (i 0).val < (i 0).val / 1024 * 1024 + 1024; omega
  | ⟨1, _⟩ =>
    have e' := congrFun e 1
    show win0_12.index _ 1 * 512 ≤ (i 1).val ∧ (i 1).val < win0_12.index _ 1 * 512 + 512
    rw [e']; show 0 * 512 ≤ (i 1).val ∧ (i 1).val < 0 * 512 + 512; omega

theorem arr12_eq : (dats m 0 c).arrAt 12 cfg0.N = GY m c :=
  (dats m 0 c).arrAt_eq_of_cover 12 (GY m c) (fun t _ => wrote12 m c t) covered12

/-- The array of the gate the region leaves. -/
def GG (c : Dev nD) : Buf (Elt Ideal) ((c : Thread nD τ).loc main_v67_1) := fun i : S65536x512.Idx => arrG m c (i 0) (i 1)

/-- What a point writes back is its block of `GG`. -/
theorem wrote13 (t : Fin cfg0.N) : (dats m 0 c).flushed 13 t = ((cfg0.win 13).blk t).view.read (Elt Ideal) (GG m c) := by
  show (cfg0.win 13).cut (grid0.coords t) ((dats m 0 c).after 13 t) = _
  rw [after0_13, tile13]
  have e := at13 t
  have e0 : win0_13.index t 0 = t.val := congrFun e 0
  have e1 : win0_13.index t 1 = 0 := congrFun e 1
  funext y
  have a0 : (((cfg0.win 13).blk t).view.emb y 0).val = t.val * 1024 + (y 0).val := by
    show win0_13.index t 0 * 1024 + 1 * (y 0).val = _; rw [e0]; omega
  have a1 : (((cfg0.win 13).blk t).view.emb y 1).val = (y 1).val := by
    show win0_13.index t 1 * 512 + 1 * (y 1).val = _; rw [e1]; omega
  have hx : (((cfg0.win 13).blk t).view.emb y 1 : Fin 512) = ((cfg0.win 13).xinj (grid0.coords t) y 1 : Fin 512) := Fin.ext a1
  show blkG _ _ _ ((cfg0.win 13).xinj (grid0.coords t) y 0) ((cfg0.win 13).xinj (grid0.coords t) y 1) = arrG m c (((cfg0.win 13).blk t).view.emb y 0) (((cfg0.win 13).blk t).view.emb y 1)
  exact (gate_eq m c t _ _ (((cfg0.win 13).blk t).view.emb y 0) a0).trans (congrArg _ hx.symm)

/-- Every entry of the array is in the block of the point its row names. -/
theorem covered13 (i : S65536x512.Idx) : ∃ t : Fin cfg0.N, (cfg0.win 13).flush t = true ∧ i ∈ ((cfg0.win 13).blk t).view.set := by
  have b0 : (i 0).val < 65536 := (i 0).isLt
  have b1 : (i 1).val < 512 := (i 1).isLt
  refine ⟨⟨(i 0).val / 1024, lt_of_lt_of_eq (by omega) N_0.symm⟩, flush0_13 _, ?_⟩
  change _ ∈ ((View.whole main_v67_1).slice (win0_13.rect (⟨(i 0).val / 1024, lt_of_lt_of_eq (by omega) N_0.symm⟩ : Fin grid0.N))).set
  rw [View.set_slice_whole, Rect.mem_set_unit]
  intro a
  have e := at13 ⟨(i 0).val / 1024, lt_of_lt_of_eq (by omega) N_0.symm⟩
  match a with
  | ⟨0, _⟩ =>
    have e' := congrFun e 0
    show win0_13.index _ 0 * 1024 ≤ (i 0).val ∧ (i 0).val < win0_13.index _ 0 * 1024 + 1024
    rw [e']; show (i 0).val / 1024 * 1024 ≤ (i 0).val ∧ (i 0).val < (i 0).val / 1024 * 1024 + 1024; omega
  | ⟨1, _⟩ =>
    have e' := congrFun e 1
    show win0_13.index _ 1 * 512 ≤ (i 1).val ∧ (i 1).val < win0_13.index _ 1 * 512 + 512
    rw [e']; show 0 * 512 ≤ (i 1).val ∧ (i 1).val < 0 * 512 + 512; omega

theorem arr13_eq : (dats m 0 c).arrAt 13 cfg0.N = GG m c :=
  (dats m 0 c).arrAt_eq_of_cover 13 (GG m c) (fun t _ => wrote13 m c t) covered13

/-- The array of the keys the region leaves. -/
def GK (c : Dev nD) : Buf (Elt Ideal) ((c : Thread nD τ).loc main_v67_3) := fun i : S65536x128.Idx => arrK m c (i 0) (i 1)

/-- What a point writes back is its block of `GK`. -/
theorem wrote15 (t : Fin cfg0.N) : (dats m 0 c).flushed 15 t = ((cfg0.win 15).blk t).view.read (Elt Ideal) (GK m c) := by
  show (cfg0.win 15).cut (grid0.coords t) ((dats m 0 c).after 15 t) = _
  rw [after0_15, tile15]
  have e := at15 t
  have e0 : win0_15.index t 0 = t.val := congrFun e 0
  have e1 : win0_15.index t 1 = 0 := congrFun e 1
  funext y
  have a0 : (((cfg0.win 15).blk t).view.emb y 0).val = t.val * 1024 + (y 0).val := by
    show win0_15.index t 0 * 1024 + 1 * (y 0).val = _; rw [e0]; omega
  have a1 : (((cfg0.win 15).blk t).view.emb y 1).val = (y 1).val := by
    show win0_15.index t 1 * 128 + 1 * (y 1).val = _; rw [e1]; omega
  have hx : (((cfg0.win 15).blk t).view.emb y 1 : Fin 128) = ((cfg0.win 15).xinj (grid0.coords t) y 1 : Fin 128) := Fin.ext a1
  show blkK _ _ _ _ _ _ ((cfg0.win 15).xinj (grid0.coords t) y 0) ((cfg0.win 15).xinj (grid0.coords t) y 1) = arrK m c (((cfg0.win 15).blk t).view.emb y 0) (((cfg0.win 15).blk t).view.emb y 1)
  exact (key_eq m c t _ _ (((cfg0.win 15).blk t).view.emb y 0) a0).trans (congrArg _ hx.symm)

/-- Every entry of the array is in the block of the point its row names. -/
theorem covered15 (i : S65536x128.Idx) : ∃ t : Fin cfg0.N, (cfg0.win 15).flush t = true ∧ i ∈ ((cfg0.win 15).blk t).view.set := by
  have b0 : (i 0).val < 65536 := (i 0).isLt
  have b1 : (i 1).val < 128 := (i 1).isLt
  refine ⟨⟨(i 0).val / 1024, lt_of_lt_of_eq (by omega) N_0.symm⟩, flush0_15 _, ?_⟩
  change _ ∈ ((View.whole main_v67_3).slice (win0_15.rect (⟨(i 0).val / 1024, lt_of_lt_of_eq (by omega) N_0.symm⟩ : Fin grid0.N))).set
  rw [View.set_slice_whole, Rect.mem_set_unit]
  intro a
  have e := at15 ⟨(i 0).val / 1024, lt_of_lt_of_eq (by omega) N_0.symm⟩
  match a with
  | ⟨0, _⟩ =>
    have e' := congrFun e 0
    show win0_15.index _ 0 * 1024 ≤ (i 0).val ∧ (i 0).val < win0_15.index _ 0 * 1024 + 1024
    rw [e']; show (i 0).val / 1024 * 1024 ≤ (i 0).val ∧ (i 0).val < (i 0).val / 1024 * 1024 + 1024; omega
  | ⟨1, _⟩ =>
    have e' := congrFun e 1
    show win0_15.index _ 1 * 128 ≤ (i 1).val ∧ (i 1).val < win0_15.index _ 1 * 128 + 128
    rw [e']; show 0 * 128 ≤ (i 1).val ∧ (i 1).val < 0 * 128 + 128; omega

theorem arr15_eq : (dats m 0 c).arrAt 15 cfg0.N = GK m c :=
  (dats m 0 c).arrAt_eq_of_cover 15 (GK m c) (fun t _ => wrote15 m c t) covered15

/-- Every run of the kernel leaves these arrays in its results and its arguments as they were. -/
theorem run_in :
    θ_run defs (onTc (τ := τ) (main (F := Ideal))) ⟨m, fun _ => 0, ρ⟩ fun r => ∀ c : Dev nD,
      r.2.mem ((c : Thread nD τ).loc main_v67_0) = GY m c
      ∧ r.2.mem ((c : Thread nD τ).loc main_v67_1) = GG m c
      ∧ r.2.mem ((c : Thread nD τ).loc main_v67_3) = GK m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨((h c).1 12).trans (arr12_eq m c), ((h c).1 13).trans (arr13_eq m c), ((h c).1 15).trans (arr15_eq m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c)⟩)
    (run_main m ρ)

end Cert.Kernel3Ideal.In

end
-- ==== Proof.InRope.lean ====
module

public import proofs.«01_k».proof.Proof.InPure

@[expose] public section

noncomputable section

namespace Cert.InPure

open Idealize.ShloMosaic

/-- A small integer as a value. -/
def word (k : ℕ) : EReal := FloatOps.sitofp (F := Ideal) .f32 (BitVec.ofNat 32 k)

/-- The frequency of a rotary pair. -/
def freq (o : Fin 16) : EReal :=
  Ideal.pow (Ideal.ofBits .f32 0x461C4000#32) (Ideal.div (-(Ideal.ofBits .f32 0x40000000#32 * word o.val)) (Ideal.ofBits .f32 0x42000000#32))

/-- The turn of a head's row written by halves and then by quarters. -/
theorem turned_eq (t : Fin 64 → EReal) (c s : Fin 32 → EReal) (d : Fin 64) :
    (if h : d.val < 32 then
      if h' : d.val < 16 then t d * c ⟨d.val, by omega⟩ - t ⟨16 + d.val, by omega⟩ * s ⟨d.val, by omega⟩
      else t ⟨16 + (d.val - 16), by omega⟩ * c ⟨d.val - 16, by omega⟩ + t ⟨d.val - 16, by omega⟩ * s ⟨d.val - 16, by omega⟩
    else if h' : d.val - 32 < 16 then
      t ⟨32 + (d.val - 32), by omega⟩ * c ⟨16 + (d.val - 32), by omega⟩ - t ⟨32 + (16 + (d.val - 32)), by omega⟩ * s ⟨16 + (d.val - 32), by omega⟩
    else t ⟨32 + (16 + (d.val - 32 - 16)), by omega⟩ * c ⟨16 + (d.val - 32 - 16), by omega⟩ + t ⟨32 + (d.val - 32 - 16), by omega⟩ * s ⟨16 + (d.val - 32 - 16), by omega⟩)
    = turned t c s d := by
  have ht : ∀ i j : Fin 64, i.val = j.val → t i = t j := fun i j h => congrArg t (Fin.ext h)
  have hc : ∀ i j : Fin 32, i.val = j.val → c i = c j := fun i j h => congrArg c (Fin.ext h)
  have hs : ∀ i j : Fin 32, i.val = j.val → s i = s j := fun i j h => congrArg s (Fin.ext h)
  unfold turned
  by_cases h1 : d.val < 16
  · rw [dif_pos (show d.val < 32 by omega), dif_pos h1, dif_pos h1]
  · by_cases h2 : d.val < 32
    · rw [dif_pos h2, dif_neg h1, dif_neg h1, dif_pos h2]
      exact congrArg₂ (fun a b : EReal => a + b) (congrArg₂ (fun a b : EReal => a * b) (ht _ _ (by show 16 + (d.val - 16) = d.val; omega)) rfl) rfl
    · by_cases h3 : d.val < 48
      · rw [dif_neg h2, dif_pos (show d.val - 32 < 16 by omega), dif_neg h1, dif_neg h2, dif_pos h3]
        exact congrArg₂ (fun a b : EReal => a - b)
          (congrArg₂ (fun a b : EReal => a * b) (ht _ _ (by show 32 + (d.val - 32) = d.val; omega)) (hc _ _ (by show 16 + (d.val - 32) = d.val - 16; omega)))
          (congrArg₂ (fun a b : EReal => a * b) (ht _ _ (by show 32 + (16 + (d.val - 32)) = 16 + d.val; omega)) (hs _ _ (by show 16 + (d.val - 32) = d.val - 16; omega)))
      · rw [dif_neg h2, dif_neg (show ¬ d.val - 32 < 16 by omega), dif_neg h1, dif_neg h2, dif_neg h3]
        exact congrArg₂ (fun a b : EReal => a + b)
          (congrArg₂ (fun a b : EReal => a * b) (ht _ _ (by show 32 + (16 + (d.val - 32 - 16)) = d.val; omega)) (hc _ _ (by show 16 + (d.val - 32 - 16) = d.val - 32; omega)))
          (congrArg₂ (fun a b : EReal => a * b) (ht _ _ (by show 32 + (d.val - 32 - 16) = d.val - 16; omega)) (hs _ _ (by show 16 + (d.val - 32 - 16) = d.val - 32; omega)))

end Cert.InPure

end
-- ==== Proof.InHost.lean ====
module

public import proofs.«01_k».proof.Proof.InArray
public import proofs.«01_k».proof.Proof.InRope

@[expose] public section

set_option maxRecDepth 16384

noncomputable section

namespace Cert.Kernel3Ideal.In

open Idealize.ShloMosaic Idealize.ShloMosaic.TcCoe Idealize.ShloMosaic.Tactic Idealize.SL.Sem
open Cert.Kernel3Ideal Cert.Kernel3Ideal.Gen Cert.RowPure Cert.InPure

/-- The buffers after two lists of host operations are those after the second from those after the first. -/
theorem after_two (a b : List (HloOp τ sig (Elt Ideal))) (σ : Valuation τ sig (Elt Ideal)) : StableHlo.after (a ++ b) σ = StableHlo.after b (StableHlo.after a σ) := by
  induction a generalizing σ with
  | nil => rfl
  | cons x a ih => exact ih _

variable (m : (ℓ : Loc nD τ sig) → Buf (Elt Ideal) ℓ) (c : Dev nD)

/-- The kernel's arguments on a device: activations, projection, gain, the mixer's norm, weights and bias, and the head gains. -/
def x0 : S16x4096x1024.Idx → EReal := m ((c : Thread nD τ).loc main_arg0)
def w0 : S1024x2816.Idx → EReal := m ((c : Thread nD τ).loc main_arg1)
def g0 : S1024.Idx → EReal := m ((c : Thread nD τ).loc main_arg2)
def ag0 : S512.Idx → EReal := m ((c : Thread nD τ).loc main_arg3)
def ab0 : S512.Idx → EReal := m ((c : Thread nD τ).loc main_arg4)
def sw0 : S8x128x128.Idx → EReal := m ((c : Thread nD τ).loc main_arg5)
def sb0 : S8x128.Idx → EReal := m ((c : Thread nD τ).loc main_arg6)
def kg0 : S64.Idx → EReal := m ((c : Thread nD τ).loc main_arg8)

/-- The buffers before the last stretch of host operations. -/
def pre0 : Valuation τ sig (Elt Ideal) := StableHlo.after hostOps0 (fun b => m (c, b))
def pre1 : Valuation τ sig (Elt Ideal) := StableHlo.after hostOps0_1 (pre0 m c)
def pre2 : Valuation τ sig (Elt Ideal) := StableHlo.after hostOps0_2 (pre1 m c)
def pre3 : Valuation τ sig (Elt Ideal) := StableHlo.after hostOps0_3 (pre2 m c)

theorem V_eq (b : Ref sig .tc) : V m c b = StableHlo.after hostOps0_4 (pre3 m c) (Proc.devRef .tc b) := by
  show StableHlo.after (hostOps0 ++ (hostOps0_1 ++ (hostOps0_2 ++ (hostOps0_3 ++ (hostOps0_4 ++ []))))) (fun b => m (c, b)) (Proc.devRef .tc b) = _
  rw [after_two, after_two, after_two, after_two, after_two]
  rfl

theorem pre_arg0 : pre3 m c (Proc.devRef .tc main_arg0) = m ((c : Thread nD τ).loc main_arg0) := by
  have h0 : pre0 m c (Proc.devRef .tc main_arg0) = m ((c : Thread nD τ).loc main_arg0) := by unfold pre0; entry_read; try rfl
  have h1 : pre1 m c (Proc.devRef .tc main_arg0) = pre0 m c (Proc.devRef .tc main_arg0) := by unfold pre1; entry_read; try rfl
  have h2 : pre2 m c (Proc.devRef .tc main_arg0) = pre1 m c (Proc.devRef .tc main_arg0) := by unfold pre2; entry_read; try rfl
  have h3 : pre3 m c (Proc.devRef .tc main_arg0) = pre2 m c (Proc.devRef .tc main_arg0) := by unfold pre3; entry_read; try rfl
  exact h3.trans (h2.trans (h1.trans h0))

theorem pre_arg1 : pre3 m c (Proc.devRef .tc main_arg1) = m ((c : Thread nD τ).loc main_arg1) := by
  have h0 : pre0 m c (Proc.devRef .tc main_arg1) = m ((c : Thread nD τ).loc main_arg1) := by unfold pre0; entry_read; try rfl
  have h1 : pre1 m c (Proc.devRef .tc main_arg1) = pre0 m c (Proc.devRef .tc main_arg1) := by unfold pre1; entry_read; try rfl
  have h2 : pre2 m c (Proc.devRef .tc main_arg1) = pre1 m c (Proc.devRef .tc main_arg1) := by unfold pre2; entry_read; try rfl
  have h3 : pre3 m c (Proc.devRef .tc main_arg1) = pre2 m c (Proc.devRef .tc main_arg1) := by unfold pre3; entry_read; try rfl
  exact h3.trans (h2.trans (h1.trans h0))

theorem pre_arg2 : pre3 m c (Proc.devRef .tc main_arg2) = m ((c : Thread nD τ).loc main_arg2) := by
  have h0 : pre0 m c (Proc.devRef .tc main_arg2) = m ((c : Thread nD τ).loc main_arg2) := by unfold pre0; entry_read; try rfl
  have h1 : pre1 m c (Proc.devRef .tc main_arg2) = pre0 m c (Proc.devRef .tc main_arg2) := by unfold pre1; entry_read; try rfl
  have h2 : pre2 m c (Proc.devRef .tc main_arg2) = pre1 m c (Proc.devRef .tc main_arg2) := by unfold pre2; entry_read; try rfl
  have h3 : pre3 m c (Proc.devRef .tc main_arg2) = pre2 m c (Proc.devRef .tc main_arg2) := by unfold pre3; entry_read; try rfl
  exact h3.trans (h2.trans (h1.trans h0))

theorem pre_arg3 : pre3 m c (Proc.devRef .tc main_arg3) = m ((c : Thread nD τ).loc main_arg3) := by
  have h0 : pre0 m c (Proc.devRef .tc main_arg3) = m ((c : Thread nD τ).loc main_arg3) := by unfold pre0; entry_read; try rfl
  have h1 : pre1 m c (Proc.devRef .tc main_arg3) = pre0 m c (Proc.devRef .tc main_arg3) := by unfold pre1; entry_read; try rfl
  have h2 : pre2 m c (Proc.devRef .tc main_arg3) = pre1 m c (Proc.devRef .tc main_arg3) := by unfold pre2; entry_read; try rfl
  have h3 : pre3 m c (Proc.devRef .tc main_arg3) = pre2 m c (Proc.devRef .tc main_arg3) := by unfold pre3; entry_read; try rfl
  exact h3.trans (h2.trans (h1.trans h0))

theorem pre_arg4 : pre3 m c (Proc.devRef .tc main_arg4) = m ((c : Thread nD τ).loc main_arg4) := by
  have h0 : pre0 m c (Proc.devRef .tc main_arg4) = m ((c : Thread nD τ).loc main_arg4) := by unfold pre0; entry_read; try rfl
  have h1 : pre1 m c (Proc.devRef .tc main_arg4) = pre0 m c (Proc.devRef .tc main_arg4) := by unfold pre1; entry_read; try rfl
  have h2 : pre2 m c (Proc.devRef .tc main_arg4) = pre1 m c (Proc.devRef .tc main_arg4) := by unfold pre2; entry_read; try rfl
  have h3 : pre3 m c (Proc.devRef .tc main_arg4) = pre2 m c (Proc.devRef .tc main_arg4) := by unfold pre3; entry_read; try rfl
  exact h3.trans (h2.trans (h1.trans h0))

theorem pre_arg5 : pre3 m c (Proc.devRef .tc main_arg5) = m ((c : Thread nD τ).loc main_arg5) := by
  have h0 : pre0 m c (Proc.devRef .tc main_arg5) = m ((c : Thread nD τ).loc main_arg5) := by unfold pre0; entry_read; try rfl
  have h1 : pre1 m c (Proc.devRef .tc main_arg5) = pre0 m c (Proc.devRef .tc main_arg5) := by unfold pre1; entry_read; try rfl
  have h2 : pre2 m c (Proc.devRef .tc main_arg5) = pre1 m c (Proc.devRef .tc main_arg5) := by unfold pre2; entry_read; try rfl
  have h3 : pre3 m c (Proc.devRef .tc main_arg5) = pre2 m c (Proc.devRef .tc main_arg5) := by unfold pre3; entry_read; try rfl
  exact h3.trans (h2.trans (h1.trans h0))

theorem pre_arg6 : pre3 m c (Proc.devRef .tc main_arg6) = m ((c : Thread nD τ).loc main_arg6) := by
  have h0 : pre0 m c (Proc.devRef .tc main_arg6) = m ((c : Thread nD τ).loc main_arg6) := by unfold pre0; entry_read; try rfl
  have h1 : pre1 m c (Proc.devRef .tc main_arg6) = pre0 m c (Proc.devRef .tc main_arg6) := by unfold pre1; entry_read; try rfl
  have h2 : pre2 m c (Proc.devRef .tc main_arg6) = pre1 m c (Proc.devRef .tc main_arg6) := by unfold pre2; entry_read; try rfl
  have h3 : pre3 m c (Proc.devRef .tc main_arg6) = pre2 m c (Proc.devRef .tc main_arg6) := by unfold pre3; entry_read; try rfl
  exact h3.trans (h2.trans (h1.trans h0))

theorem pre_arg8 : pre3 m c (Proc.devRef .tc main_arg8) = m ((c : Thread nD τ).loc main_arg8) := by
  have h0 : pre0 m c (Proc.devRef .tc main_arg8) = m ((c : Thread nD τ).loc main_arg8) := by unfold pre0; entry_read; try rfl
  have h1 : pre1 m c (Proc.devRef .tc main_arg8) = pre0 m c (Proc.devRef .tc main_arg8) := by unfold pre1; entry_read; try rfl
  have h2 : pre2 m c (Proc.devRef .tc main_arg8) = pre1 m c (Proc.devRef .tc main_arg8) := by unfold pre2; entry_read; try rfl
  have h3 : pre3 m c (Proc.devRef .tc main_arg8) = pre2 m c (Proc.devRef .tc main_arg8) := by unfold pre3; entry_read; try rfl
  exact h3.trans (h2.trans (h1.trans h0))

theorem v28_at (R : Fin 65536) (j : Fin 1024) :
    V m c main_v28 (ix2 R j) = x0 m c (ix3 (⟨R.val / 4096, by omega⟩ : Fin 16) (⟨R.val % 4096, by omega⟩ : Fin 4096) j) := by
  rw [V_eq]
  entry_read
  pointwise [x0]
  rw [pre_arg0]

theorem v58_at (k : Fin 1024) : V m c main_v58 (ix2 (0 : Fin 1) k) = g0 m c (ix1 k) := by
  rw [V_eq]
  entry_read
  pointwise [g0]
  rw [pre_arg2]

/-- The first 1536 columns of the projection. -/
theorem v59_low (k : Fin 1024) (e : Fin 1536) : V m c main_v59 (ix2 k (⟨e.val, by omega⟩ : Fin 2048)) = w0 m c (ix2 k (⟨e.val, by omega⟩ : Fin 2816)) := by
  rw [V_eq]
  entry_read
  pointwise [w0]
  rw [pre_arg1]
  try rfl

/-- The gate's columns of the projection. -/
theorem v59_high (k : Fin 1024) (e : Fin 512) : V m c main_v59 (ix2 k (⟨1536 + e.val, by omega⟩ : Fin 2048)) = w0 m c (ix2 k (⟨2304 + e.val, by omega⟩ : Fin 2816)) := by
  rw [V_eq]
  entry_read
  pointwise [w0]
  rw [pre_arg1]
  try rfl

/-- The keys' columns of the projection, as rows. -/
theorem v60_at (e : Fin 128) (k : Fin 1024) : V m c main_v60 (ix2 (⟨512 + e.val, by omega⟩ : Fin 768) k) = w0 m c (ix2 k (⟨2048 + e.val, by omega⟩ : Fin 2816)) := by
  rw [V_eq]
  entry_read
  pointwise [w0]
  rw [pre_arg1]
  exact congrArg (fun q : Fin 2816 => (m ((c : Thread nD τ).loc main_arg1) : S1024x2816.Idx → EReal) (ix2 k q)) (Fin.ext (by show 1536 + (512 + e.val) = 2048 + e.val; omega))

theorem v61_at (e : Fin 512) : V m c main_v61 (ix2 (0 : Fin 1) e) = ag0 m c (ix1 e) := by
  rw [V_eq]
  entry_read
  pointwise [ag0]
  rw [pre_arg3]

theorem v62_at (e : Fin 512) : V m c main_v62 (ix2 (0 : Fin 1) e) = ab0 m c (ix1 e) := by
  rw [V_eq]
  entry_read
  pointwise [ab0]
  rw [pre_arg4]

/-- Two groups' weights side by side. -/
theorem v63_at (p : Fin 4) (i : Fin 128) (j : Fin 256) :
    V m c main_v63 (ix3 p i j) = sw0 m c (ix3 (⟨2 * p.val + j.val / 128, by omega⟩ : Fin 8) i (⟨j.val % 128, by omega⟩ : Fin 128)) := by
  rw [V_eq]
  entry_read
  pointwise [sw0]
  rw [pre_arg5]
  split
  · exact congrArg (fun q : S8x128x128.Idx => (m ((c : Thread nD τ).loc main_arg5) : S8x128x128.Idx → EReal) q) (congrArg₂ (fun (q : Fin 8) (k : Fin 128) => ix3 q i k) (Fin.ext (by show 2 * p.val = 2 * p.val + j.val / 128; omega)) (Fin.ext (by show j.val = j.val % 128; omega)))
  · exact congrArg (fun q : S8x128x128.Idx => (m ((c : Thread nD τ).loc main_arg5) : S8x128x128.Idx → EReal) q) (congrArg₂ (fun (q : Fin 8) (k : Fin 128) => ix3 q i k) (Fin.ext (by show 1 + 2 * p.val = 2 * p.val + j.val / 128; omega)) (Fin.ext (by show j.val - 128 = j.val % 128; omega)))

/-- A group's bias along its lanes. -/
theorem v64_at (i : Fin 128) (e : Fin 512) : V m c main_v64 (ix2 i e) = sb0 m c (ix2 (⟨e.val / 64, by omega⟩ : Fin 8) i) := by
  rw [V_eq]
  entry_read
  pointwise [sb0]
  rw [pre_arg6]

theorem v66_at (d : Fin 64) (l : Fin 128) : V m c main_v66 (ix2 d l) = kg0 m c (ix1 d) := by
  rw [V_eq]
  entry_read
  pointwise [kg0]
  rw [pre_arg8]

/-- The positions and the divisor, as the calls of the host find them. -/
theorem pre0_v0 : (pre0 m c (Proc.devRef .tc main_v0) : S4096.Idx → BitVec 32) = iotaInDim S4096 32 0 := by
  unfold pre0
  entry_read
  rfl

theorem pre0_c : (pre0 m c (Proc.devRef .tc main_c) : S_.Idx → BitVec 32) = constantI S_ 32 64#32 := by
  unfold pre0
  entry_read
  rfl

theorem pre2_v0 : (pre2 m c (Proc.devRef .tc main_v0) : S4096.Idx → BitVec 32) = iotaInDim S4096 32 0 := by
  have h2 : pre2 m c (Proc.devRef .tc main_v0) = pre1 m c (Proc.devRef .tc main_v0) := by unfold pre2; entry_read; try rfl
  have h1 : pre1 m c (Proc.devRef .tc main_v0) = pre0 m c (Proc.devRef .tc main_v0) := by unfold pre1; entry_read; try rfl
  exact h2.trans (h1.trans (pre0_v0 m c))

theorem pre2_c : (pre2 m c (Proc.devRef .tc main_c_0) : S_.Idx → BitVec 32) = constantI S_ 32 64#32 := by
  unfold pre2
  entry_read
  rfl

/-- The sign of an integer word. -/
def sgn (x : BitVec 32) : BitVec 32 := if x = 0 then 0 else if x.msb then -1 else 1

/-- Division by 64 rounded down, and the remainder it leaves, as the host writes them. -/
def floored (x : BitVec 32) : BitVec 32 :=
  Scalar.select (IntOp.andi (IntOp.cmpi .ne (sgn x) (sgn 64#32)) (IntOp.cmpi .ne (IntOp.remsi .host x 64#32) 0#32)) (IntOp.subi (IntOp.divsi .host x 64#32) 1#32) (IntOp.divsi .host x 64#32)
def divisor : BitVec 32 := Scalar.select (IntOp.cmpi .eq 64#32 0#32) 1#32 64#32
def remains (x : BitVec 32) : BitVec 32 :=
  Scalar.select (IntOp.andi (IntOp.cmpi .ne (IntOp.cmpi .slt (IntOp.remsi .host x divisor) 0#32) (IntOp.cmpi .slt divisor 0#32)) (IntOp.cmpi .ne (IntOp.remsi .host x divisor) 0#32)) (IntOp.addi (IntOp.remsi .host x divisor) divisor) (IntOp.remsi .host x divisor)

theorem floored_eq : ∀ n : Fin 4096, floored (BitVec.ofNat 32 n.val) = BitVec.ofNat 32 (n.val / 64) := by decide +kernel
theorem remains_eq : ∀ n : Fin 4096, remains (BitVec.ofNat 32 n.val) = BitVec.ofNat 32 (n.val % 64) := by decide +kernel

/-- A position's row in the grid. -/
theorem v1_at (n : Fin 4096) : (pre1 m c (Proc.devRef .tc main_v1) : S4096.Idx → BitVec 32) (ix1 n) = BitVec.ofNat 32 (n.val / 64) := by
  unfold pre1
  entry_read
  rw [pre0_v0, pre0_c]
  refine Eq.trans ?_ (floored_eq n)
  simp only [StableHlo.TRef.ofBuf, StableHlo.TRef.toBuf, cast_eq]
  rfl

/-- A position's column in the grid. -/
theorem v3_at (n : Fin 4096) : (pre3 m c (Proc.devRef .tc main_v3) : S4096.Idx → BitVec 32) (ix1 n) = BitVec.ofNat 32 (n.val % 64) := by
  unfold pre3
  entry_read
  rw [pre2_v0, pre2_c]
  refine Eq.trans ?_ (remains_eq n)
  simp only [StableHlo.TRef.ofBuf, StableHlo.TRef.toBuf, cast_eq]
  rfl

theorem v2_at (n : Fin 4096) : (pre3 m c (Proc.devRef .tc main_v2) : S4096.Idx → EReal) (ix1 n) = word (n.val / 64) := by
  have h3 : pre3 m c (Proc.devRef .tc main_v2) = pre2 m c (Proc.devRef .tc main_v2) := by unfold pre3; entry_read; try rfl
  rw [h3]
  unfold pre2
  entry_read
  exact congrArg (FloatOps.sitofp (F := Ideal) .f32) (v1_at m c n)

theorem v26_low (o : Fin 16) (n : Fin 4096) : V m c main_v26 (ix2 (⟨o.val, by omega⟩ : Fin 32) n) = Ideal.cos (freq o * word (n.val / 64)) := by
  rw [V_eq]
  entry_read
  pointwise [freq, word]
  exact congrArg (fun z : EReal => Ideal.cos (freq o * z)) (v2_at m c n)

theorem v26_high (o : Fin 16) (n : Fin 4096) : V m c main_v26 (ix2 (⟨16 + o.val, by omega⟩ : Fin 32) n) = Ideal.cos (freq o * word (n.val % 64)) := by
  rw [V_eq]
  entry_read
  pointwise [freq, word]
  exact congrArg (fun z : BitVec 32 => Ideal.cos (freq o * FloatOps.sitofp (F := Ideal) .f32 z)) (v3_at m c n)

theorem v27_low (o : Fin 16) (n : Fin 4096) : V m c main_v27 (ix2 (⟨o.val, by omega⟩ : Fin 32) n) = Ideal.sin (freq o * word (n.val / 64)) := by
  rw [V_eq]
  entry_read
  pointwise [freq, word]
  exact congrArg (fun z : EReal => Ideal.sin (freq o * z)) (v2_at m c n)

theorem v27_high (o : Fin 16) (n : Fin 4096) : V m c main_v27 (ix2 (⟨16 + o.val, by omega⟩ : Fin 32) n) = Ideal.sin (freq o * word (n.val % 64)) := by
  rw [V_eq]
  entry_read
  pointwise [freq, word]
  exact congrArg (fun z : BitVec 32 => Ideal.sin (freq o * FloatOps.sitofp (F := Ideal) .f32 z)) (v3_at m c n)

end Cert.Kernel3Ideal.In

end
-- ==== Proof.InRef.lean ====
module

public import proofs.«01_k».proof.Proof.Gen.Reference3Ideal.Run
public import proofs.«01_k».proof.Proof.InRope

@[expose] public section

set_option maxRecDepth 16384

noncomputable section

namespace Cert.Reference3Ideal.Ref

open Idealize.ShloMosaic Idealize.ShloMosaic.TcCoe Idealize.SL.Sem
open Cert.Reference3Ideal Cert.Reference3Ideal.Gen Cert.RowPure Cert.InPure

/-- The normed activations. -/
def hid (x : FVec Ideal S16x4096x1024 .f32) (g : FVec Ideal S1024 .f32) : FVec Ideal S16x4096x1024 .f32 :=
  mulf (mulf x (broadcastInDim S16x4096x1024 ![0, 1, 2] bcast_S16x4096x1_S16x4096x1024_0_1_2 (Host.rsqrt (addf (Host.divf (broadcastInDim S16x4096x1 ![0, 1] bcast_S16x4096_S16x4096x1_0_1 (Host.reduceAdd (mulf x x) (constant S_ .f32 0x00000000#32) reducesTo_S16x4096x1024_S16x4096_d2 h_S_)) (broadcastInDim S16x4096x1 ![] bcast_S_S16x4096x1 (constant S_ .f32 0x44800000#32))) (broadcastInDim S16x4096x1 ![] bcast_S_S16x4096x1 (constant S_ .f32 0x358637BD#32)))))) (broadcastInDim S16x4096x1024 ![0, 1, 2] bcast_S1x1x1024_S16x4096x1024_0_1_2 (broadcastInDim S1x1x1024 ![2] bcast_S1024_S1x1x1024_2 g))

/-- The input projection. -/
def proj (w : FVec Ideal S1024x2816 .f32) (h : FVec Ideal S16x4096x1024 .f32) : FVec Ideal S16x4096x2816 .f32 :=
  Host.dotGeneral dot_S16x4096x1024_S1024x2816_S16x4096x2816_2_0_01_1_n_n none h w

/-- The projection's columns from 0. -/
def cut0 (p : FVec Ideal S16x4096x2816 .f32) : FVec Ideal S16x4096x512 .f32 :=
  extractStridedSlice S16x4096x512 ![0, 0, 0] p slices_S16x4096x2816_S16x4096x512_0_0_0

/-- The projection's columns from 512. -/
def cut512 (p : FVec Ideal S16x4096x2816 .f32) : FVec Ideal S16x4096x512 .f32 :=
  extractStridedSlice S16x4096x512 ![0, 0, 512] p slices_S16x4096x2816_S16x4096x512_0_0_512

/-- The projection's columns from 1024. -/
def cut1024 (p : FVec Ideal S16x4096x2816 .f32) : FVec Ideal S16x4096x512 .f32 :=
  extractStridedSlice S16x4096x512 ![0, 0, 1024] p slices_S16x4096x2816_S16x4096x512_0_0_1024

/-- The projection's columns from 2304. -/
def cut2304 (p : FVec Ideal S16x4096x2816 .f32) : FVec Ideal S16x4096x512 .f32 :=
  extractStridedSlice S16x4096x512 ![0, 0, 2304] p slices_S16x4096x2816_S16x4096x512_0_0_2304

/-- The projection's columns from 2048. -/
def cut2048 (p : FVec Ideal S16x4096x2816 .f32) : FVec Ideal S16x4096x128 .f32 :=
  extractStridedSlice S16x4096x128 ![0, 0, 2048] p slices_S16x4096x2816_S16x4096x128_0_0_2048

/-- The gate. -/
def gate (t : FVec Ideal S16x4096x512 .f32) : FVec Ideal S16x4096x512 .f32 :=
  mulf t (Host.divf (broadcastInDim S16x4096x512 ![] bcast_S_S16x4096x512 (constant S_ .f32 0x3F800000#32)) (addf (broadcastInDim S16x4096x512 ![] bcast_S_S16x4096x512 (constant S_ .f32 0x3F800000#32)) (Host.exp (Host.negf t))))

/-- The layer norm. -/
def lay (a b : FVec Ideal S512 .f32) (v : FVec Ideal S16x4096x512 .f32) : FVec Ideal S16x4096x512 .f32 :=
  addf (mulf (mulf (subf v (broadcastInDim S16x4096x512 ![0, 1, 2] bcast_S16x4096x1_S16x4096x512_0_1_2 (Host.divf (broadcastInDim S16x4096x1 ![0, 1] bcast_S16x4096_S16x4096x1_0_1 (Host.reduceAdd v (constant S_ .f32 0x00000000#32) reducesTo_S16x4096x512_S16x4096_d2 h_S_)) (broadcastInDim S16x4096x1 ![] bcast_S_S16x4096x1 (constant S_ .f32 0x44000000#32))))) (broadcastInDim S16x4096x512 ![0, 1, 2] bcast_S16x4096x1_S16x4096x512_0_1_2 (Host.rsqrt (addf (Host.divf (broadcastInDim S16x4096x1 ![0, 1] bcast_S16x4096_S16x4096x1_0_1 (Host.reduceAdd (mulf (subf v (broadcastInDim S16x4096x512 ![0, 1, 2] bcast_S16x4096x1_S16x4096x512_0_1_2 (Host.divf (broadcastInDim S16x4096x1 ![0, 1] bcast_S16x4096_S16x4096x1_0_1 (Host.reduceAdd v (constant S_ .f32 0x00000000#32) reducesTo_S16x4096x512_S16x4096_d2 h_S_)) (broadcastInDim S16x4096x1 ![] bcast_S_S16x4096x1 (constant S_ .f32 0x44000000#32))))) (subf v (broadcastInDim S16x4096x512 ![0, 1, 2] bcast_S16x4096x1_S16x4096x512_0_1_2 (Host.divf (broadcastInDim S16x4096x1 ![0, 1] bcast_S16x4096_S16x4096x1_0_1 (Host.reduceAdd v (constant S_ .f32 0x00000000#32) reducesTo_S16x4096x512_S16x4096_d2 h_S_)) (broadcastInDim S16x4096x1 ![] bcast_S_S16x4096x1 (constant S_ .f32 0x44000000#32)))))) (constant S_ .f32 0x00000000#32) reducesTo_S16x4096x512_S16x4096_d2 h_S_)) (broadcastInDim S16x4096x1 ![] bcast_S_S16x4096x1 (constant S_ .f32 0x44000000#32))) (broadcastInDim S16x4096x1 ![] bcast_S_S16x4096x1 (constant S_ .f32 0x358637BD#32)))))) (broadcastInDim S16x4096x512 ![0, 1, 2] bcast_S1x1x512_S16x4096x512_0_1_2 (broadcastInDim S1x1x512 ![2] bcast_S512_S1x1x512_2 a))) (broadcastInDim S16x4096x512 ![0, 1, 2] bcast_S1x1x512_S16x4096x512_0_1_2 (broadcastInDim S1x1x512 ![2] bcast_S512_S1x1x512_2 b))

/-- The mix over a chunk of rows. -/
def spat (sw : FVec Ideal S8x128x128 .f32) (sb : FVec Ideal S8x128 .f32) (v : FVec Ideal S16x4096x512 .f32) : FVec Ideal S16x4096x512 .f32 :=
  shapeCast _ (addf (transpose S16x32x128x8x64 [1, 2, 4, 0, 3] (Host.dotGeneral dot_S16x32x128x8x64_S8x128x128_S8x16x32x64x128_2_2_014_1_3_0 none (shapeCast _ v shapeCasts_S16x4096x512_S16x32x128x8x64) sw) transposes_S8x16x32x64x128_S16x32x128x8x64_1_2_4_0_3) (broadcastInDim S16x32x128x8x64 ![0, 1, 2, 3, 4] bcast_S1x1x128x8x1_S16x32x128x8x64_0_1_2_3_4 (broadcastInDim S1x1x128x8x1 ![2, 3] bcast_S128x8_S1x1x128x8x1_2_3 (transpose S128x8 [1, 0] sb transposes_S8x128_S128x8_1_0)))) shapeCasts_S16x32x128x8x64_S16x4096x512

/-- The keys' columns, head by head. -/
def heads (t : FVec Ideal S16x4096x128 .f32) : FVec Ideal S16x4096x2x64 .f32 :=
  shapeCast _ t shapeCasts_S16x4096x128_S16x4096x2x64

/-- The norm of every head's row. -/
def hnm (kg : FVec Ideal S64 .f32) (t : FVec Ideal S16x4096x2x64 .f32) : FVec Ideal S16x4096x2x64 .f32 :=
  mulf (mulf t (broadcastInDim S16x4096x2x64 ![0, 1, 2, 3] bcast_S16x4096x2x1_S16x4096x2x64_0_1_2_3 (Host.rsqrt (addf (Host.divf (broadcastInDim S16x4096x2x1 ![0, 1, 2] bcast_S16x4096x2_S16x4096x2x1_0_1_2 (Host.reduceAdd (mulf t t) (constant S_ .f32 0x00000000#32) reducesTo_S16x4096x2x64_S16x4096x2_d3 h_S_)) (broadcastInDim S16x4096x2x1 ![] bcast_S_S16x4096x2x1 (constant S_ .f32 0x42800000#32))) (broadcastInDim S16x4096x2x1 ![] bcast_S_S16x4096x2x1 (constant S_ .f32 0x358637BD#32)))))) (broadcastInDim S16x4096x2x64 ![0, 1, 2, 3] bcast_S1x1x1x64_S16x4096x2x64_0_1_2_3 (broadcastInDim S1x1x1x64 ![3] bcast_S64_S1x1x1x64_3 kg))

/-- Column cosines. -/
def ccTab : FVec Ideal S16x4096x2x16 .f32 :=
  broadcastInDim S16x4096x2x16 ![0, 1, 2, 3] bcast_S1x4096x1x16_S16x4096x2x16_0_1_2_3 (broadcastInDim S1x4096x1x16 ![1, 2, 3] bcast_S4096x1x16_S1x4096x1x16_1_2_3 (broadcastInDim S4096x1x16 ![0, 2] bcast_S4096x16_S4096x1x16_0_2 (Host.cos (mulf (broadcastInDim S4096x16 ![0, 1] bcast_S4096x1_S4096x16_0_1 (broadcastInDim S4096x1 ![0] bcast_S4096_S4096x1_0 (shapeCast _ (broadcastInDim S64x64 ![0, 1] bcast_S1x64_S64x64_0_1 (broadcastInDim S1x64 ![1] bcast_S64_S1x64_1 (sitofp .f32 (iotaInDim S64 32 0)))) shapeCasts_S64x64_S4096))) (broadcastInDim S4096x16 ![0, 1] bcast_S1x16_S4096x16_0_1 (broadcastInDim S1x16 ![1] bcast_S16_S1x16_1 (Host.powf (broadcastInDim S16 ![] bcast_S_S16 (constant S_ .f32 0x461C4000#32)) (Host.divf (Host.negf (addf (broadcastInDim S16 ![] bcast_S_S16 (constant S_ .f32 0x00000000#32)) (mulf (broadcastInDim S16 ![] bcast_S_S16 (constant S_ .f32 0x40000000#32)) (sitofp .f32 (iotaInDim S16 32 0))))) (broadcastInDim S16 ![] bcast_S_S16 (constant S_ .f32 0x42000000#32))))))))))

/-- Column sines. -/
def scTab : FVec Ideal S16x4096x2x16 .f32 :=
  broadcastInDim S16x4096x2x16 ![0, 1, 2, 3] bcast_S1x4096x1x16_S16x4096x2x16_0_1_2_3 (broadcastInDim S1x4096x1x16 ![1, 2, 3] bcast_S4096x1x16_S1x4096x1x16_1_2_3 (broadcastInDim S4096x1x16 ![0, 2] bcast_S4096x16_S4096x1x16_0_2 (Host.sin (mulf (broadcastInDim S4096x16 ![0, 1] bcast_S4096x1_S4096x16_0_1 (broadcastInDim S4096x1 ![0] bcast_S4096_S4096x1_0 (shapeCast _ (broadcastInDim S64x64 ![0, 1] bcast_S1x64_S64x64_0_1 (broadcastInDim S1x64 ![1] bcast_S64_S1x64_1 (sitofp .f32 (iotaInDim S64 32 0)))) shapeCasts_S64x64_S4096))) (broadcastInDim S4096x16 ![0, 1] bcast_S1x16_S4096x16_0_1 (broadcastInDim S1x16 ![1] bcast_S16_S1x16_1 (Host.powf (broadcastInDim S16 ![] bcast_S_S16 (constant S_ .f32 0x461C4000#32)) (Host.divf (Host.negf (addf (broadcastInDim S16 ![] bcast_S_S16 (constant S_ .f32 0x00000000#32)) (mulf (broadcastInDim S16 ![] bcast_S_S16 (constant S_ .f32 0x40000000#32)) (sitofp .f32 (iotaInDim S16 32 0))))) (broadcastInDim S16 ![] bcast_S_S16 (constant S_ .f32 0x42000000#32))))))))))

/-- Row sines. -/
def srTab : FVec Ideal S16x4096x2x16 .f32 :=
  broadcastInDim S16x4096x2x16 ![0, 1, 2, 3] bcast_S1x4096x1x16_S16x4096x2x16_0_1_2_3 (broadcastInDim S1x4096x1x16 ![1, 2, 3] bcast_S4096x1x16_S1x4096x1x16_1_2_3 (broadcastInDim S4096x1x16 ![0, 2] bcast_S4096x16_S4096x1x16_0_2 (Host.sin (mulf (broadcastInDim S4096x16 ![0, 1] bcast_S4096x1_S4096x16_0_1 (broadcastInDim S4096x1 ![0] bcast_S4096_S4096x1_0 (shapeCast _ (broadcastInDim S64x64 ![0, 1] bcast_S64x1_S64x64_0_1 (broadcastInDim S64x1 ![0] bcast_S64_S64x1_0 (sitofp .f32 (iotaInDim S64 32 0)))) shapeCasts_S64x64_S4096))) (broadcastInDim S4096x16 ![0, 1] bcast_S1x16_S4096x16_0_1 (broadcastInDim S1x16 ![1] bcast_S16_S1x16_1 (Host.powf (broadcastInDim S16 ![] bcast_S_S16 (constant S_ .f32 0x461C4000#32)) (Host.divf (Host.negf (addf (broadcastInDim S16 ![] bcast_S_S16 (constant S_ .f32 0x00000000#32)) (mulf (broadcastInDim S16 ![] bcast_S_S16 (constant S_ .f32 0x40000000#32)) (sitofp .f32 (iotaInDim S16 32 0))))) (broadcastInDim S16 ![] bcast_S_S16 (constant S_ .f32 0x42000000#32))))))))))

/-- Row cosines. -/
def crTab : FVec Ideal S16x4096x2x16 .f32 :=
  broadcastInDim S16x4096x2x16 ![0, 1, 2, 3] bcast_S1x4096x1x16_S16x4096x2x16_0_1_2_3 (broadcastInDim S1x4096x1x16 ![1, 2, 3] bcast_S4096x1x16_S1x4096x1x16_1_2_3 (broadcastInDim S4096x1x16 ![0, 2] bcast_S4096x16_S4096x1x16_0_2 (Host.cos (mulf (broadcastInDim S4096x16 ![0, 1] bcast_S4096x1_S4096x16_0_1 (broadcastInDim S4096x1 ![0] bcast_S4096_S4096x1_0 (shapeCast _ (broadcastInDim S64x64 ![0, 1] bcast_S64x1_S64x64_0_1 (broadcastInDim S64x1 ![0] bcast_S64_S64x1_0 (sitofp .f32 (iotaInDim S64 32 0)))) shapeCasts_S64x64_S4096))) (broadcastInDim S4096x16 ![0, 1] bcast_S1x16_S4096x16_0_1 (broadcastInDim S1x16 ![1] bcast_S16_S1x16_1 (Host.powf (broadcastInDim S16 ![] bcast_S_S16 (constant S_ .f32 0x461C4000#32)) (Host.divf (Host.negf (addf (broadcastInDim S16 ![] bcast_S_S16 (constant S_ .f32 0x00000000#32)) (mulf (broadcastInDim S16 ![] bcast_S_S16 (constant S_ .f32 0x40000000#32)) (sitofp .f32 (iotaInDim S16 32 0))))) (broadcastInDim S16 ![] bcast_S_S16 (constant S_ .f32 0x42000000#32))))))))))

/-- The rotary turn. -/
def turn (t : FVec Ideal S16x4096x2x64 .f32) : FVec Ideal S16x4096x2x64 .f32 :=
  concatenate S16x4096x2x64 3 [⟨S16x4096x2x32, (concatenate S16x4096x2x32 3 [⟨S16x4096x2x16, (subf (mulf (extractStridedSlice S16x4096x2x16 ![0, 0, 0, 0] (extractStridedSlice S16x4096x2x32 ![0, 0, 0, 0] t slices_S16x4096x2x64_S16x4096x2x32_0_0_0_0) slices_S16x4096x2x32_S16x4096x2x16_0_0_0_0) crTab) (mulf (extractStridedSlice S16x4096x2x16 ![0, 0, 0, 16] (extractStridedSlice S16x4096x2x32 ![0, 0, 0, 0] t slices_S16x4096x2x64_S16x4096x2x32_0_0_0_0) slices_S16x4096x2x32_S16x4096x2x16_0_0_0_16) srTab))⟩, ⟨S16x4096x2x16, (addf (mulf (extractStridedSlice S16x4096x2x16 ![0, 0, 0, 16] (extractStridedSlice S16x4096x2x32 ![0, 0, 0, 0] t slices_S16x4096x2x64_S16x4096x2x32_0_0_0_0) slices_S16x4096x2x32_S16x4096x2x16_0_0_0_16) crTab) (mulf (extractStridedSlice S16x4096x2x16 ![0, 0, 0, 0] (extractStridedSlice S16x4096x2x32 ![0, 0, 0, 0] t slices_S16x4096x2x64_S16x4096x2x32_0_0_0_0) slices_S16x4096x2x32_S16x4096x2x16_0_0_0_0) srTab))⟩] concatenates_S16x4096x2x16_S16x4096x2x16_S16x4096x2x32_d3)⟩, ⟨S16x4096x2x32, (concatenate S16x4096x2x32 3 [⟨S16x4096x2x16, (subf (mulf (extractStridedSlice S16x4096x2x16 ![0, 0, 0, 0] (extractStridedSlice S16x4096x2x32 ![0, 0, 0, 32] t slices_S16x4096x2x64_S16x4096x2x32_0_0_0_32) slices_S16x4096x2x32_S16x4096x2x16_0_0_0_0) ccTab) (mulf (extractStridedSlice S16x4096x2x16 ![0, 0, 0, 16] (extractStridedSlice S16x4096x2x32 ![0, 0, 0, 32] t slices_S16x4096x2x64_S16x4096x2x32_0_0_0_32) slices_S16x4096x2x32_S16x4096x2x16_0_0_0_16) scTab))⟩, ⟨S16x4096x2x16, (addf (mulf (extractStridedSlice S16x4096x2x16 ![0, 0, 0, 16] (extractStridedSlice S16x4096x2x32 ![0, 0, 0, 32] t slices_S16x4096x2x64_S16x4096x2x32_0_0_0_32) slices_S16x4096x2x32_S16x4096x2x16_0_0_0_16) ccTab) (mulf (extractStridedSlice S16x4096x2x16 ![0, 0, 0, 0] (extractStridedSlice S16x4096x2x32 ![0, 0, 0, 32] t slices_S16x4096x2x64_S16x4096x2x32_0_0_0_32) slices_S16x4096x2x32_S16x4096x2x16_0_0_0_0) scTab))⟩] concatenates_S16x4096x2x16_S16x4096x2x16_S16x4096x2x32_d3)⟩] concatenates_S16x4096x2x32_S16x4096x2x32_S16x4096x2x64_d3

theorem hid_at (x : FVec Ideal S16x4096x1024 .f32) (g : FVec Ideal S1024 .f32) (B : Fin 16) (n : Fin 4096) (k : Fin 1024) :
    hid x g (ix3 B n k) = hrow (fun k => x (ix3 B n k)) (fun k => g (ix1 k)) k := by
  pointwise [hid, hrow, nrm]

theorem proj_at (w : FVec Ideal S1024x2816 .f32) (h : FVec Ideal S16x4096x1024 .f32) (B : Fin 16) (n : Fin 4096) (j : Fin 2816) :
    proj w h (ix3 B n j) = prj (fun k => h (ix3 B n k)) (fun k => w (ix2 k j)) := by
  pointwise [proj, prj]

theorem cut0_at (p : FVec Ideal S16x4096x2816 .f32) (B : Fin 16) (n : Fin 4096) (e : Fin 512) : cut0 p (ix3 B n e) = p (ix3 B n (⟨e.val, by omega⟩ : Fin 2816)) := by
  pointwise [cut0]

theorem cut512_at (p : FVec Ideal S16x4096x2816 .f32) (B : Fin 16) (n : Fin 4096) (e : Fin 512) : cut512 p (ix3 B n e) = p (ix3 B n (⟨512 + e.val, by omega⟩ : Fin 2816)) := by
  pointwise [cut512]

theorem cut1024_at (p : FVec Ideal S16x4096x2816 .f32) (B : Fin 16) (n : Fin 4096) (e : Fin 512) : cut1024 p (ix3 B n e) = p (ix3 B n (⟨1024 + e.val, by omega⟩ : Fin 2816)) := by
  pointwise [cut1024]

theorem cut2304_at (p : FVec Ideal S16x4096x2816 .f32) (B : Fin 16) (n : Fin 4096) (e : Fin 512) : cut2304 p (ix3 B n e) = p (ix3 B n (⟨2304 + e.val, by omega⟩ : Fin 2816)) := by
  pointwise [cut2304]

theorem cut2048_at (p : FVec Ideal S16x4096x2816 .f32) (B : Fin 16) (n : Fin 4096) (e : Fin 128) : cut2048 p (ix3 B n e) = p (ix3 B n (⟨2048 + e.val, by omega⟩ : Fin 2816)) := by
  pointwise [cut2048]

theorem gate_at (t : FVec Ideal S16x4096x512 .f32) (B : Fin 16) (n : Fin 4096) (e : Fin 512) : gate t (ix3 B n e) = gateE (t (ix3 B n e)) := by
  pointwise [gate, gateE]

theorem lay_at (a b : FVec Ideal S512 .f32) (v : FVec Ideal S16x4096x512 .f32) (B : Fin 16) (n : Fin 4096) (e : Fin 512) :
    lay a b v (ix3 B n e) = lnorm (fun e => v (ix3 B n e)) (fun e => a (ix1 e)) (fun e => b (ix1 e)) e := by
  pointwise [lay, lnorm, avg]

theorem spat_at (sw : FVec Ideal S8x128x128 .f32) (sb : FVec Ideal S8x128 .f32) (v : FVec Ideal S16x4096x512 .f32) (B : Fin 16) (n : Fin 4096) (e : Fin 512) :
    spat sw sb v (ix3 B n e) = (∑ j : Fin 128, (v (ix3 B (⟨n.val / 128 * 128 + j.val, by omega⟩ : Fin 4096) e) : EReal) * sw (ix3 (⟨e.val / 64, by omega⟩ : Fin 8) (⟨n.val % 128, by omega⟩ : Fin 128) j))
      + sb (ix2 (⟨e.val / 64, by omega⟩ : Fin 8) (⟨n.val % 128, by omega⟩ : Fin 128)) := by
  pointwise [spat]

theorem heads_at (t : FVec Ideal S16x4096x128 .f32) (B : Fin 16) (n : Fin 4096) (h : Fin 2) (d : Fin 64) : heads t (ix4 B n h d) = t (ix3 B n (⟨h.val * 64 + d.val, by omega⟩ : Fin 128)) := by
  pointwise [heads]

theorem hnm_at (kg : FVec Ideal S64 .f32) (t : FVec Ideal S16x4096x2x64 .f32) (B : Fin 16) (n : Fin 4096) (h : Fin 2) (d : Fin 64) :
    hnm kg t (ix4 B n h d) = hnorm (fun d => t (ix4 B n h d)) (fun d => kg (ix1 d)) d := by
  pointwise [hnm, hnorm]

theorem crTab_at (B : Fin 16) (n : Fin 4096) (h : Fin 2) (o : Fin 16) : crTab (ix4 B n h o) = Ideal.cos (freq o * word (n.val / 64)) := by
  rw [mul_comm]
  pointwise [crTab, freq, word]

theorem ccTab_at (B : Fin 16) (n : Fin 4096) (h : Fin 2) (o : Fin 16) : ccTab (ix4 B n h o) = Ideal.cos (freq o * word (n.val % 64)) := by
  rw [mul_comm]
  pointwise [ccTab, freq, word]

theorem srTab_at (B : Fin 16) (n : Fin 4096) (h : Fin 2) (o : Fin 16) : srTab (ix4 B n h o) = Ideal.sin (freq o * word (n.val / 64)) := by
  rw [mul_comm]
  pointwise [srTab, freq, word]

theorem scTab_at (B : Fin 16) (n : Fin 4096) (h : Fin 2) (o : Fin 16) : scTab (ix4 B n h o) = Ideal.sin (freq o * word (n.val % 64)) := by
  rw [mul_comm]
  pointwise [scTab, freq, word]

theorem turn_at (t : FVec Ideal S16x4096x2x64 .f32) (c s : Fin 32 → EReal) (B : Fin 16) (n : Fin 4096) (h : Fin 2)
    (cr : ∀ o : Fin 16, crTab (ix4 B n h o) = c (⟨o.val, by omega⟩ : Fin 32)) (cc : ∀ o : Fin 16, ccTab (ix4 B n h o) = c (⟨16 + o.val, by omega⟩ : Fin 32))
    (sr : ∀ o : Fin 16, srTab (ix4 B n h o) = s (⟨o.val, by omega⟩ : Fin 32)) (sc : ∀ o : Fin 16, scTab (ix4 B n h o) = s (⟨16 + o.val, by omega⟩ : Fin 32)) (d : Fin 64) :
    turn t (ix4 B n h d) = turned (fun d => t (ix4 B n h d)) c s d := by
  pointwise [turn]
  simp only [cr, cc, sr, sc]
  exact turned_eq (fun d => t (ix4 B n h d)) c s d

/-- The reference's three results: the gated mixer's output, the gate and the keys. -/
def resY (x : FVec Ideal S16x4096x1024 .f32) (w : FVec Ideal S1024x2816 .f32) (g : FVec Ideal S1024 .f32) (a b : FVec Ideal S512 .f32) (sw : FVec Ideal S8x128x128 .f32) (sb : FVec Ideal S8x128 .f32) : FVec Ideal S65536x512 .bf16 :=
  truncf .bf16 (shapeCast _ (mulf (mulf (cut0 (proj w (hid x g))) (spat sw sb (lay a b (cut512 (proj w (hid x g)))))) (gate (cut1024 (proj w (hid x g))))) shapeCasts_S16x4096x512_S65536x512) bitsLt_bf16_f32

def resG (x : FVec Ideal S16x4096x1024 .f32) (w : FVec Ideal S1024x2816 .f32) (g : FVec Ideal S1024 .f32) : FVec Ideal S65536x512 .f32 :=
  shapeCast _ (gate (cut2304 (proj w (hid x g)))) shapeCasts_S16x4096x512_S65536x512

def resK (x : FVec Ideal S16x4096x1024 .f32) (w : FVec Ideal S1024x2816 .f32) (g : FVec Ideal S1024 .f32) (kg : FVec Ideal S64 .f32) : FVec Ideal S65536x128 .bf16 :=
  truncf .bf16 (shapeCast _ (turn (hnm kg (heads (cut2048 (proj w (hid x g)))))) shapeCasts_S16x4096x2x64_S65536x128) bitsLt_bf16_f32

/-- A batch's position's normed row, from the row of all positions it is. -/
def row (x : FVec Ideal S16x4096x1024 .f32) (g : FVec Ideal S1024 .f32) (B : Fin 16) (n : Fin 4096) : Fin 1024 → EReal :=
  hrow (fun k => x (ix3 B n k)) (fun k => g (ix1 k))

theorem col_at (x : FVec Ideal S16x4096x1024 .f32) (w : FVec Ideal S1024x2816 .f32) (g : FVec Ideal S1024 .f32) (B : Fin 16) (n : Fin 4096) (j : Fin 2816) :
    proj w (hid x g) (ix3 B n j) = prj (row x g B n) (fun k => w (ix2 k j)) := by
  rw [proj_at]
  exact congrArg₂ prj (funext fun k => hid_at x g B n k) rfl

theorem resG_at (x : FVec Ideal S16x4096x1024 .f32) (w : FVec Ideal S1024x2816 .f32) (g : FVec Ideal S1024 .f32) (R : Fin 65536) (e : Fin 512) :
    resG x w g (ix2 R e) = gateE (prj (row x g (⟨R.val / 4096, by omega⟩ : Fin 16) (⟨R.val % 4096, by omega⟩ : Fin 4096)) (fun k => w (ix2 k (⟨2304 + e.val, by omega⟩ : Fin 2816)))) := by
  have h : resG x w g (ix2 R e) = gate (cut2304 (proj w (hid x g))) (ix3 (⟨R.val / 4096, by omega⟩ : Fin 16) (⟨R.val % 4096, by omega⟩ : Fin 4096) e) := by
    pointwise [resG]
  rw [h, gate_at, cut2304_at, col_at]

theorem resY_at (x : FVec Ideal S16x4096x1024 .f32) (w : FVec Ideal S1024x2816 .f32) (g : FVec Ideal S1024 .f32) (a b : FVec Ideal S512 .f32) (sw : FVec Ideal S8x128x128 .f32) (sb : FVec Ideal S8x128 .f32) (R : Fin 65536) (e : Fin 512) :
    resY x w g a b sw sb (ix2 R e) =
      mixed (prj (row x g (⟨R.val / 4096, by omega⟩ : Fin 16) (⟨R.val % 4096, by omega⟩ : Fin 4096)) (fun k => w (ix2 k (⟨e.val, by omega⟩ : Fin 2816))))
        (fun j e => prj (row x g (⟨R.val / 4096, by omega⟩ : Fin 16) (⟨R.val % 4096 / 128 * 128 + j.val, by omega⟩ : Fin 4096)) (fun k => w (ix2 k (⟨512 + e.val, by omega⟩ : Fin 2816))))
        (fun e => a (ix1 e)) (fun e => b (ix1 e)) (fun j => sw (ix3 (⟨e.val / 64, by omega⟩ : Fin 8) (⟨R.val % 4096 % 128, by omega⟩ : Fin 128) j)) (sb (ix2 (⟨e.val / 64, by omega⟩ : Fin 8) (⟨R.val % 4096 % 128, by omega⟩ : Fin 128))) e
      * gateE (prj (row x g (⟨R.val / 4096, by omega⟩ : Fin 16) (⟨R.val % 4096, by omega⟩ : Fin 4096)) (fun k => w (ix2 k (⟨1024 + e.val, by omega⟩ : Fin 2816)))) := by
  have h : resY x w g a b sw sb (ix2 R e) = cut0 (proj w (hid x g)) (ix3 (⟨R.val / 4096, by omega⟩ : Fin 16) (⟨R.val % 4096, by omega⟩ : Fin 4096) e)
      * spat sw sb (lay a b (cut512 (proj w (hid x g)))) (ix3 (⟨R.val / 4096, by omega⟩ : Fin 16) (⟨R.val % 4096, by omega⟩ : Fin 4096) e)
      * gate (cut1024 (proj w (hid x g))) (ix3 (⟨R.val / 4096, by omega⟩ : Fin 16) (⟨R.val % 4096, by omega⟩ : Fin 4096) e) := by
    pointwise [resY]
  rw [h, gate_at, cut1024_at, cut0_at, spat_at]
  simp only [lay_at, cut512_at, col_at]
  refine congrArg₂ (fun a b : EReal => a * b) ?_ rfl
  exact congrArg₂ (fun a b : EReal => a * b) rfl (congrArg₂ (fun a b : EReal => a + b) (Finset.sum_congr rfl fun j _ => mul_comm _ _) rfl)

theorem resK_at (x : FVec Ideal S16x4096x1024 .f32) (w : FVec Ideal S1024x2816 .f32) (g : FVec Ideal S1024 .f32) (kg : FVec Ideal S64 .f32) (c s : Fin 32 → EReal) (R : Fin 65536) (e : Fin 128)
    (cr : ∀ o : Fin 16, c (⟨o.val, by omega⟩ : Fin 32) = Ideal.cos (freq o * word (R.val % 4096 / 64))) (cc : ∀ o : Fin 16, c (⟨16 + o.val, by omega⟩ : Fin 32) = Ideal.cos (freq o * word (R.val % 4096 % 64)))
    (sr : ∀ o : Fin 16, s (⟨o.val, by omega⟩ : Fin 32) = Ideal.sin (freq o * word (R.val % 4096 / 64))) (sc : ∀ o : Fin 16, s (⟨16 + o.val, by omega⟩ : Fin 32) = Ideal.sin (freq o * word (R.val % 4096 % 64))) :
    resK x w g kg (ix2 R e) = turned (hnorm (fun d => prj (row x g (⟨R.val / 4096, by omega⟩ : Fin 16) (⟨R.val % 4096, by omega⟩ : Fin 4096)) (fun k => w (ix2 k (⟨2048 + (e.val / 64 * 64 + d.val), by omega⟩ : Fin 2816)))) (fun d => kg (ix1 d))) c s ⟨e.val % 64, by omega⟩ := by
  have h : resK x w g kg (ix2 R e) = turn (hnm kg (heads (cut2048 (proj w (hid x g))))) (ix4 (⟨R.val / 4096, by omega⟩ : Fin 16) (⟨R.val % 4096, by omega⟩ : Fin 4096) (⟨e.val / 64, by omega⟩ : Fin 2) (⟨e.val % 64, by omega⟩ : Fin 64)) := by
    pointwise [resK]
  refine h.trans ((turn_at _ c s (⟨R.val / 4096, by omega⟩ : Fin 16) (⟨R.val % 4096, by omega⟩ : Fin 4096) (⟨e.val / 64, by omega⟩ : Fin 2)
    (fun o => (crTab_at (⟨R.val / 4096, by omega⟩ : Fin 16) (⟨R.val % 4096, by omega⟩ : Fin 4096) (⟨e.val / 64, by omega⟩ : Fin 2) o).trans (cr o).symm)
    (fun o => (ccTab_at (⟨R.val / 4096, by omega⟩ : Fin 16) (⟨R.val % 4096, by omega⟩ : Fin 4096) (⟨e.val / 64, by omega⟩ : Fin 2) o).trans (cc o).symm)
    (fun o => (srTab_at (⟨R.val / 4096, by omega⟩ : Fin 16) (⟨R.val % 4096, by omega⟩ : Fin 4096) (⟨e.val / 64, by omega⟩ : Fin 2) o).trans (sr o).symm)
    (fun o => (scTab_at (⟨R.val / 4096, by omega⟩ : Fin 16) (⟨R.val % 4096, by omega⟩ : Fin 4096) (⟨e.val / 64, by omega⟩ : Fin 2) o).trans (sc o).symm) _).trans ?_)
  simp only [hnm_at, heads_at, cut2048_at, col_at]

/-- The gated mixer as a run of the reference states it is `resY` of the arguments. -/
theorem resY_eq (m : (ℓ : Loc nD τ sig) → Buf (Elt Ideal) ℓ) (c : Dev nD) :
    Cert.Reference3Ideal.Value.res_main_v144 m c = resY (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := rfl

/-- The keys as a run of the reference states them are `resK` of the arguments. -/
theorem resK_eq (m : (ℓ : Loc nD τ sig) → Buf (Elt Ideal) ℓ) (c : Dev nD) :
    Cert.Reference3Ideal.Value.res_main_v148 m c = resK (m ((c : Thread nD τ).loc main_arg0)) (m ((c : Thread nD τ).loc main_arg1)) (m ((c : Thread nD τ).loc main_arg2)) (m ((c : Thread nD τ).loc main_arg8)) := rfl

end Cert.Reference3Ideal.Ref

end
-- ==== Proof.AttPre.lean ====
module

public import proofs.«01_k».proof.Proof.AttPure
public import proofs.«01_k».proof.Proof.Gen.Pre_finite_queries_and_keys
public import Idealize.ShloMosaic.Lib.Pointwise

@[expose] public section

noncomputable section

namespace Cert.SoftPure

open Idealize.ShloMosaic

theorem and_one (a b : BitVec 1) : IntOp.andi a b = 1#1 → a = 1#1 ∧ b = 1#1 := by revert a b; decide

/-- A conjunction along a list is one only if every member is. -/
theorem foldl_one {ι : Type} (x : ι → BitVec 1) (l : List ι) : ∀ a, l.foldl (fun r n => IntOp.andi r (x n)) a = 1#1 → a = 1#1 ∧ ∀ n ∈ l, x n = 1#1 := by
  induction l with
  | nil => intro a h; exact ⟨h, by simp⟩
  | cons n l ih =>
    intro a h
    obtain ⟨h1, h2⟩ := ih _ h
    obtain ⟨h3, h4⟩ := and_one _ _ h1
    refine ⟨h3, fun k hk => ?_⟩
    rcases List.mem_cons.mp hk with rfl | hk
    · exact h4
    · exact h2 k hk

/-- A conjunction over an array is one only if every element is. -/
theorem reduce_one {s t u : Shape} {axes : List (Fin s.rank)} (x : s.Idx → BitVec 1) (init : u.Idx → BitVec 1) (h : s.ReducesTo axes t) (hu : 0 < u.numel)
    (j : t.Idx) (ht : ∀ z : t.Idx, z = j) (hr : Host.reduce IntOp.andi x init h hu j = 1#1) (i : s.Idx) : x i = 1#1 := by
  have := (foldl_one (fun n => x (s.rowMajor.symm n)) _ _ hr).2 (s.rowMajor i) (by
    rw [List.mem_filter]; exact ⟨List.mem_finRange _, by simpa using ht _⟩)
  simpa using this

/-- An ideal number whose size is below infinity is real. -/
theorem re_of_abs_lt (x : EReal) (h : Ideal.cmp .olt (max x (-x)) ⊤ = 1#1) : Re x := by
  have hlt : max x (-x) < ⊤ := by
    by_contra hn
    have : Ideal.cmp .olt (max x (-x)) ⊤ = 0#1 := by simp [Ideal.cmp, hn]
    rw [this] at h; exact absurd h (by decide)
  induction x using EReal.rec with
  | bot => simp at hlt
  | top => simp at hlt
  | coe r => exact Re.coe r

end Cert.SoftPure

namespace Cert.Pre_finite_queries_and_keys.Open

open Idealize.ShloMosaic Cert.SoftPure Cert.Pre_finite_queries_and_keys Cert.Pre_finite_queries_and_keys.Gen

theorem inf_eq : Ideal.ofBits .f32 0x7F800000#32 = ⊤ := by simp [Ideal.ofBits, Ideal.ieee]

/-- Under the precondition the queries and the keys are real. -/
theorem re (q : FVec Ideal S16x4096x8x64 .f32) (k v : FVec Ideal S16x4096x2x64 .f32) (g : FVec Ideal S65536x512 .f32) (h : fn (F := Ideal) q k v g = fun _ => 1#1) :
    (∀ y, Re (q y)) ∧ (∀ y, Re (k y)) := by
  have h0 := congrFun h (fun a => a.elim0)
  obtain ⟨h1, h2⟩ := and_one _ _ h0
  have hs : ∀ z : S_.Idx, z = fun a => a.elim0 := fun z => funext fun a => a.elim0
  constructor
  · intro y
    have := reduce_one _ _ _ _ _ hs h1 y
    exact re_of_abs_lt _ (inf_eq ▸ this)
  · intro y
    have := reduce_one _ _ _ _ _ hs h2 y
    exact re_of_abs_lt _ (inf_eq ▸ this)

end Cert.Pre_finite_queries_and_keys.Open

end
-- ==== Proof.InGate.lean ====
module

public import proofs.«01_k».proof.Proof.InPure
public import proofs.«01_k».proof.Proof.AttPre
public import proofs.«01_k».proof.Proof.Gen.Pre_finite_gain_and_weights
public import Mathlib.Analysis.SpecialFunctions.Trigonometric.DerivHyp

@[expose] public section

noncomputable section

namespace Cert.InPure

open Idealize.ShloMosaic Cert.RowPure Cert.SoftPure

theorem bits_half : Ideal.ofBits .f32 0x3F000000#32 = ((1 / 2 : ℝ) : EReal) := by
  simp [Ideal.ofBits, Ideal.ieee]
  rw [← EReal.coe_mul]
  norm_num

theorem bits_one : Ideal.ofBits .f32 0x3F800000#32 = ((1 : ℝ) : EReal) := by
  simp [Ideal.ofBits, Ideal.ieee]
  rw [← EReal.coe_mul]
  norm_num

theorem bits_width : Ideal.ofBits .f32 0x44800000#32 = ((1024 : ℝ) : EReal) := by
  simp [Ideal.ofBits, Ideal.ieee]
  rw [← EReal.coe_mul]
  norm_num

theorem bits_eps : ∃ e : ℝ, 0 < e ∧ Ideal.ofBits .f32 0x358637BD#32 = ((e : ℝ) : EReal) := by
  simp [Ideal.ofBits, Ideal.ieee]
  exact ⟨_, by positivity, rfl⟩

/-- Half of a number plus that half times its hyperbolic tangent is the number over one plus the exponential of its negative. -/
theorem half_tanh (r : ℝ) : 1 / 2 * r + 1 / 2 * r * Real.tanh (1 / 2 * r) = r * (1 / (1 + Real.exp (-r))) := by
  have hp : Real.exp (1 / 2 * r) ≠ 0 := Real.exp_ne_zero _
  have e1 : Real.exp (-(1 / 2 * r)) = (Real.exp (1 / 2 * r))⁻¹ := Real.exp_neg _
  have e2 : Real.exp (-r) = (Real.exp (1 / 2 * r))⁻¹ * (Real.exp (1 / 2 * r))⁻¹ := by
    rw [← Real.exp_neg, ← Real.exp_add]; congr 1; ring
  have hq : 0 < Real.exp (1 / 2 * r) := Real.exp_pos _
  rw [Real.tanh_eq_sinh_div_cosh, Real.sinh_eq, Real.cosh_eq, e1, e2]
  have h3 : Real.exp (1 / 2 * r) * Real.exp (1 / 2 * r) + 1 ≠ 0 := by positivity
  field_simp
  ring

/-- Of a real number both gates are the same. -/
theorem gate_same {t : EReal} (h : Re t) : gateT t = gateE t := by
  obtain ⟨r, rfl⟩ := h
  have hq : (1 : ℝ) + Real.exp (-r) ≠ 0 := by positivity
  rw [gateT, gateE, bits_half, bits_one, ← EReal.coe_mul, Ideal.tanh_coe, ← EReal.coe_mul, ← EReal.coe_add, ← EReal.coe_neg, Ideal.exp_coe, ← EReal.coe_add,
    Ideal.div_coe hq, ← EReal.coe_mul, ← EReal.coe_mul, half_tanh, one_mul]

theorem square_nonneg (x : EReal) : 0 ≤ x * x := by
  induction x using EReal.rec with
  | bot => simp
  | top => simp
  | coe r => rw [← EReal.coe_mul]; exact EReal.coe_nonneg.mpr (mul_self_nonneg r)

/-- A row with an infinite entry has an infinite sum of squares. -/
theorem squares_top (x : Fin 1024 → EReal) (k : Fin 1024) (h : x k * x k = ⊤) : ∑ j, x j * x j = ⊤ := by
  rw [← Finset.add_sum_erase _ _ (Finset.mem_univ k), h]
  refine EReal.top_add_of_ne_bot (ne_of_gt (lt_of_lt_of_le ?_ (Finset.sum_nonneg fun j _ => square_nonneg (x j))))
  exact EReal.bot_lt_zero

/-- A normed row is real whenever its gains are. -/
theorem hrow_re (x g : Fin 1024 → EReal) (hg : ∀ k, Re (g k)) (k : Fin 1024) : Re (hrow x g k) := by
  obtain ⟨e, he, hb⟩ := bits_eps
  by_cases hx : ∀ j, Re (x j)
  · obtain ⟨S, hS⟩ := Re.sum Finset.univ (fun j => x j * x j) fun j _ => (hx j).mul (hx j)
    have h0 : 0 ≤ S := by
      rw [← EReal.coe_nonneg, ← hS]; exact Finset.sum_nonneg fun j _ => square_nonneg (x j)
    have hn : Re (nrm x) := by
      rw [nrm, hS, bits_width, hb, Ideal.div_coe (by norm_num), ← EReal.coe_mul, ← EReal.coe_add, Ideal.rsqrt_coe]
      have hp : 0 < S * (1 / 1024) + e := by positivity
      rw [if_neg (not_lt.mpr hp.le), if_neg hp.ne']
      exact Re.coe _
    exact ((hx k).mul hn).mul (hg k)
  · obtain ⟨j, hj⟩ := not_forall.mp hx
    have hq : x j * x j = ⊤ := by
      revert hj
      induction x j using EReal.rec with
      | bot => intro _; simp
      | top => intro _; simp
      | coe r => intro h; exact absurd (Re.coe r) h
    have hn : nrm x = 0 := by
      rw [nrm, squares_top x j hq, bits_width, hb, Ideal.div_coe (by norm_num), EReal.top_mul_coe_of_pos (by norm_num), EReal.top_add_coe, Ideal.rsqrt_top]
    rw [hrow, hn, mul_zero, zero_mul]
    exact Re.zero

/-- A real row times a real column is real. -/
theorem prj_re (h W : Fin 1024 → EReal) (hh : ∀ k, Re (h k)) (hW : ∀ k, Re (W k)) : Re (prj h W) :=
  Re.sum Finset.univ (fun k => h k * W k) fun k _ => (hh k).mul (hW k)

end Cert.InPure

namespace Cert.Pre_finite_gain_and_weights.Open

open Idealize.ShloMosaic Cert.SoftPure Cert.Pre_finite_gain_and_weights Cert.Pre_finite_gain_and_weights.Gen

/-- Under the precondition the projection's weights and the gains are real. -/
theorem re (x : FVec Ideal S16x4096x1024 .f32) (w : FVec Ideal S1024x2816 .f32) (g : FVec Ideal S1024 .f32) (a b : FVec Ideal S512 .f32) (sw : FVec Ideal S8x128x128 .f32)
    (sb : FVec Ideal S8x128 .f32) (qg kg : FVec Ideal S64 .f32) (h : fn (F := Ideal) x w g a b sw sb qg kg = fun _ => 1#1) : (∀ y, Re (w y)) ∧ (∀ y, Re (g y)) := by
  have hs : ∀ z : S_.Idx, z = fun a => a.elim0 := fun z => funext fun a => a.elim0
  obtain ⟨hw, hg⟩ := and_one _ _ (congrFun h (fun a => a.elim0))
  have hi := Cert.Pre_finite_queries_and_keys.Open.inf_eq
  exact ⟨fun y => re_of_abs_lt _ (hi ▸ reduce_one _ _ _ _ _ hs hw y), fun y => re_of_abs_lt _ (hi ▸ reduce_one _ _ _ _ _ hs hg y)⟩

end Cert.Pre_finite_gain_and_weights.Open

end
-- ==== Proof.InTie.lean ====
module

public import proofs.«01_k».proof.Proof.InHost
public import proofs.«01_k».proof.Proof.InRef
public import proofs.«01_k».proof.Proof.InGate

@[expose] public section

set_option maxRecDepth 16384

noncomputable section

namespace Cert.Kernel3Ideal.In

open Idealize.ShloMosaic Idealize.ShloMosaic.TcCoe Idealize.SL.Sem
open Cert.Kernel3Ideal Cert.Kernel3Ideal.Gen Cert.RowPure Cert.InPure Cert.SoftPure
open Cert.Reference3Ideal.Ref (row resY resG resK resY_at resG_at resK_at)

variable (m : (ℓ : Loc nD τ sig) → Buf (Elt Ideal) ℓ) (c : Dev nD)

/-- A normed row of the kernel is the reference's at the row's batch and position. -/
theorem arrH_eq (R : Fin 65536) (B : Fin 16) (n : Fin 4096) (hB : B.val = R.val / 4096) (hn : n.val = R.val % 4096) : arrH m c R = row (x0 m c) (g0 m c) B n := by
  have eB : (⟨R.val / 4096, by omega⟩ : Fin 16) = B := Fin.ext hB.symm
  have en : (⟨R.val % 4096, by omega⟩ : Fin 4096) = n := Fin.ext hn.symm
  rw [← eB, ← en]
  exact funext fun k => congrArg₂ (fun x g => hrow x g k) (funext fun k => v28_at m c R k) (funext fun k => v58_at m c k)

/-- The rows are real when the gains are. -/
theorem row_re (hg : ∀ y, Re (g0 m c y)) (B : Fin 16) (n : Fin 4096) (k : Fin 1024) : Re (row (x0 m c) (g0 m c) B n k) :=
  hrow_re _ _ (fun k => hg (ix1 k)) k

/-- On the projection's columns the two gates agree. -/
theorem gates (hw : ∀ y, Re (w0 m c y)) (hg : ∀ y, Re (g0 m c y)) (B : Fin 16) (n : Fin 4096) (j : Fin 2816) :
    gateT (prj (row (x0 m c) (g0 m c) B n) (fun k => w0 m c (ix2 k j))) = gateE (prj (row (x0 m c) (g0 m c) B n) (fun k => w0 m c (ix2 k j))) :=
  gate_same (prj_re _ _ (row_re m c hg B n) fun k => hw (ix2 k j))

/-- The array of gates the kernel leaves is the reference's. -/
theorem GG_eq (hw : ∀ y, Re (w0 m c y)) (hg : ∀ y, Re (g0 m c y)) : GG m c = resG (x0 m c) (w0 m c) (g0 m c) := by
  funext i
  obtain ⟨R, e, rfl⟩ : ∃ (R : Fin 65536) (e : Fin 512), i = ix2 R e := ⟨i 0, i 1, eq_ix2 i⟩
  refine Eq.trans ?_ (resG_at (x0 m c) (w0 m c) (g0 m c) R e).symm
  refine Eq.trans ?_ (gates m c hw hg _ _ _)
  show arrG m c R e = _
  exact congrArg gateT (congrArg₂ prj (arrH_eq m c R _ _ rfl rfl) (funext fun k => v59_high m c k e))

/-- The array of the gated mixer the kernel leaves is the reference's. -/
theorem GY_eq (hw : ∀ y, Re (w0 m c y)) (hg : ∀ y, Re (g0 m c y)) :
    GY m c = resY (x0 m c) (w0 m c) (g0 m c) (ag0 m c) (ab0 m c) (sw0 m c) (sb0 m c) := by
  funext i
  obtain ⟨R, e, rfl⟩ : ∃ (R : Fin 65536) (e : Fin 512), i = ix2 R e := ⟨i 0, i 1, eq_ix2 i⟩
  refine Eq.trans ?_ (resY_at (x0 m c) (w0 m c) (g0 m c) (ag0 m c) (ab0 m c) (sw0 m c) (sb0 m c) R e).symm
  show arrY m c R e = _
  have q : (⟨R.val % 4096 % 128, by omega⟩ : Fin 128) = ⟨R.val % 128, by omega⟩ := Fin.ext (by show R.val % 4096 % 128 = R.val % 128; omega)
  rw [← gates m c hw hg, q]
  unfold arrY
  refine congrArg₂ (fun a b : EReal => a * b) (mixed_congr e ?_ (fun j e => ?_) (fun e => v61_at m c e) (fun e => v62_at m c e) (fun j => ?_) (v64_at m c _ e)) ?_
  · exact congrArg₂ prj (arrH_eq m c R _ _ rfl rfl) (funext fun k => v59_low m c k (⟨e.val, by omega⟩ : Fin 1536))
  · exact congrArg₂ prj (arrH_eq m c _ _ _ (by show R.val / 4096 = (128 * (R.val / 128) + j.val) / 4096; omega) (by show R.val % 4096 / 128 * 128 + j.val = (128 * (R.val / 128) + j.val) % 4096; omega))
      (funext fun k => v59_low m c k (⟨512 + e.val, by omega⟩ : Fin 1536))
  · refine (v63_at m c _ _ _).trans (congrArg (sw0 m c) ?_)
    have hg : (grp (⟨e.val % 128, by omega⟩ : Fin 128) j).val = e.val % 128 / 64 * 128 + j.val := by
      unfold grp
      split
      · show j.val = _; rename_i h; have h' : e.val % 128 < 64 := h; omega
      · show 128 + j.val = _; rename_i h; have h' : ¬ e.val % 128 < 64 := h; omega
    exact congrArg₂ (fun (a : Fin 8) (b : Fin 128) => ix3 a (⟨R.val % 128, by omega⟩ : Fin 128) b)
      (Fin.ext (by show 2 * (e.val / 128) + (grp (⟨e.val % 128, by omega⟩ : Fin 128) j).val / 128 = e.val / 64; rw [hg]; omega))
      (Fin.ext (by show (grp (⟨e.val % 128, by omega⟩ : Fin 128) j).val % 128 = j.val; rw [hg]; omega))
  · exact congrArg gateT (congrArg₂ prj (arrH_eq m c R _ _ rfl rfl) (funext fun k => v59_low m c k (⟨1024 + e.val, by omega⟩ : Fin 1536)))

/-- The array of the keys the kernel leaves is the reference's. -/
theorem GK_eq : GK m c = resK (x0 m c) (w0 m c) (g0 m c) (kg0 m c) := by
  funext i
  obtain ⟨R, e, rfl⟩ : ∃ (R : Fin 65536) (e : Fin 128), i = ix2 R e := ⟨i 0, i 1, eq_ix2 i⟩
  refine Eq.trans ?_ (resK_at (x0 m c) (w0 m c) (g0 m c) (kg0 m c) (fun o => V m c main_v26 (ix2 o (⟨R.val % 4096, by omega⟩ : Fin 4096))) (fun o => V m c main_v27 (ix2 o (⟨R.val % 4096, by omega⟩ : Fin 4096))) R e
    (fun o => v26_low m c o _) (fun o => v26_high m c o _) (fun o => v27_low m c o _) (fun o => v27_high m c o _)).symm
  show arrK m c R e = _
  unfold arrK
  exact turned_congr _ (fun d => congrArg₂ prj (arrH_eq m c R _ _ rfl rfl) (funext fun k => v60_at m c (⟨e.val / 64 * 64 + d.val, by omega⟩ : Fin 128) k)) (fun d => v66_at m c d _) (fun o => rfl) (fun o => rfl)

end Cert.Kernel3Ideal.In

end
-- ==== Proof.lean ====
module

public import proofs.«01_k».proof.Defs
public import proofs.«01_k».proof.Proof.Gen.Kernel.Frame
public import proofs.«01_k».proof.Proof.Gen.KernelIdeal.Frame
public import proofs.«01_k».proof.Proof.Gen.Pre_finite_queries_and_keys
public import proofs.«01_k».proof.Proof.Gen.ReferenceIdeal.Run
public import proofs.«01_k».proof.Proof.Gen.Kernel2.Frame
public import proofs.«01_k».proof.Proof.Gen.Kernel2Ideal.Frame
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Reference3Ideal.Run
public import proofs.«01_k».proof.Proof.Gen.Pre_finite_gain_and_weights
public import proofs.«01_k».proof.Proof.AttTie
public import proofs.«01_k».proof.Proof.OutTie
public import proofs.«01_k».proof.Proof.InTie
public import proofs.«01_k».proof.Proof.AttPre
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.SL.Sem

/-- The reference runs, changes no argument and leaves every semaphore at zero. -/
theorem reference_frame : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

open Cert.KernelIdeal.Att in
/-- From the same finite queries and keys, values and gate the kernel and the reference end with the same array. -/
theorem attention_value : algebraic_KernelIdeal_ReferenceIdeal_pre_finite_queries_and_keys := by
  intro m ρ m' ρ' hpre hagree
  have hre := fun c => Cert.Pre_finite_queries_and_keys.Open.re _ _ _ _ (hpre c)
  refine ⟨_, run_att m ρ (fun c => v7_re m c (hre c).1) (fun c => v9_re m c (hre c).2) (fun c => v14_one m c), ?_⟩
  refine (θ_run Cert.ReferenceIdeal.defs _ _).mono (fun _ h c => ⟨?_, (h c).2⟩) (Cert.ReferenceIdeal.Value.run (F := Ideal) m' ρ')
  rw [(h c).1]
  simp only [hagree c]
  exact (G_eq m c (hre c).1 (hre c).2).symm

/-- The reference of the output projection runs, changes no argument and leaves every semaphore at zero. -/
theorem reference2_frame : quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

open Cert.Kernel2Ideal.Out in
/-- From the same residual, mixers' outputs, weight and gain the output projection and its reference end with the same array. -/
theorem output_value : algebraic_Kernel2Ideal_Reference2Ideal := by
  intro m ρ m' ρ' _ hagree
  refine ⟨_, run_out m ρ, ?_⟩
  refine (θ_run Cert.Reference2Ideal.defs _ _).mono (fun _ h c => ⟨?_, (h c).2⟩) (Cert.Reference2Ideal.Value.run (F := Ideal) m' ρ')
  rw [(h c).1]
  rw [(hagree c).1, (hagree c).2.1, (hagree c).2.2.1, (hagree c).2.2.2.1, (hagree c).2.2.2.2, G_eq]
  rfl

/-- The reference of the input projection runs, changes no argument and leaves every semaphore at zero. -/
theorem reference3_frame : quiescent_Reference3Ideal := fun m ρ _ =>
  (θ_run Cert.Reference3Ideal.defs _ _).mono (fun r h => ⟨fun c => (h c).2.2.2, sem_eq_zero_of_no_sems (by decide) r.2⟩)
    (Cert.Reference3Ideal.Value.run (F := Ideal) m ρ)

open Cert.Kernel3Ideal.In Cert.Reference3Ideal.Ref in
/-- From the same residual, finite weight and gain and the same mixer's arrays the input projection and its reference end
    with the same gated mixer, the same gates and the same keys. -/
theorem input_value : algebraic_Kernel3Ideal_Reference3Ideal_pre_finite_gain_and_weights := by
  intro m ρ m' ρ' hpre hagree
  have hre := fun c => Cert.Pre_finite_gain_and_weights.Open.re _ _ _ _ _ _ _ _ _ (hpre c)
  refine ⟨_, _, _, run_in m ρ, ?_⟩
  refine (θ_run Cert.Reference3Ideal.defs _ _).mono (fun _ h c => ⟨(h c).1.trans ?_, (h c).2.1.trans ?_, (h c).2.2.1.trans ?_, (h c).2.2.2⟩) (Cert.Reference3Ideal.Value.run (F := Ideal) m' ρ')
  · refine (resY_eq m' c).trans ?_
    rw [(hagree c).1, (hagree c).2.1, (hagree c).2.2.1, (hagree c).2.2.2.1, (hagree c).2.2.2.2.1, (hagree c).2.2.2.2.2.1, (hagree c).2.2.2.2.2.2.1]
    exact (GY_eq m c (hre c).1 (hre c).2).symm
  · show resG (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) = _
    rw [(hagree c).1, (hagree c).2.1, (hagree c).2.2.1]
    exact (GG_eq m c (hre c).1 (hre c).2).symm
  · refine (resK_eq m' c).trans ?_
    rw [(hagree c).1, (hagree c).2.1, (hagree c).2.2.1, (hagree c).2.2.2.2.2.2.2.2]
    exact (GK_eq m c).symm

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts,
  Cert.Kernel3.Gen.facts, Cert.Kernel3Ideal.Gen.facts, Cert.Reference3Ideal.Gen.facts, Cert.Pre_finite_queries_and_keys.Gen.facts, Cert.Pre_finite_gain_and_weights.Gen.facts,
  fun m ρ _ => Cert.Kernel.Gen.frame m ρ, fun m ρ _ => Cert.KernelIdeal.Gen.frame m ρ, fun m ρ _ => Cert.KernelIdeal.Gen.frame m ρ,
  reference_frame, fun m ρ _ => reference_frame m ρ trivial, fun m ρ _ => Cert.Kernel2.Gen.frame m ρ, fun m ρ _ => Cert.Kernel2Ideal.Gen.frame m ρ, reference2_frame,
  fun m ρ _ => Cert.Kernel3.Gen.frame m ρ, fun m ρ _ => Cert.Kernel3Ideal.Gen.frame m ρ, fun m ρ _ => Cert.Kernel3Ideal.Gen.frame m ρ,
  reference3_frame, fun m ρ _ => reference3_frame m ρ trivial,
  (trivial : preserves_Kernel_KernelIdeal), attention_value, (trivial : preserves_Kernel2_Kernel2Ideal), output_value,
  (trivial : preserves_Kernel3_Kernel3Ideal), input_value⟩

end Cert.Proof

end
